-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v61) = v0 c
          ∧ r.2.mem ((c.tc : Thread Cert.Reference14Ideal.nD Cert.Reference14Ideal.τ).loc Cert.Reference14Ideal.main_v56) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v21) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Kernel.lean ====
abbrev S4096x1024 : Shape := ⟨2, ![4096, 1024]⟩
abbrev S4096x128 : Shape := ⟨2, ![4096, 128]⟩
abbrev S4096x8x128 : Shape := ⟨3, ![4096, 8, 128]⟩
abbrev S8x4096x128 : Shape := ⟨3, ![8, 4096, 128]⟩
abbrev S8x4096x256 : Shape := ⟨3, ![8, 4096, 256]⟩
abbrev S1x4096x128 : Shape := ⟨3, ![1, 4096, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S256x256 : Shape := ⟨2, ![256, 256]⟩
abbrev S4096x256 : Shape := ⟨2, ![4096, 256]⟩
abbrev S256x128 : Shape := ⟨2, ![256, 128]⟩
abbrev S256x1 : Shape := ⟨2, ![256, 1]⟩
abbrev S256 : Shape := ⟨1, ![256]⟩

abbrev nBuf : Space → Nat
  | .hbm => 59
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x128, .bf16⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x128, .f32⟩
  | .hbm, ⟨10, _⟩ => ⟨S4096x1024, .f32⟩
  | .hbm, ⟨11, _⟩ => ⟨S4096x8x128, .f32⟩
  | .hbm, ⟨12, _⟩ => ⟨S8x4096x128, .f32⟩
  | .hbm, ⟨13, _⟩ => ⟨S4096x8x128, .f32⟩
  | .hbm, ⟨14, _⟩ => ⟨S8x4096x128, .f32⟩
  | .hbm, ⟨15, _⟩ => ⟨S8x4096x256, .f32⟩
  | .hbm, ⟨16, _⟩ => ⟨S4096x8x128, .f32⟩
  | .hbm, ⟨17, _⟩ => ⟨S8x4096x128, .f32⟩
  | .hbm, ⟨18, _⟩ => ⟨S1x4096x128, .f32⟩
  | .hbm, ⟨19, _⟩ => ⟨S8x4096x128, .f32⟩
  | .hbm, ⟨20, _⟩ => ⟨S8x4096x256, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S8x4096x4096, .f32⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S4096x8x128, .f32⟩
  | .hbm, ⟨45, _⟩ => ⟨S8x4096x128, .f32⟩
  | .hbm, ⟨46, _⟩ => ⟨S8x4096x128, .f32⟩
  | .hbm, ⟨47, _⟩ => ⟨S4096x8x128, .f32⟩
  | .hbm, ⟨48, _⟩ => ⟨S4096x1024, .f32⟩
  | .hbm, ⟨49, _⟩ => ⟨S8x4096x1, .f32⟩
  | .hbm, ⟨50, _⟩ => ⟨S8x4096x1, .f32⟩
  | .hbm, ⟨51, _⟩ => ⟨S8x4096x128, .f32⟩
  | .hbm, ⟨52, _⟩ => ⟨S4096x8x128, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x128, .f32⟩
  | .hbm, ⟨58, _⟩ => ⟨S4096x1024, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S4096x256, .bf16⟩
  | .local _ .vmem, ⟨5, _⟩ => ⟨S4096x256, .bf16⟩
  | .local _ .vmem, ⟨6, _⟩ => ⟨S4096x128, .bf16⟩
  | .local _ .vmem, ⟨7, _⟩ => ⟨S4096x256, .bf16⟩
  | .local _ .vmem, ⟨8, _⟩ => ⟨S4096x256, .bf16⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S4096x256, .f32⟩
  | .local _ .vmem, ⟨20, _⟩ => ⟨S4096x256, .f32⟩
  | .local _ .vmem, ⟨21, _⟩ => ⟨S4096x128, .f32⟩
  | .local _ .vmem, ⟨22, _⟩ => ⟨S4096x256, .f32⟩
  | .local _ .vmem, ⟨23, _⟩ => ⟨S4096x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v42_3 : Ref sig .tc := ⟨.hbm, 57, rfl⟩
abbrev main_v42_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_29 : BitVec 32 := 0#32
  let arg1 : BitVec 32 := BitVec.ofNat 32 (i 1).val
  let c0_i32_28 : BitVec 32 := 0#32
  let v36 : BitVec 32 := Scalar.subi arg1 c0_i32_28
  let c2_i32 : BitVec 32 := 2#32
  let v37 : BitVec 32 := Scalar.shrui v36 c2_i32
  let v38 : BitVec 32 := Scalar.subi v37 c0_i32_29
  let c1_i32 : BitVec 32 := 1#32
  let v40 : BitVec 32 := Scalar.divsi v38 c1_i32
  let v41 : BitVec 32 := Scalar.muli v40 c1_i32
  let v42 : BitVec 32 := Scalar.addi c0_i32_29 v41
  let c1_i32_30 : BitVec 32 := 1#32
  ⟨c0_i32_29, v42, c1_i32_30⟩
def k0_mult1 (i : grid0.Coords) (k0_t1 : Fin (k0_t1_loop i).trips) : BitVec 32 :=
  let c0_i32_107 : BitVec 32 := 0#32
  let c4_i32 : BitVec 32 := 4#32
  let c0_i32_29 : BitVec 32 := 0#32
  let c1_i32_30 : BitVec 32 := 1#32
  let arg15 : BitVec 32 := Scf.iv c0_i32_29 c1_i32_30 k0_t1
  let v187 : BitVec 32 := Scalar.muli c4_i32 arg15
  let v188 : BitVec 32 := Scalar.addi c0_i32_107 v187
  let c0_i32_108 : BitVec 32 := 0#32
  let v189 : BitVec 32 := Scalar.addi v188 c0_i32_108
  let c256_i32_109 : BitVec 32 := 256#32
  let v190 : BitVec 32 := Scalar.muli v189 c256_i32_109
  v190
def k0_off1 (i : grid0.Coords) (k0_t1 : Fin (k0_t1_loop i).trips) (c0_i32_108 : BitVec 32) : Fin 2 → Nat :=
  let c0_i32_107 : BitVec 32 := 0#32
  let c4_i32 : BitVec 32 := 4#32
  let c0_i32_29 : BitVec 32 := 0#32
  let c1_i32_30 : BitVec 32 := 1#32
  let arg15 : BitVec 32 := Scf.iv c0_i32_29 c1_i32_30 k0_t1
  let v187 : BitVec 32 := Scalar.muli c4_i32 arg15
  let v188 : BitVec 32 := Scalar.addi c0_i32_107 v187
  let v189 : BitVec 32 := Scalar.addi v188 c0_i32_108
  let c256_i32_109 : BitVec 32 := 256#32
  let v190 : BitVec 32 := Scalar.muli v189 c256_i32_109
  let v191 : BitVec 32 := v190
  let v193 : Index := Scalar.indexCast v191
  let c0_112 : Index := 0#32
  ![v193.toNat, 0]
def k0_mult2 (i : grid0.Coords) (k0_t1 : Fin (k0_t1_loop i).trips) : BitVec 32 :=
  let c0_i32_107 : BitVec 32 := 0#32
  let c4_i32 : BitVec 32 := 4#32
  let c0_i32_29 : BitVec 32 := 0#32
  let c1_i32_30 : BitVec 32 := 1#32
  let arg15 : BitVec 32 := Scf.iv c0_i32_29 c1_i32_30 k0_t1
  let v187 : BitVec 32 := Scalar.muli c4_i32 arg15
  let v188 : BitVec 32 := Scalar.addi c0_i32_107 v187
  let c0_i32_108 : BitVec 32 := 0#32
  let v189 : BitVec 32 := Scalar.addi v188 c0_i32_108
  let c256_i32_136 : BitVec 32 := 256#32
  let v242 : BitVec 32 := Scalar.muli v189 c256_i32_136
  v242
def k0_mult3 (i : grid0.Coords) (k0_t1 : Fin (k0_t1_loop i).trips) : BitVec 32 :=
  let c0_i32_164 : BitVec 32 := 0#32
  let c4_i32_163 : BitVec 32 := 4#32
  let c0_i32_29 : BitVec 32 := 0#32
  let c1_i32_30 : BitVec 32 := 1#32
  let arg15 : BitVec 32 := Scf.iv c0_i32_29 c1_i32_30 k0_t1
  let v294 : BitVec 32 := Scalar.muli c4_i32_163 arg15
  let v295 : BitVec 32 := Scalar.addi c0_i32_164 v294
  let c1_i32_165 : BitVec 32 := 1#32
  let v296 : BitVec 32 := Scalar.addi v295 c1_i32_165
  let c256_i32_166 : BitVec 32 := 256#32
  let v297 : BitVec 32 := Scalar.muli v296 c256_i32_166
  v297
def k0_mult4 (i : grid0.Coords) (k0_t1 : Fin (k0_t1_loop i).trips) : BitVec 32 :=
  let c0_i32_164 : BitVec 32 := 0#32
  let c4_i32_163 : BitVec 32 := 4#32
  let c0_i32_29 : BitVec 32 := 0#32
  let c1_i32_30 : BitVec 32 := 1#32
  let arg15 : BitVec 32 := Scf.iv c0_i32_29 c1_i32_30 k0_t1
  let v294 : BitVec 32 := Scalar.muli c4_i32_163 arg15
  let v295 : BitVec 32 := Scalar.addi c0_i32_164 v294
  let c1_i32_165 : BitVec 32 := 1#32
  let v296 : BitVec 32 := Scalar.addi v295 c1_i32_165
  let c256_i32_193 : BitVec 32 := 256#32
  let v349 : BitVec 32 := Scalar.muli v296 c256_i32_193
  v349
def k0_mult5 (i : grid0.Coords) (k0_t1 : Fin (k0_t1_loop i).trips) : BitVec 32 :=
  let c0_i32_221 : BitVec 32 := 0#32
  let c4_i32_220 : BitVec 32 := 4#32
  let c0_i32_29 : BitVec 32 := 0#32
  let c1_i32_30 : BitVec 32 := 1#32
  let arg15 : BitVec 32 := Scf.iv c0_i32_29 c1_i32_30 k0_t1
  let v401 : BitVec 32 := Scalar.muli c4_i32_220 arg15
  let v402 : BitVec 32 := Scalar.addi c0_i32_221 v401
  let c2_i32_222 : BitVec 32 := 2#32
  let v403 : BitVec 32 := Scalar.addi v402 c2_i32_222
  let c256_i32_223 : BitVec 32 := 256#32
  let v404 : BitVec 32 := Scalar.muli v403 c256_i32_223
  v404
def k0_mult6 (i : grid0.Coords) (k0_t1 : Fin (k0_t1_loop i).trips) : BitVec 32 :=
  let c0_i32_221 : BitVec 32 := 0#32
  let c4_i32_220 : BitVec 32 := 4#32
  let c0_i32_29 : BitVec 32 := 0#32
  let c1_i32_30 : BitVec 32 := 1#32
  let arg15 : BitVec 32 := Scf.iv c0_i32_29 c1_i32_30 k0_t1
  let v401 : BitVec 32 := Scalar.muli c4_i32_220 arg15
  let v402 : BitVec 32 := Scalar.addi c0_i32_221 v401
  let c2_i32_222 : BitVec 32 := 2#32
  let v403 : BitVec 32 := Scalar.addi v402 c2_i32_222
  let c256_i32_250 : BitVec 32 := 256#32
  let v456 : BitVec 32 := Scalar.muli v403 c256_i32_250
  v456
def k0_mult7 (i : grid0.Coords) (k0_t1 : Fin (k0_t1_loop i).trips) : BitVec 32 :=
  let c0_i32_278 : BitVec 32 := 0#32
  let c4_i32_277 : BitVec 32 := 4#32
  let c0_i32_29 : BitVec 32 := 0#32
  let c1_i32_30 : BitVec 32 := 1#32
  let arg15 : BitVec 32 := Scf.iv c0_i32_29 c1_i32_30 k0_t1
  let v508 : BitVec 32 := Scalar.muli c4_i32_277 arg15
  let v509 : BitVec 32 := Scalar.addi c0_i32_278 v508
  let c3_i32_279 : BitVec 32 := 3#32
  let v510 : BitVec 32 := Scalar.addi v509 c3_i32_279
  let c256_i32_280 : BitVec 32 := 256#32
  let v511 : BitVec 32 := Scalar.muli v510 c256_i32_280
  v511
def k0_mult8 (i : grid0.Coords) (k0_t1 : Fin (k0_t1_loop i).trips) : BitVec 32 :=
  let c0_i32_278 : BitVec 32 := 0#32
  let c4_i32_277 : BitVec 32 := 4#32
  let c0_i32_29 : BitVec 32 := 0#32
  let c1_i32_30 : BitVec 32 := 1#32
  let arg15 : BitVec 32 := Scf.iv c0_i32_29 c1_i32_30 k0_t1
  let v508 : BitVec 32 := Scalar.muli c4_i32_277 arg15
  let v509 : BitVec 32 := Scalar.addi c0_i32_278 v508
  let c3_i32_279 : BitVec 32 := 3#32
  let v510 : BitVec 32 := Scalar.addi v509 c3_i32_279
  let c256_i32_307 : BitVec 32 := 256#32
  let v563 : BitVec 32 := Scalar.muli v510 c256_i32_307
  v563
@[reducible] def k0_t2_loop (i : grid0.Coords) : Scf.Loop 32 :=
  let c0_i32_29 : BitVec 32 := 0#32
  let arg1 : BitVec 32 := BitVec.ofNat 32 (i 1).val
  let c0_i32_28 : BitVec 32 := 0#32
  let v36 : BitVec 32 := Scalar.subi arg1 c0_i32_28
  let c2_i32 : BitVec 32 := 2#32
  let v37 : BitVec 32 := Scalar.shrui v36 c2_i32
  let v38 : BitVec 32 := Scalar.subi v37 c0_i32_29
  let c1_i32 : BitVec 32 := 1#32
  let v40 : BitVec 32 := Scalar.divsi v38 c1_i32
  let v41 : BitVec 32 := Scalar.muli v40 c1_i32
  let v42 : BitVec 32 := Scalar.addi c0_i32_29 v41
  let v39 : BitVec 32 := Scalar.addi c0_i32_29 v38
  let c1_i32_31 : BitVec 32 := 1#32
  ⟨v42, v39, c1_i32_31⟩
def k0_mult9 (i : grid0.Coords) (k0_t2 : Fin (k0_t2_loop i).trips) : BitVec 32 :=
  let c0_i32_107 : BitVec 32 := 0#32
  let c4_i32 : BitVec 32 := 4#32
  let c0_i32_29 : BitVec 32 := 0#32
  let arg1 : BitVec 32 := BitVec.ofNat 32 (i 1).val
  let c0_i32_28 : BitVec 32 := 0#32
  let v36 : BitVec 32 := Scalar.subi arg1 c0_i32_28
  let c2_i32 : BitVec 32 := 2#32
  let v37 : BitVec 32 := Scalar.shrui v36 c2_i32
  let v38 : BitVec 32 := Scalar.subi v37 c0_i32_29
  let c1_i32 : BitVec 32 := 1#32
  let v40 : BitVec 32 := Scalar.divsi v38 c1_i32
  let v41 : BitVec 32 := Scalar.muli v40 c1_i32
  let v42 : BitVec 32 := Scalar.addi c0_i32_29 v41
  let c1_i32_31 : BitVec 32 := 1#32
  let arg15 : BitVec 32 := Scf.iv v42 c1_i32_31 k0_t2
  let v187 : BitVec 32 := Scalar.muli c4_i32 arg15
  let v188 : BitVec 32 := Scalar.addi c0_i32_107 v187
  let c0_i32_108 : BitVec 32 := 0#32
  let v189 : BitVec 32 := Scalar.addi v188 c0_i32_108
  let c256_i32_109 : BitVec 32 := 256#32
  let v190 : BitVec 32 := Scalar.muli v189 c256_i32_109
  v190
def k0_off2 (i : grid0.Coords) (k0_t2 : Fin (k0_t2_loop i).trips) (c0_i32_108 : BitVec 32) : Fin 2 → Nat :=
  let c0_i32_107 : BitVec 32 := 0#32
  let c4_i32 : BitVec 32 := 4#32
  let c0_i32_29 : BitVec 32 := 0#32
  let arg1 : BitVec 32 := BitVec.ofNat 32 (i 1).val
  let c0_i32_28 : BitVec 32 := 0#32
  let v36 : BitVec 32 := Scalar.subi arg1 c0_i32_28
  let c2_i32 : BitVec 32 := 2#32
  let v37 : BitVec 32 := Scalar.shrui v36 c2_i32
  let v38 : BitVec 32 := Scalar.subi v37 c0_i32_29
  let c1_i32 : BitVec 32 := 1#32
  let v40 : BitVec 32 := Scalar.divsi v38 c1_i32
  let v41 : BitVec 32 := Scalar.muli v40 c1_i32
  let v42 : BitVec 32 := Scalar.addi c0_i32_29 v41
  let c1_i32_31 : BitVec 32 := 1#32
  let arg15 : BitVec 32 := Scf.iv v42 c1_i32_31 k0_t2
  let v187 : BitVec 32 := Scalar.muli c4_i32 arg15
  let v188 : BitVec 32 := Scalar.addi c0_i32_107 v187
  let v189 : BitVec 32 := Scalar.addi v188 c0_i32_108
  let c256_i32_109 : BitVec 32 := 256#32
  let v190 : BitVec 32 := Scalar.muli v189 c256_i32_109
  let v191 : BitVec 32 := v190
  let v193 : Index := Scalar.indexCast v191
  let c0_112 : Index := 0#32
  ![v193.toNat, 0]
def k0_mult10 (i : grid0.Coords) (k0_t2 : Fin (k0_t2_loop i).trips) : BitVec 32 :=
  let c0_i32_107 : BitVec 32 := 0#32
  let c4_i32 : BitVec 32 := 4#32
  let c0_i32_29 : BitVec 32 := 0#32
  let arg1 : BitVec 32 := BitVec.ofNat 32 (i 1).val
  let c0_i32_28 : BitVec 32 := 0#32
  let v36 : BitVec 32 := Scalar.subi arg1 c0_i32_28
  let c2_i32 : BitVec 32 := 2#32
  let v37 : BitVec 32 := Scalar.shrui v36 c2_i32
  let v38 : BitVec 32 := Scalar.subi v37 c0_i32_29
  let c1_i32 : BitVec 32 := 1#32
  let v40 : BitVec 32 := Scalar.divsi v38 c1_i32
  let v41 : BitVec 32 := Scalar.muli v40 c1_i32
  let v42 : BitVec 32 := Scalar.addi c0_i32_29 v41
  let c1_i32_31 : BitVec 32 := 1#32
  let arg15 : BitVec 32 := Scf.iv v42 c1_i32_31 k0_t2
  let v187 : BitVec 32 := Scalar.muli c4_i32 arg15
  let v188 : BitVec 32 := Scalar.addi c0_i32_107 v187
  let c0_i32_108 : BitVec 32 := 0#32
  let v189 : BitVec 32 := Scalar.addi v188 c0_i32_108
  let c256_i32_136 : BitVec 32 := 256#32
  let v242 : BitVec 32 := Scalar.muli v189 c256_i32_136
  v242
def k0_mult11 (i : grid0.Coords) (k0_t2 : Fin (k0_t2_loop i).trips) : BitVec 32 :=
  let c0_i32_164 : BitVec 32 := 0#32
  let c4_i32_163 : BitVec 32 := 4#32
  let c0_i32_29 : BitVec 32 := 0#32
  let arg1 : BitVec 32 := BitVec.ofNat 32 (i 1).val
  let c0_i32_28 : BitVec 32 := 0#32
  let v36 : BitVec 32 := Scalar.subi arg1 c0_i32_28
  let c2_i32 : BitVec 32 := 2#32
  let v37 : BitVec 32 := Scalar.shrui v36 c2_i32
  let v38 : BitVec 32 := Scalar.subi v37 c0_i32_29
  let c1_i32 : BitVec 32 := 1#32
  let v40 : BitVec 32 := Scalar.divsi v38 c1_i32
  let v41 : BitVec 32 := Scalar.muli v40 c1_i32
  let v42 : BitVec 32 := Scalar.addi c0_i32_29 v41
  let c1_i32_31 : BitVec 32 := 1#32
  let arg15 : BitVec 32 := Scf.iv v42 c1_i32_31 k0_t2
  let v294 : BitVec 32 := Scalar.muli c4_i32_163 arg15
  let v295 : BitVec 32 := Scalar.addi c0_i32_164 v294
  let c1_i32_165 : BitVec 32 := 1#32
  let v296 : BitVec 32 := Scalar.addi v295 c1_i32_165
  let c256_i32_166 : BitVec 32 := 256#32
  let v297 : BitVec 32 := Scalar.muli v296 c256_i32_166
  v297
def k0_mult12 (i : grid0.Coords) (k0_t2 : Fin (k0_t2_loop i).trips) : BitVec 32 :=
  let c0_i32_164 : BitVec 32 := 0#32
  let c4_i32_163 : BitVec 32 := 4#32
  let c0_i32_29 : BitVec 32 := 0#32
  let arg1 : BitVec 32 := BitVec.ofNat 32 (i 1).val
  let c0_i32_28 : BitVec 32 := 0#32
  let v36 : BitVec 32 := Scalar.subi arg1 c0_i32_28
  let c2_i32 : BitVec 32 := 2#32
  let v37 : BitVec 32 := Scalar.shrui v36 c2_i32
  let v38 : BitVec 32 := Scalar.subi v37 c0_i32_29
  let c1_i32 : BitVec 32 := 1#32
  let v40 : BitVec 32 := Scalar.divsi v38 c1_i32
  let v41 : BitVec 32 := Scalar.muli v40 c1_i32
  let v42 : BitVec 32 := Scalar.addi c0_i32_29 v41
  let c1_i32_31 : BitVec 32 := 1#32
  let arg15 : BitVec 32 := Scf.iv v42 c1_i32_31 k0_t2
  let v294 : BitVec 32 := Scalar.muli c4_i32_163 arg15
  let v295 : BitVec 32 := Scalar.addi c0_i32_164 v294
  let c1_i32_165 : BitVec 32 := 1#32
  let v296 : BitVec 32 := Scalar.addi v295 c1_i32_165
  let c256_i32_193 : BitVec 32 := 256#32
  let v349 : BitVec 32 := Scalar.muli v296 c256_i32_193
  v349
def k0_mult13 (i : grid0.Coords) (k0_t2 : Fin (k0_t2_loop i).trips) : BitVec 32 :=
  let c0_i32_221 : BitVec 32 := 0#32
  let c4_i32_220 : BitVec 32 := 4#32
  let c0_i32_29 : BitVec 32 := 0#32
  let arg1 : BitVec 32 := BitVec.ofNat 32 (i 1).val
  let c0_i32_28 : BitVec 32 := 0#32
  let v36 : BitVec 32 := Scalar.subi arg1 c0_i32_28
  let c2_i32 : BitVec 32 := 2#32
  let v37 : BitVec 32 := Scalar.shrui v36 c2_i32
  let v38 : BitVec 32 := Scalar.subi v37 c0_i32_29
  let c1_i32 : BitVec 32 := 1#32
  let v40 : BitVec 32 := Scalar.divsi v38 c1_i32
  let v41 : BitVec 32 := Scalar.muli v40 c1_i32
  let v42 : BitVec 32 := Scalar.addi c0_i32_29 v41
  let c1_i32_31 : BitVec 32 := 1#32
  let arg15 : BitVec 32 := Scf.iv v42 c1_i32_31 k0_t2
  let v401 : BitVec 32 := Scalar.muli c4_i32_220 arg15
  let v402 : BitVec 32 := Scalar.addi c0_i32_221 v401
  let c2_i32_222 : BitVec 32 := 2#32
  let v403 : BitVec 32 := Scalar.addi v402 c2_i32_222
  let c256_i32_223 : BitVec 32 := 256#32
  let v404 : BitVec 32 := Scalar.muli v403 c256_i32_223
  v404
def k0_mult14 (i : grid0.Coords) (k0_t2 : Fin (k0_t2_loop i).trips) : BitVec 32 :=
  let c0_i32_221 : BitVec 32 := 0#32
  let c4_i32_220 : BitVec 32 := 4#32
  let c0_i32_29 : BitVec 32 := 0#32
  let arg1 : BitVec 32 := BitVec.ofNat 32 (i 1).val
  let c0_i32_28 : BitVec 32 := 0#32
  let v36 : BitVec 32 := Scalar.subi arg1 c0_i32_28
  let c2_i32 : BitVec 32 := 2#32
  let v37 : BitVec 32 := Scalar.shrui v36 c2_i32
  let v38 : BitVec 32 := Scalar.subi v37 c0_i32_29
  let c1_i32 : BitVec 32 := 1#32
  let v40 : BitVec 32 := Scalar.divsi v38 c1_i32
  let v41 : BitVec 32 := Scalar.muli v40 c1_i32
  let v42 : BitVec 32 := Scalar.addi c0_i32_29 v41
  let c1_i32_31 : BitVec 32 := 1#32
  let arg15 : BitVec 32 := Scf.iv v42 c1_i32_31 k0_t2
  let v401 : BitVec 32 := Scalar.muli c4_i32_220 arg15
  let v402 : BitVec 32 := Scalar.addi c0_i32_221 v401
  let c2_i32_222 : BitVec 32 := 2#32
  let v403 : BitVec 32 := Scalar.addi v402 c2_i32_222
  let c256_i32_250 : BitVec 32 := 256#32
  let v456 : BitVec 32 := Scalar.muli v403 c256_i32_250
  v456
def k0_mult15 (i : grid0.Coords) (k0_t2 : Fin (k0_t2_loop i).trips) : BitVec 32 :=
  let c0_i32_278 : BitVec 32 := 0#32
  let c4_i32_277 : BitVec 32 := 4#32
  let c0_i32_29 : BitVec 32 := 0#32
  let arg1 : BitVec 32 := BitVec.ofNat 32 (i 1).val
  let c0_i32_28 : BitVec 32 := 0#32
  let v36 : BitVec 32 := Scalar.subi arg1 c0_i32_28
  let c2_i32 : BitVec 32 := 2#32
  let v37 : BitVec 32 := Scalar.shrui v36 c2_i32
  let v38 : BitVec 32 := Scalar.subi v37 c0_i32_29
  let c1_i32 : BitVec 32 := 1#32
  let v40 : BitVec 32 := Scalar.divsi v38 c1_i32
  let v41 : BitVec 32 := Scalar.muli v40 c1_i32
  let v42 : BitVec 32 := Scalar.addi c0_i32_29 v41
  let c1_i32_31 : BitVec 32 := 1#32
  let arg15 : BitVec 32 := Scf.iv v42 c1_i32_31 k0_t2
  let v508 : BitVec 32 := Scalar.muli c4_i32_277 arg15
  let v509 : BitVec 32 := Scalar.addi c0_i32_278 v508
  let c3_i32_279 : BitVec 32 := 3#32
  let v510 : BitVec 32 := Scalar.addi v509 c3_i32_279
  let c256_i32_280 : BitVec 32 := 256#32
  let v511 : BitVec 32 := Scalar.muli v510 c256_i32_280
  v511
def k0_mult16 (i : grid0.Coords) (k0_t2 : Fin (k0_t2_loop i).trips) : BitVec 32 :=
  let c0_i32_278 : BitVec 32 := 0#32
  let c4_i32_277 : BitVec 32 := 4#32
  let c0_i32_29 : BitVec 32 := 0#32
  let arg1 : BitVec 32 := BitVec.ofNat 32 (i 1).val
  let c0_i32_28 : BitVec 32 := 0#32
  let v36 : BitVec 32 := Scalar.subi arg1 c0_i32_28
  let c2_i32 : BitVec 32 := 2#32
  let v37 : BitVec 32 := Scalar.shrui v36 c2_i32
  let v38 : BitVec 32 := Scalar.subi v37 c0_i32_29
  let c1_i32 : BitVec 32 := 1#32
  let v40 : BitVec 32 := Scalar.divsi v38 c1_i32
  let v41 : BitVec 32 := Scalar.muli v40 c1_i32
  let v42 : BitVec 32 := Scalar.addi c0_i32_29 v41
  let c1_i32_31 : BitVec 32 := 1#32
  let arg15 : BitVec 32 := Scf.iv v42 c1_i32_31 k0_t2
  let v508 : BitVec 32 := Scalar.muli c4_i32_277 arg15
  let v509 : BitVec 32 := Scalar.addi c0_i32_278 v508
  let c3_i32_279 : BitVec 32 := 3#32
  let v510 : BitVec 32 := Scalar.addi v509 c3_i32_279
  let c256_i32_307 : BitVec 32 := 256#32
  let v563 : BitVec 32 := Scalar.muli v510 c256_i32_307
  v563
@[reducible] def k0_t3_loop (i : grid0.Coords) : Scf.Loop 32 :=
  let c0_i32_34 : BitVec 32 := 0#32
  let arg1 : BitVec 32 := BitVec.ofNat 32 (i 1).val
  let c0_i32_32 : BitVec 32 := 0#32
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let v48 : BitVec 32 := Scalar.subi arg1 v47
  let c1_i32_33 : BitVec 32 := 1#32
  let v49 : BitVec 32 := Scalar.shrui v48 c1_i32_33
  let v50 : BitVec 32 := Scalar.subi v49 c0_i32_34
  let c1_i32_35 : BitVec 32 := 1#32
  let v52 : BitVec 32 := Scalar.divsi v50 c1_i32_35
  let v53 : BitVec 32 := Scalar.muli v52 c1_i32_35
  let v54 : BitVec 32 := Scalar.addi c0_i32_34 v53
  let c1_i32_36 : BitVec 32 := 1#32
  ⟨c0_i32_34, v54, c1_i32_36⟩
def k0_mult17 (i : grid0.Coords) (k0_t3 : Fin (k0_t3_loop i).trips) : BitVec 32 :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let c2_i32_107 : BitVec 32 := 2#32
  let c0_i32_34 : BitVec 32 := 0#32
  let c1_i32_36 : BitVec 32 := 1#32
  let arg15 : BitVec 32 := Scf.iv c0_i32_34 c1_i32_36 k0_t3
  let v187 : BitVec 32 := Scalar.muli c2_i32_107 arg15
  let v188 : BitVec 32 := Scalar.addi v47 v187
  let c0_i32_108 : BitVec 32 := 0#32
  let v189 : BitVec 32 := Scalar.addi v188 c0_i32_108
  let c256_i32_109 : BitVec 32 := 256#32
  let v190 : BitVec 32 := Scalar.muli v189 c256_i32_109
  v190
def k0_off3 (i : grid0.Coords) (k0_t3 : Fin (k0_t3_loop i).trips) (c0_i32_108 : BitVec 32) : Fin 2 → Nat :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let c2_i32_107 : BitVec 32 := 2#32
  let c0_i32_34 : BitVec 32 := 0#32
  let c1_i32_36 : BitVec 32 := 1#32
  let arg15 : BitVec 32 := Scf.iv c0_i32_34 c1_i32_36 k0_t3
  let v187 : BitVec 32 := Scalar.muli c2_i32_107 arg15
  let v188 : BitVec 32 := Scalar.addi v47 v187
  let v189 : BitVec 32 := Scalar.addi v188 c0_i32_108
  let c256_i32_109 : BitVec 32 := 256#32
  let v190 : BitVec 32 := Scalar.muli v189 c256_i32_109
  let v191 : BitVec 32 := v190
  let v193 : Index := Scalar.indexCast v191
  let c0_112 : Index := 0#32
  ![v193.toNat, 0]
def k0_mult18 (i : grid0.Coords) (k0_t3 : Fin (k0_t3_loop i).trips) : BitVec 32 :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let c2_i32_107 : BitVec 32 := 2#32
  let c0_i32_34 : BitVec 32 := 0#32
  let c1_i32_36 : BitVec 32 := 1#32
  let arg15 : BitVec 32 := Scf.iv c0_i32_34 c1_i32_36 k0_t3
  let v187 : BitVec 32 := Scalar.muli c2_i32_107 arg15
  let v188 : BitVec 32 := Scalar.addi v47 v187
  let c0_i32_108 : BitVec 32 := 0#32
  let v189 : BitVec 32 := Scalar.addi v188 c0_i32_108
  let c256_i32_136 : BitVec 32 := 256#32
  let v242 : BitVec 32 := Scalar.muli v189 c256_i32_136
  v242
def k0_mult19 (i : grid0.Coords) (k0_t3 : Fin (k0_t3_loop i).trips) : BitVec 32 :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let c2_i32_163 : BitVec 32 := 2#32
  let c0_i32_34 : BitVec 32 := 0#32
  let c1_i32_36 : BitVec 32 := 1#32
  let arg15 : BitVec 32 := Scf.iv c0_i32_34 c1_i32_36 k0_t3
  let v294 : BitVec 32 := Scalar.muli c2_i32_163 arg15
  let v295 : BitVec 32 := Scalar.addi v47 v294
  let c1_i32_164 : BitVec 32 := 1#32
  let v296 : BitVec 32 := Scalar.addi v295 c1_i32_164
  let c256_i32_165 : BitVec 32 := 256#32
  let v297 : BitVec 32 := Scalar.muli v296 c256_i32_165
  v297
def k0_mult20 (i : grid0.Coords) (k0_t3 : Fin (k0_t3_loop i).trips) : BitVec 32 :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let c2_i32_163 : BitVec 32 := 2#32
  let c0_i32_34 : BitVec 32 := 0#32
  let c1_i32_36 : BitVec 32 := 1#32
  let arg15 : BitVec 32 := Scf.iv c0_i32_34 c1_i32_36 k0_t3
  let v294 : BitVec 32 := Scalar.muli c2_i32_163 arg15
  let v295 : BitVec 32 := Scalar.addi v47 v294
  let c1_i32_164 : BitVec 32 := 1#32
  let v296 : BitVec 32 := Scalar.addi v295 c1_i32_164
  let c256_i32_192 : BitVec 32 := 256#32
  let v349 : BitVec 32 := Scalar.muli v296 c256_i32_192
  v349
@[reducible] def k0_t4_loop (i : grid0.Coords) : Scf.Loop 32 :=
  let c0_i32_34 : BitVec 32 := 0#32
  let arg1 : BitVec 32 := BitVec.ofNat 32 (i 1).val
  let c0_i32_32 : BitVec 32 := 0#32
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let v48 : BitVec 32 := Scalar.subi arg1 v47
  let c1_i32_33 : BitVec 32 := 1#32
  let v49 : BitVec 32 := Scalar.shrui v48 c1_i32_33
  let v50 : BitVec 32 := Scalar.subi v49 c0_i32_34
  let c1_i32_35 : BitVec 32 := 1#32
  let v52 : BitVec 32 := Scalar.divsi v50 c1_i32_35
  let v53 : BitVec 32 := Scalar.muli v52 c1_i32_35
  let v54 : BitVec 32 := Scalar.addi c0_i32_34 v53
  let v51 : BitVec 32 := Scalar.addi c0_i32_34 v50
  let c1_i32_37 : BitVec 32 := 1#32
  ⟨v54, v51, c1_i32_37⟩
def k0_mult21 (i : grid0.Coords) (k0_t4 : Fin (k0_t4_loop i).trips) : BitVec 32 :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let c2_i32_107 : BitVec 32 := 2#32
  let c0_i32_34 : BitVec 32 := 0#32
  let v48 : BitVec 32 := Scalar.subi arg1 v47
  let c1_i32_33 : BitVec 32 := 1#32
  let v49 : BitVec 32 := Scalar.shrui v48 c1_i32_33
  let v50 : BitVec 32 := Scalar.subi v49 c0_i32_34
  let c1_i32_35 : BitVec 32 := 1#32
  let v52 : BitVec 32 := Scalar.divsi v50 c1_i32_35
  let v53 : BitVec 32 := Scalar.muli v52 c1_i32_35
  let v54 : BitVec 32 := Scalar.addi c0_i32_34 v53
  let c1_i32_37 : BitVec 32 := 1#32
  let arg15 : BitVec 32 := Scf.iv v54 c1_i32_37 k0_t4
  let v187 : BitVec 32 := Scalar.muli c2_i32_107 arg15
  let v188 : BitVec 32 := Scalar.addi v47 v187
  let c0_i32_108 : BitVec 32 := 0#32
  let v189 : BitVec 32 := Scalar.addi v188 c0_i32_108
  let c256_i32_109 : BitVec 32 := 256#32
  let v190 : BitVec 32 := Scalar.muli v189 c256_i32_109
  v190
def k0_off4 (i : grid0.Coords) (k0_t4 : Fin (k0_t4_loop i).trips) (c0_i32_108 : BitVec 32) : Fin 2 → Nat :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let c2_i32_107 : BitVec 32 := 2#32
  let c0_i32_34 : BitVec 32 := 0#32
  let v48 : BitVec 32 := Scalar.subi arg1 v47
  let c1_i32_33 : BitVec 32 := 1#32
  let v49 : BitVec 32 := Scalar.shrui v48 c1_i32_33
  let v50 : BitVec 32 := Scalar.subi v49 c0_i32_34
  let c1_i32_35 : BitVec 32 := 1#32
  let v52 : BitVec 32 := Scalar.divsi v50 c1_i32_35
  let v53 : BitVec 32 := Scalar.muli v52 c1_i32_35
  let v54 : BitVec 32 := Scalar.addi c0_i32_34 v53
  let c1_i32_37 : BitVec 32 := 1#32
  let arg15 : BitVec 32 := Scf.iv v54 c1_i32_37 k0_t4
  let v187 : BitVec 32 := Scalar.muli c2_i32_107 arg15
  let v188 : BitVec 32 := Scalar.addi v47 v187
  let v189 : BitVec 32 := Scalar.addi v188 c0_i32_108
  let c256_i32_109 : BitVec 32 := 256#32
  let v190 : BitVec 32 := Scalar.muli v189 c256_i32_109
  let v191 : BitVec 32 := v190
  let v193 : Index := Scalar.indexCast v191
  let c0_112 : Index := 0#32
  ![v193.toNat, 0]
def k0_mult22 (i : grid0.Coords) (k0_t4 : Fin (k0_t4_loop i).trips) : BitVec 32 :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let c2_i32_107 : BitVec 32 := 2#32
  let c0_i32_34 : BitVec 32 := 0#32
  let v48 : BitVec 32 := Scalar.subi arg1 v47
  let c1_i32_33 : BitVec 32 := 1#32
  let v49 : BitVec 32 := Scalar.shrui v48 c1_i32_33
  let v50 : BitVec 32 := Scalar.subi v49 c0_i32_34
  let c1_i32_35 : BitVec 32 := 1#32
  let v52 : BitVec 32 := Scalar.divsi v50 c1_i32_35
  let v53 : BitVec 32 := Scalar.muli v52 c1_i32_35
  let v54 : BitVec 32 := Scalar.addi c0_i32_34 v53
  let c1_i32_37 : BitVec 32 := 1#32
  let arg15 : BitVec 32 := Scf.iv v54 c1_i32_37 k0_t4
  let v187 : BitVec 32 := Scalar.muli c2_i32_107 arg15
  let v188 : BitVec 32 := Scalar.addi v47 v187
  let c0_i32_108 : BitVec 32 := 0#32
  let v189 : BitVec 32 := Scalar.addi v188 c0_i32_108
  let c256_i32_136 : BitVec 32 := 256#32
  let v242 : BitVec 32 := Scalar.muli v189 c256_i32_136
  v242
def k0_mult23 (i : grid0.Coords) (k0_t4 : Fin (k0_t4_loop i).trips) : BitVec 32 :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let c2_i32_163 : BitVec 32 := 2#32
  let c0_i32_34 : BitVec 32 := 0#32
  let v48 : BitVec 32 := Scalar.subi arg1 v47
  let c1_i32_33 : BitVec 32 := 1#32
  let v49 : BitVec 32 := Scalar.shrui v48 c1_i32_33
  let v50 : BitVec 32 := Scalar.subi v49 c0_i32_34
  let c1_i32_35 : BitVec 32 := 1#32
  let v52 : BitVec 32 := Scalar.divsi v50 c1_i32_35
  let v53 : BitVec 32 := Scalar.muli v52 c1_i32_35
  let v54 : BitVec 32 := Scalar.addi c0_i32_34 v53
  let c1_i32_37 : BitVec 32 := 1#32
  let arg15 : BitVec 32 := Scf.iv v54 c1_i32_37 k0_t4
  let v294 : BitVec 32 := Scalar.muli c2_i32_163 arg15
  let v295 : BitVec 32 := Scalar.addi v47 v294
  let c1_i32_164 : BitVec 32 := 1#32
  let v296 : BitVec 32 := Scalar.addi v295 c1_i32_164
  let c256_i32_165 : BitVec 32 := 256#32
  let v297 : BitVec 32 := Scalar.muli v296 c256_i32_165
  v297
def k0_mult24 (i : grid0.Coords) (k0_t4 : Fin (k0_t4_loop i).trips) : BitVec 32 :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let c2_i32_163 : BitVec 32 := 2#32
  let c0_i32_34 : BitVec 32 := 0#32
  let v48 : BitVec 32 := Scalar.subi arg1 v47
  let c1_i32_33 : BitVec 32 := 1#32
  let v49 : BitVec 32 := Scalar.shrui v48 c1_i32_33
  let v50 : BitVec 32 := Scalar.subi v49 c0_i32_34
  let c1_i32_35 : BitVec 32 := 1#32
  let v52 : BitVec 32 := Scalar.divsi v50 c1_i32_35
  let v53 : BitVec 32 := Scalar.muli v52 c1_i32_35
  let v54 : BitVec 32 := Scalar.addi c0_i32_34 v53
  let c1_i32_37 : BitVec 32 := 1#32
  let arg15 : BitVec 32 := Scf.iv v54 c1_i32_37 k0_t4
  let v294 : BitVec 32 := Scalar.muli c2_i32_163 arg15
  let v295 : BitVec 32 := Scalar.addi v47 v294
  let c1_i32_164 : BitVec 32 := 1#32
  let v296 : BitVec 32 := Scalar.addi v295 c1_i32_164
  let c256_i32_192 : BitVec 32 := 256#32
  let v349 : BitVec 32 := Scalar.muli v296 c256_i32_192
  v349
@[reducible] def k0_t5_loop (i : grid0.Coords) : Scf.Loop 32 :=
  let c0_i32_40 : BitVec 32 := 0#32
  let arg1 : BitVec 32 := BitVec.ofNat 32 (i 1).val
  let c0_i32_32 : BitVec 32 := 0#32
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let v48 : BitVec 32 := Scalar.subi arg1 v47
  let c1_i32_38 : BitVec 32 := 1#32
  let v57 : BitVec 32 := Scalar.andi v48 c1_i32_38
  let v58 : BitVec 32 := Scalar.subi v48 v57
  let v59 : BitVec 32 := Scalar.addi v47 v58
  let v60 : BitVec 32 := Scalar.subi arg1 v59
  let c0_i32_39 : BitVec 32 := 0#32
  let v61 : BitVec 32 := Scalar.shrui v60 c0_i32_39
  let v62 : BitVec 32 := Scalar.subi v61 c0_i32_40
  let c1_i32_41 : BitVec 32 := 1#32
  let v64 : BitVec 32 := Scalar.divsi v62 c1_i32_41
  let v65 : BitVec 32 := Scalar.muli v64 c1_i32_41
  let v66 : BitVec 32 := Scalar.addi c0_i32_40 v65
  let c1_i32_42 : BitVec 32 := 1#32
  ⟨c0_i32_40, v66, c1_i32_42⟩
def k0_mult25 (i : grid0.Coords) (k0_t5 : Fin (k0_t5_loop i).trips) : BitVec 32 :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let v48 : BitVec 32 := Scalar.subi arg1 v47
  let c1_i32_38 : BitVec 32 := 1#32
  let v57 : BitVec 32 := Scalar.andi v48 c1_i32_38
  let v58 : BitVec 32 := Scalar.subi v48 v57
  let v59 : BitVec 32 := Scalar.addi v47 v58
  let c1_i32_107 : BitVec 32 := 1#32
  let c0_i32_40 : BitVec 32 := 0#32
  let c1_i32_42 : BitVec 32 := 1#32
  let arg15 : BitVec 32 := Scf.iv c0_i32_40 c1_i32_42 k0_t5
  let v187 : BitVec 32 := Scalar.muli c1_i32_107 arg15
  let v188 : BitVec 32 := Scalar.addi v59 v187
  let c0_i32_108 : BitVec 32 := 0#32
  let v189 : BitVec 32 := Scalar.addi v188 c0_i32_108
  let c256_i32_109 : BitVec 32 := 256#32
  let v190 : BitVec 32 := Scalar.muli v189 c256_i32_109
  v190
def k0_off5 (i : grid0.Coords) (k0_t5 : Fin (k0_t5_loop i).trips) : Fin 2 → Nat :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let v48 : BitVec 32 := Scalar.subi arg1 v47
  let c1_i32_38 : BitVec 32 := 1#32
  let v57 : BitVec 32 := Scalar.andi v48 c1_i32_38
  let v58 : BitVec 32 := Scalar.subi v48 v57
  let v59 : BitVec 32 := Scalar.addi v47 v58
  let c1_i32_107 : BitVec 32 := 1#32
  let c0_i32_40 : BitVec 32 := 0#32
  let c1_i32_42 : BitVec 32 := 1#32
  let arg15 : BitVec 32 := Scf.iv c0_i32_40 c1_i32_42 k0_t5
  let v187 : BitVec 32 := Scalar.muli c1_i32_107 arg15
  let v188 : BitVec 32 := Scalar.addi v59 v187
  let c0_i32_108 : BitVec 32 := 0#32
  let v189 : BitVec 32 := Scalar.addi v188 c0_i32_108
  let c256_i32_109 : BitVec 32 := 256#32
  let v190 : BitVec 32 := Scalar.muli v189 c256_i32_109
  let v191 : BitVec 32 := v190
  let v193 : Index := Scalar.indexCast v191
  let c0_112 : Index := 0#32
  ![v193.toNat, 0]
def k0_mult26 (i : grid0.Coords) (k0_t5 : Fin (k0_t5_loop i).trips) : BitVec 32 :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let v48 : BitVec 32 := Scalar.subi arg1 v47
  let c1_i32_38 : BitVec 32 := 1#32
  let v57 : BitVec 32 := Scalar.andi v48 c1_i32_38
  let v58 : BitVec 32 := Scalar.subi v48 v57
  let v59 : BitVec 32 := Scalar.addi v47 v58
  let c1_i32_107 : BitVec 32 := 1#32
  let c0_i32_40 : BitVec 32 := 0#32
  let c1_i32_42 : BitVec 32 := 1#32
  let arg15 : BitVec 32 := Scf.iv c0_i32_40 c1_i32_42 k0_t5
  let v187 : BitVec 32 := Scalar.muli c1_i32_107 arg15
  let v188 : BitVec 32 := Scalar.addi v59 v187
  let c0_i32_108 : BitVec 32 := 0#32
  let v189 : BitVec 32 := Scalar.addi v188 c0_i32_108
  let c256_i32_136 : BitVec 32 := 256#32
  let v242 : BitVec 32 := Scalar.muli v189 c256_i32_136
  v242
@[reducible] def k0_t6_loop (i : grid0.Coords) : Scf.Loop 32 :=
  let c0_i32_40 : BitVec 32 := 0#32
  let arg1 : BitVec 32 := BitVec.ofNat 32 (i 1).val
  let c0_i32_32 : BitVec 32 := 0#32
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let v48 : BitVec 32 := Scalar.subi arg1 v47
  let c1_i32_38 : BitVec 32 := 1#32
  let v57 : BitVec 32 := Scalar.andi v48 c1_i32_38
  let v58 : BitVec 32 := Scalar.subi v48 v57
  let v59 : BitVec 32 := Scalar.addi v47 v58
  let v60 : BitVec 32 := Scalar.subi arg1 v59
  let c0_i32_39 : BitVec 32 := 0#32
  let v61 : BitVec 32 := Scalar.shrui v60 c0_i32_39
  let v62 : BitVec 32 := Scalar.subi v61 c0_i32_40
  let c1_i32_41 : BitVec 32 := 1#32
  let v64 : BitVec 32 := Scalar.divsi v62 c1_i32_41
  let v65 : BitVec 32 := Scalar.muli v64 c1_i32_41
  let v66 : BitVec 32 := Scalar.addi c0_i32_40 v65
  let v63 : BitVec 32 := Scalar.addi c0_i32_40 v62
  let c1_i32_43 : BitVec 32 := 1#32
  ⟨v66, v63, c1_i32_43⟩
def k0_mult27 (i : grid0.Coords) (k0_t6 : Fin (k0_t6_loop i).trips) : BitVec 32 :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let v48 : BitVec 32 := Scalar.subi arg1 v47
  let c1_i32_38 : BitVec 32 := 1#32
  let v57 : BitVec 32 := Scalar.andi v48 c1_i32_38
  let v58 : BitVec 32 := Scalar.subi v48 v57
  let v59 : BitVec 32 := Scalar.addi v47 v58
  let c1_i32_107 : BitVec 32 := 1#32
  let c0_i32_40 : BitVec 32 := 0#32
  let v60 : BitVec 32 := Scalar.subi arg1 v59
  let c0_i32_39 : BitVec 32 := 0#32
  let v61 : BitVec 32 := Scalar.shrui v60 c0_i32_39
  let v62 : BitVec 32 := Scalar.subi v61 c0_i32_40
  let c1_i32_41 : BitVec 32 := 1#32
  let v64 : BitVec 32 := Scalar.divsi v62 c1_i32_41
  let v65 : BitVec 32 := Scalar.muli v64 c1_i32_41
  let v66 : BitVec 32 := Scalar.addi c0_i32_40 v65
  let c1_i32_43 : BitVec 32 := 1#32
  let arg15 : BitVec 32 := Scf.iv v66 c1_i32_43 k0_t6
  let v187 : BitVec 32 := Scalar.muli c1_i32_107 arg15
  let v188 : BitVec 32 := Scalar.addi v59 v187
  let c0_i32_108 : BitVec 32 := 0#32
  let v189 : BitVec 32 := Scalar.addi v188 c0_i32_108
  let c256_i32_109 : BitVec 32 := 256#32
  let v190 : BitVec 32 := Scalar.muli v189 c256_i32_109
  v190
def k0_off6 (i : grid0.Coords) (k0_t6 : Fin (k0_t6_loop i).trips) : Fin 2 → Nat :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let v48 : BitVec 32 := Scalar.subi arg1 v47
  let c1_i32_38 : BitVec 32 := 1#32
  let v57 : BitVec 32 := Scalar.andi v48 c1_i32_38
  let v58 : BitVec 32 := Scalar.subi v48 v57
  let v59 : BitVec 32 := Scalar.addi v47 v58
  let c1_i32_107 : BitVec 32 := 1#32
  let c0_i32_40 : BitVec 32 := 0#32
  let v60 : BitVec 32 := Scalar.subi arg1 v59
  let c0_i32_39 : BitVec 32 := 0#32
  let v61 : BitVec 32 := Scalar.shrui v60 c0_i32_39
  let v62 : BitVec 32 := Scalar.subi v61 c0_i32_40
  let c1_i32_41 : BitVec 32 := 1#32
  let v64 : BitVec 32 := Scalar.divsi v62 c1_i32_41
  let v65 : BitVec 32 := Scalar.muli v64 c1_i32_41
  let v66 : BitVec 32 := Scalar.addi c0_i32_40 v65
  let c1_i32_43 : BitVec 32 := 1#32
  let arg15 : BitVec 32 := Scf.iv v66 c1_i32_43 k0_t6
  let v187 : BitVec 32 := Scalar.muli c1_i32_107 arg15
  let v188 : BitVec 32 := Scalar.addi v59 v187
  let c0_i32_108 : BitVec 32 := 0#32
  let v189 : BitVec 32 := Scalar.addi v188 c0_i32_108
  let c256_i32_109 : BitVec 32 := 256#32
  let v190 : BitVec 32 := Scalar.muli v189 c256_i32_109
  let v191 : BitVec 32 := v190
  let v193 : Index := Scalar.indexCast v191
  let c0_112 : Index := 0#32
  ![v193.toNat, 0]
def k0_mult28 (i : grid0.Coords) (k0_t6 : Fin (k0_t6_loop i).trips) : BitVec 32 :=
  let c0_i32_32 : BitVec 32 := 0#32
  let arg1 : BitVec 32 := BitVec.ofNat 32 (i 1).val
  let c0_i32_28 : BitVec 32 := 0#32
  let v36 : BitVec 32 := Scalar.subi arg1 c0_i32_28
  let c3_i32 : BitVec 32 := 3#32
  let v45 : BitVec 32 := Scalar.andi v36 c3_i32
  let v46 : BitVec 32 := Scalar.subi v36 v45
  let v47 : BitVec 32 := Scalar.addi c0_i32_32 v46
  let v48 : BitVec 32 := Scalar.subi arg1 v47
  let c1_i32_38 : BitVec 32 := 1#32
  let v57 : BitVec 32 := Scalar.andi v48 c1_i32_38
  let v58 : BitVec 32 := Scalar.subi v48 v57
  let v59 : BitVec 32 := Scalar.addi v47 v58
  let c1_i32_107 : BitVec 32 := 1#32
  let c0_i32_40 : BitVec 32 := 0#32
  let v60 : BitVec 32 := Scalar.subi arg1 v59
  let c0_i32_39 : BitVec 32 := 0#32
  let v61 : BitVec 32 := Scalar.shrui v60 c0_i32_39
  let v62 : BitVec 32 := Scalar.subi v61 c0_i32_40
  let c1_i32_41 : BitVec 32 := 1#32
  let v64 : BitVec 32 := Scalar.divsi v62 c1_i32_41
  let v65 : BitVec 32 := Scalar.muli v64 c1_i32_41
  let v66 : BitVec 32 := Scalar.addi c0_i32_40 v65
  let c1_i32_43 : BitVec 32 := 1#32
  let arg15 : BitVec 32 := Scf.iv v66 c1_i32_43 k0_t6
  let v187 : BitVec 32 := Scalar.muli c1_i32_107 arg15
  let v188 : BitVec 32 := Scalar.addi v59 v187
  let c0_i32_108 : BitVec 32 := 0#32
  let v189 : BitVec 32 := Scalar.addi v188 c0_i32_108
  let c256_i32_136 : BitVec 32 := 256#32
  let v242 : BitVec 32 := Scalar.muli v189 c256_i32_136
  v242
def k0_mult29 (i : grid0.Coords) : BitVec 32 :=
  let arg1 : BitVec 32 := BitVec.ofNat 32 (i 1).val
  let c256_i32 : BitVec 32 := 256#32
  let v69 : BitVec 32 := Scalar.muli arg1 c256_i32
  v69
def k0_off7 (i : grid0.Coords) : Fin 2 → Nat :=
  let arg1 : BitVec 32 := BitVec.ofNat 32 (i 1).val
  let c256_i32 : BitVec 32 := 256#32
  let v69 : BitVec 32 := Scalar.muli arg1 c256_i32
  let v70 : BitVec 32 := v69
  let v72 : Index := Scalar.indexCast v70
  let c0_46 : Index := 0#32
  ![v72.toNat, 0]
def k0_mult30 (i : grid0.Coords) : BitVec 32 :=
  let arg1 : BitVec 32 := BitVec.ofNat 32 (i 1).val
  let c256_i32_71 : BitVec 32 := 256#32
  let v124 : BitVec 32 := Scalar.muli arg1 c256_i32_71
  v124
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4096x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S4096x1024 : Shape := ⟨2, ![4096, 1024]⟩
abbrev S4096x128 : Shape := ⟨2, ![4096, 128]⟩
abbrev S4096x8x128 : Shape := ⟨3, ![4096, 8, 128]⟩
abbrev S8x4096x128 : Shape := ⟨3, ![8, 4096, 128]⟩
abbrev S8x4096x256 : Shape := ⟨3, ![8, 4096, 256]⟩
abbrev S1x4096x128 : Shape := ⟨3, ![1, 4096, 128]⟩
abbrev S4096 : Shape := ⟨1, ![4096]⟩
abbrev S8x4096x4096 : Shape := ⟨3, ![8, 4096, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x128, .bf16⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x128, .f32⟩
  | .hbm, ⟨10, _⟩ => ⟨S4096x1024, .f32⟩
  | .hbm, ⟨11, _⟩ => ⟨S4096x8x128, .f32⟩
  | .hbm, ⟨12, _⟩ => ⟨S8x4096x128, .f32⟩
  | .hbm, ⟨13, _⟩ => ⟨S4096x8x128, .f32⟩
  | .hbm, ⟨14, _⟩ => ⟨S8x4096x128, .f32⟩
  | .hbm, ⟨15, _⟩ => ⟨S8x4096x256, .f32⟩
  | .hbm, ⟨16, _⟩ => ⟨S4096x8x128, .f32⟩
  | .hbm, ⟨17, _⟩ => ⟨S8x4096x128, .f32⟩
  | .hbm, ⟨18, _⟩ => ⟨S1x4096x128, .f32⟩
  | .hbm, ⟨19, _⟩ => ⟨S8x4096x128, .f32⟩
  | .hbm, ⟨20, _⟩ => ⟨S8x4096x256, .f32⟩
  | .hbm, ⟨21, _⟩ => ⟨S4096, .i32⟩
  | .hbm, ⟨22, _⟩ => ⟨S8x4096x4096, .f32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .i1⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .i1⟩
  | .hbm, ⟨49, _⟩ => ⟨S_, .f32⟩
  | .hbm, ⟨50, _⟩ => ⟨S8x4096, .f32⟩
  | .hbm, ⟨51, _⟩ => ⟨S8x4096, .i1⟩
  | .hbm, ⟨52, _⟩ => ⟨S_, .f32⟩
  | .hbm, ⟨53, _⟩ => ⟨S8x4096, .f32⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S8x4096, .f32⟩
  | .hbm, ⟨58, _⟩ => ⟨S8x4096, .f32⟩
  | .hbm, ⟨59, _⟩ => ⟨S8x4096, .f32⟩
  | .hbm, ⟨60, _⟩ => ⟨S8x4096x1, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S8x4096x4096, .f32⟩
  | .hbm, ⟨68, _⟩ => ⟨S8x4096x4096, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S4096x8x128, .f32⟩
  | .hbm, ⟨74, _⟩ => ⟨S8x4096x128, .f32⟩
  | .hbm, ⟨75, _⟩ => ⟨S8x4096x128, .f32⟩
  | .hbm, ⟨76, _⟩ => ⟨S4096x8x128, .f32⟩
  | .hbm, ⟨77, _⟩ => ⟨S4096x1024, .f32⟩
  | .hbm, ⟨78, _⟩ => ⟨S4096x8x128, .f32⟩
  | .hbm, ⟨79, _⟩ => ⟨S8x4096x128, .f32⟩
  | .hbm, ⟨80, _⟩ => ⟨S8x128x4096, .f32⟩
  | .hbm, ⟨81, _⟩ => ⟨S8x4096x128, .f32⟩
  | .hbm, ⟨82, _⟩ => ⟨S8x4096x4096, .f32⟩
  | .hbm, ⟨83, _⟩ => ⟨S4096x8x128, .f32⟩
  | .hbm, ⟨84, _⟩ => ⟨S4096x1024, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096, .f32⟩
  | .hbm, ⟨90, _⟩ => ⟨S8x4096x1, .f32⟩
  | .hbm, ⟨91, _⟩ => ⟨S8x4096x1, .f32⟩
  | .hbm, ⟨92, _⟩ => ⟨S8x4096x4096, .f32⟩
  | .hbm, ⟨93, _⟩ => ⟨S8x4096x4096, .f32⟩
  | .hbm, ⟨94, _⟩ => ⟨S_, .f32⟩
  | .hbm, ⟨95, _⟩ => ⟨S8x4096, .f32⟩
  | .hbm, ⟨96, _⟩ => ⟨S8x4096x4096, .f32⟩
  | .hbm, ⟨97, _⟩ => ⟨S8x4096x4096, .f32⟩
  | .hbm, ⟨98, _⟩ => ⟨S8x4096x4096, .f32⟩
  | .hbm, ⟨99, _⟩ => ⟨S_, .f32⟩
  | .hbm, ⟨100, _⟩ => ⟨S8x4096x4096, .f32⟩
  | .hbm, ⟨101, _⟩ => ⟨S8x4096x4096, .f32⟩
  | .hbm, ⟨102, _⟩ => ⟨S8x4096x256, .f32⟩
  | .hbm, ⟨103, _⟩ => ⟨S8x4096x256, .f32⟩
  | .hbm, ⟨104, _⟩ => ⟨S8x4096x128, .f32⟩
  | .hbm, ⟨105, _⟩ => ⟨S8x4096x128, .f32⟩
  | .hbm, ⟨106, _⟩ => ⟨S_, .f32⟩
  | .hbm, ⟨107, _⟩ => ⟨S4096x128, .f32⟩
  | .hbm, ⟨108, _⟩ => ⟨S1x4096x128, .f32⟩
  | .hbm, ⟨109, _⟩ => ⟨S_, .f32⟩
  | .hbm, ⟨110, _⟩ => ⟨S4096x128, .f32⟩
  | .hbm, ⟨111, _⟩ => ⟨S4096x8x128, .f32⟩
  | .hbm, ⟨112, _⟩ => ⟨S4096x1024, .f32⟩
  | .hbm, ⟨113, _⟩ => ⟨S8x4096x128, .f32⟩
  | .hbm, ⟨114, _⟩ => ⟨S8x4096x128, .f32⟩
  | .hbm, ⟨115, _⟩ => ⟨S4096x8x128, .f32⟩
  | .hbm, ⟨116, _⟩ => ⟨S4096x1024, .f32⟩
  | .hbm, ⟨117, _⟩ => ⟨S4096x8x128, .f32⟩
  | .hbm, ⟨118, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_11 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_call1_cst : Ref sig .tc := ⟨.hbm, 99, rfl⟩
abbrev main_call1_v0 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_12 : Ref sig .tc := ⟨.hbm, 106, rfl⟩
abbrev main_v80 : Ref sig .tc := ⟨.hbm, 107, rfl⟩
abbrev main_v81 : Ref sig .tc := ⟨.hbm, 108, rfl⟩
abbrev main_cst_13 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩

abbrev nD : Nat := 1
abbrev τ : Topo := Topo.v7x

variable {F : FTy → Type} [FloatOps F]
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S4096x2816, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S4096x2816, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S1024x5632 : Shape := ⟨2, ![1024, 5632]⟩
abbrev S4096x5632 : Shape := ⟨2, ![4096, 5632]⟩
abbrev S1024x512 : Shape := ⟨2, ![1024, 512]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x5632 : Shape := ⟨2, ![4096, 5632]⟩
abbrev S4096x2816 : Shape := ⟨2, ![4096, 2816]⟩
abbrev S128x5632 : Shape := ⟨2, ![128, 5632]⟩
abbrev S128x2816 : Shape := ⟨2, ![128, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x5632, .bf16⟩
  | .local _ .vmem, ⟨0, _⟩ => ⟨S128x5632, .f32⟩
  | .local _ .vmem, ⟨1, _⟩ => ⟨S128x5632, .f32⟩
  | .local _ .vmem, ⟨2, _⟩ => ⟨S128x2816, .f32⟩
  | .local _ .vmem, ⟨3, _⟩ => ⟨S128x2816, .f32⟩
  | .local _ .vmem, ⟨4, _⟩ => ⟨S128x5632, .bf16⟩
  | .local _ .vmem, ⟨5, _⟩ => ⟨S128x5632, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x5632, .f32⟩
  | .hbm, ⟨25, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel8.lean ====
abbrev S4096x1024 : Shape := ⟨2, ![4096, 1024]⟩
abbrev S1024x4224 : Shape := ⟨2, ![1024, 4224]⟩
abbrev S4096x4224 : Shape := ⟨2, ![4096, 4224]⟩
abbrev S1024x384 : Shape := ⟨2, ![1024, 384]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4224, .bf16⟩
  | .hbm, ⟨2, _⟩ => ⟨S4096x4224, .bf16⟩
  | .hbm, ⟨3, _⟩ => ⟨S4096x1024, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x384, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x4224 : Shape := ⟨2, ![1024, 4224]⟩
abbrev S4096x4224 : Shape := ⟨2, ![4096, 4224]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4224, .bf16⟩
  | .hbm, ⟨2, _⟩ => ⟨S4096x4224, .bf16⟩
  | .hbm, ⟨3, _⟩ => ⟨S4096x1024, .f32⟩
  | .hbm, ⟨4, _⟩ => ⟨S1024x4224, .f32⟩
  | .hbm, ⟨5, _⟩ => ⟨S4096x4224, .f32⟩
  | .hbm, ⟨6, _⟩ => ⟨S4096x4224, .f32⟩
  | .hbm, ⟨7, _⟩ => ⟨S4224x1024, .f32⟩
  | .hbm, ⟨8, _⟩ => ⟨S1024x4224, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x4224 : Shape := ⟨2, ![1024, 4224]⟩
abbrev S4096x4224 : Shape := ⟨2, ![4096, 4224]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4224, .bf16⟩
  | .hbm, ⟨2, _⟩ => ⟨S4096x4224, .bf16⟩
  | .hbm, ⟨3, _⟩ => ⟨S1024x4224, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x4224 : Shape := ⟨2, ![1024, 4224]⟩
abbrev S4096x4224 : Shape := ⟨2, ![4096, 4224]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4224, .bf16⟩
  | .hbm, ⟨2, _⟩ => ⟨S4096x4224, .bf16⟩
  | .hbm, ⟨3, _⟩ => ⟨S4096x1024, .f32⟩
  | .hbm, ⟨4, _⟩ => ⟨S1024x4224, .f32⟩
  | .hbm, ⟨5, _⟩ => ⟨S4096x4224, .f32⟩
  | .hbm, ⟨6, _⟩ => ⟨S4096x4224, .f32⟩
  | .hbm, ⟨7, _⟩ => ⟨S4224x1024, .f32⟩
  | .hbm, ⟨8, _⟩ => ⟨S1024x4224, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .hbm, ⟨3, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x4224 : Shape := ⟨2, ![4096, 4224]⟩
abbrev S8x3072 : Shape := ⟨2, ![8, 3072]⟩
abbrev S4096x3072 : Shape := ⟨2, ![4096, 3072]⟩
abbrev S256x1024 : Shape := ⟨2, ![256, 1024]⟩
abbrev S8x1024 : Shape := ⟨2, ![8, 1024]⟩
abbrev S1x1024 : Shape := ⟨2, ![1, 1024]⟩
abbrev S1024 : Shape := ⟨1, ![1024]⟩
abbrev S248x1024 : Shape := ⟨2, ![248, 1024]⟩
abbrev S4x1024 : Shape := ⟨2, ![4, 1024]⟩

abbrev nBuf : Space → Nat
  | .hbm => 5
  | .vmem => 14
  | .smem => 0
  | _ => 0

abbrev bufTy : (tb : Table) → Fin (tcTables nBuf tb) → BufTy
  | .hbm, ⟨0, _⟩ => ⟨S4096x4224, .f32⟩
  | .hbm, ⟨1, _⟩ => ⟨S8x3072, .f32⟩
  | .hbm, ⟨2, _⟩ => ⟨S4096x3072, .f32⟩
  | .hbm, ⟨3, _⟩ => ⟨S4096x3072, .bf16⟩
  | .hbm, ⟨4, _⟩ => ⟨S8x3072, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | .local _ .vmem, ⟨13, _⟩ => ⟨S8x1024, .f32⟩
  | _, _ => ⟨S4096x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference14Ideal.lean ====
abbrev S4096x4224 : Shape := ⟨2, ![4096, 4224]⟩
abbrev S8x3072 : Shape := ⟨2, ![8, 3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩

abbrev nBuf : Space → Nat
  | .hbm => 79
  | .vmem => 0
  | .smem => 0
  | _ => 0

abbrev bufTy : (tb : Table) → Fin (tcTables nBuf tb) → BufTy
  | .hbm, ⟨0, _⟩ => ⟨S4096x4224, .f32⟩
  | .hbm, ⟨1, _⟩ => ⟨S8x3072, .f32⟩
  | .hbm, ⟨2, _⟩ => ⟨S4096x3072, .f32⟩
  | .hbm, ⟨3, _⟩ => ⟨S4096x3072, .f32⟩
  | .hbm, ⟨4, _⟩ => ⟨S_, .f32⟩
  | .hbm, ⟨5, _⟩ => ⟨S3x3072, .f32⟩
  | .hbm, ⟨6, _⟩ => ⟨S4099x3072, .f32⟩
  | .hbm, ⟨7, _⟩ => ⟨S_, .f32⟩
  | .hbm, ⟨8, _⟩ => ⟨S3x3072, .f32⟩
  | .hbm, ⟨9, _⟩ => ⟨S4096x3072, .f32⟩
  | .hbm, ⟨10, _⟩ => ⟨S1x3072, .f32⟩
  | .hbm, ⟨11, _⟩ => ⟨S4096x3072, .f32⟩
  | .hbm, ⟨12, _⟩ => ⟨S4096x3072, .f32⟩
  | .hbm, ⟨13, _⟩ => ⟨S4096x3072, .f32⟩
  | .hbm, ⟨14, _⟩ => ⟨S1x3072, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S1x3072, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S1x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S_, .f32⟩
  | .hbm, ⟨32, _⟩ => ⟨S3072, .f32⟩
  | .hbm, ⟨33, _⟩ => ⟨S1x3072, .f32⟩
  | .hbm, ⟨34, _⟩ => ⟨S4096x3072, .f32⟩
  | .hbm, ⟨35, _⟩ => ⟨S4096x3072, .f32⟩
  | .hbm, ⟨36, _⟩ => ⟨S_, .f32⟩
  | .hbm, ⟨37, _⟩ => ⟨S8x3072, .f32⟩
  | .hbm, ⟨38, _⟩ => ⟨S_, .f32⟩
  | .hbm, ⟨39, _⟩ => ⟨S4099x3072, .f32⟩
  | .hbm, ⟨40, _⟩ => ⟨S4096x3072, .f32⟩
  | .hbm, ⟨41, _⟩ => ⟨S_, .f32⟩
  | .hbm, ⟨42, _⟩ => ⟨S3072, .f32⟩
  | .hbm, ⟨43, _⟩ => ⟨S1x3072, .f32⟩
  | .hbm, ⟨44, _⟩ => ⟨S4096x3072, .f32⟩
  | .hbm, ⟨45, _⟩ => ⟨S4096x3072, .f32⟩
  | .hbm, ⟨46, _⟩ => ⟨S_, .f32⟩
  | .hbm, ⟨47, _⟩ => ⟨S8x3072, .f32⟩
  | .hbm, ⟨48, _⟩ => ⟨S8x3072, .f32⟩
  | .hbm, ⟨49, _⟩ => ⟨S_, .f32⟩
  | .hbm, ⟨50, _⟩ => ⟨S4099x3072, .f32⟩
  | .hbm, ⟨51, _⟩ => ⟨S4099x3072, .f32⟩
  | .hbm, ⟨52, _⟩ => ⟨S4096x3072, .f32⟩
  | .hbm, ⟨53, _⟩ => ⟨S_, .f32⟩
  | .hbm, ⟨54, _⟩ => ⟨S3072, .f32⟩
  | .hbm, ⟨55, _⟩ => ⟨S1x3072, .f32⟩
  | .hbm, ⟨56, _⟩ => ⟨S4096x3072, .f32⟩
  | .hbm, ⟨57, _⟩ => ⟨S4096x3072, .f32⟩
  | .hbm, ⟨58, _⟩ => ⟨S_, .f32⟩
  | .hbm, ⟨59, _⟩ => ⟨S8x3072, .f32⟩
  | .hbm, ⟨60, _⟩ => ⟨S8x3072, .f32⟩
  | .hbm, ⟨61, _⟩ => ⟨S_, .f32⟩
  | .hbm, ⟨62, _⟩ => ⟨S4099x3072, .f32⟩
  | .hbm, ⟨63, _⟩ => ⟨S4099x3072, .f32⟩
  | .hbm, ⟨64, _⟩ => ⟨S4096x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S4096x3072, .f32⟩
  | .hbm, ⟨69, _⟩ => ⟨S4096x3072, .f32⟩
  | .hbm, ⟨70, _⟩ => ⟨S_, .f32⟩
  | .hbm, ⟨71, _⟩ => ⟨S8x3072, .f32⟩
  | .hbm, ⟨72, _⟩ => ⟨S8x3072, .f32⟩
  | .hbm, ⟨73, _⟩ => ⟨S_, .f32⟩
  | .hbm, ⟨74, _⟩ => ⟨S4099x3072, .f32⟩
  | .hbm, ⟨75, _⟩ => ⟨S4099x3072, .f32⟩
  | .hbm, ⟨76, _⟩ => ⟨S3x3072, .f32⟩
  | .hbm, ⟨77, _⟩ => ⟨S4096x3072, .f32⟩
  | .hbm, ⟨78, _⟩ => ⟨S4096x3072, .bf16⟩
  | _, _ => ⟨S4096x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Kernel15.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x2816 : Shape := ⟨2, ![4096, 2816]⟩
abbrev S2816x1024 : Shape := ⟨2, ![2816, 1024]⟩
abbrev S4096x1024 : Shape := ⟨2, ![4096, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S4096x1024 : Shape := ⟨2, ![4096, 1024]⟩
abbrev S1024x4224 : Shape := ⟨2, ![1024, 4224]⟩
abbrev S4096x4224 : Shape := ⟨2, ![4096, 4224]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4224, .bf16⟩
  | .hbm, ⟨2, _⟩ => ⟨S4096x4224, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1024x4224 : Shape := ⟨2, ![1024, 4224]⟩
abbrev S4096x4224 : Shape := ⟨2, ![4096, 4224]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4224, .bf16⟩
  | .hbm, ⟨2, _⟩ => ⟨S4096x1024, .f32⟩
  | .hbm, ⟨3, _⟩ => ⟨S1024x4224, .f32⟩
  | .hbm, ⟨4, _⟩ => ⟨S4096x4224, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel21.lean ====
abbrev S4096x5632 : Shape := ⟨2, ![4096, 5632]⟩
abbrev S4096x2816 : Shape := ⟨2, ![4096, 2816]⟩
abbrev S128x5632 : Shape := ⟨2, ![128, 5632]⟩
abbrev S128x2816 : Shape := ⟨2, ![128, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .local _ .vmem, ⟨0, _⟩ => ⟨S128x5632, .f32⟩
  | .local _ .vmem, ⟨1, _⟩ => ⟨S128x5632, .f32⟩
  | .local _ .vmem, ⟨2, _⟩ => ⟨S128x2816, .bf16⟩
  | .local _ .vmem, ⟨3, _⟩ => ⟨S128x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference21Ideal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Kernel22.lean ====
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel24.lean ====
abbrev S4096x4224 : Shape := ⟨2, ![4096, 4224]⟩
abbrev S8x3072 : Shape := ⟨2, ![8, 3072]⟩
abbrev S4096x3072 : Shape := ⟨2, ![4096, 3072]⟩
abbrev S256x1024 : Shape := ⟨2, ![256, 1024]⟩
abbrev S8x1024 : Shape := ⟨2, ![8, 1024]⟩
abbrev S1x1024 : Shape := ⟨2, ![1, 1024]⟩
abbrev S248x1024 : Shape := ⟨2, ![248, 1024]⟩

abbrev nBuf : Space → Nat
  | .hbm => 3
  | .vmem => 8
  | .smem => 0
  | _ => 0

abbrev bufTy : (tb : Table) → Fin (tcTables nBuf tb) → BufTy
  | .hbm, ⟨0, _⟩ => ⟨S4096x4224, .f32⟩
  | .hbm, ⟨1, _⟩ => ⟨S8x3072, .f32⟩
  | .hbm, ⟨2, _⟩ => ⟨S4096x3072, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S256x1024, .f32⟩
  | .local _ .vmem, ⟨7, _⟩ => ⟨S256x1024, .f32⟩
  | _, _ => ⟨S4096x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference24Ideal.lean ====
abbrev S4096x4224 : Shape := ⟨2, ![4096, 4224]⟩
abbrev S8x3072 : Shape := ⟨2, ![8, 3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩

abbrev nBuf : Space → Nat
  | .hbm => 25
  | .vmem => 0
  | .smem => 0
  | _ => 0

abbrev bufTy : (tb : Table) → Fin (tcTables nBuf tb) → BufTy
  | .hbm, ⟨0, _⟩ => ⟨S4096x4224, .f32⟩
  | .hbm, ⟨1, _⟩ => ⟨S8x3072, .f32⟩
  | .hbm, ⟨2, _⟩ => ⟨S4096x3072, .f32⟩
  | .hbm, ⟨3, _⟩ => ⟨S_, .f32⟩
  | .hbm, ⟨4, _⟩ => ⟨S3x3072, .f32⟩
  | .hbm, ⟨5, _⟩ => ⟨S4099x3072, .f32⟩
  | .hbm, ⟨6, _⟩ => ⟨S4096x3072, .f32⟩
  | .hbm, ⟨7, _⟩ => ⟨S1x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S1x3072, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S4096x3072, .f32⟩
  | .hbm, ⟨16, _⟩ => ⟨S1x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S1x3072, .f32⟩
  | .hbm, ⟨22, _⟩ => ⟨S4096x3072, .f32⟩
  | .hbm, ⟨23, _⟩ => ⟨S4096x3072, .f32⟩
  | .hbm, ⟨24, _⟩ => ⟨S4096x3072, .f32⟩
  | _, _ => ⟨S4096x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Proof.Mla.Geo.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-! The offsets of the causal sweep in closed form: every pair of a query block and a key block touches 256 whole rows. -/

abbrev qb (i : grid0.Coords) : ℕ := (i 1).val

theorem qb_lt (i : grid0.Coords) : qb i < 16 := (i 1).isLt

theorem trips1 : ∀ i : grid0.Coords, (k0_t1_loop i).trips = (i 1).val / 4 := by decide +kernel
theorem trips2 : ∀ i : grid0.Coords, (k0_t2_loop i).trips = 0 := by decide +kernel
theorem trips3 : ∀ i : grid0.Coords, (k0_t3_loop i).trips = (i 1).val % 4 / 2 := by decide +kernel
theorem trips4 : ∀ i : grid0.Coords, (k0_t4_loop i).trips = 0 := by decide +kernel
theorem trips5 : ∀ i : grid0.Coords, (k0_t5_loop i).trips = (i 1).val % 2 := by decide +kernel
theorem trips6 : ∀ i : grid0.Coords, (k0_t6_loop i).trips = 0 := by decide +kernel

theorem off1_0 : ∀ (i : grid0.Coords) (k : Fin (k0_t1_loop i).trips), k0_off1 i k 0#32 = ![256 * (4 * k.val), 0] := by decide +kernel
theorem off1_1 : ∀ (i : grid0.Coords) (k : Fin (k0_t1_loop i).trips), k0_off1 i k 1#32 = ![256 * (4 * k.val + 1), 0] := by decide +kernel
theorem off1_2 : ∀ (i : grid0.Coords) (k : Fin (k0_t1_loop i).trips), k0_off1 i k 2#32 = ![256 * (4 * k.val + 2), 0] := by decide +kernel
theorem off1_3 : ∀ (i : grid0.Coords) (k : Fin (k0_t1_loop i).trips), k0_off1 i k 3#32 = ![256 * (4 * k.val + 3), 0] := by decide +kernel
theorem off3_0 : ∀ (i : grid0.Coords) (k : Fin (k0_t3_loop i).trips), k0_off3 i k 0#32 = ![256 * (4 * (qb i / 4) + 2 * k.val), 0] := by decide +kernel
theorem off3_1 : ∀ (i : grid0.Coords) (k : Fin (k0_t3_loop i).trips), k0_off3 i k 1#32 = ![256 * (4 * (qb i / 4) + 2 * k.val + 1), 0] := by decide +kernel
theorem off5_0 : ∀ (i : grid0.Coords) (k : Fin (k0_t5_loop i).trips), k0_off5 i k = ![256 * (2 * (qb i / 2) + k.val), 0] := by decide +kernel
theorem off7_0 : ∀ (i : grid0.Coords), k0_off7 i = ![256 * qb i, 0] := by decide +kernel

instance (i : grid0.Coords) (k : Fin (k0_t1_loop i).trips) : ClosedOff (k0_off1 i k 0#32) := ⟨_, off1_0 i k⟩
instance (i : grid0.Coords) (k : Fin (k0_t1_loop i).trips) : ClosedOff (k0_off1 i k 1#32) := ⟨_, off1_1 i k⟩
instance (i : grid0.Coords) (k : Fin (k0_t1_loop i).trips) : ClosedOff (k0_off1 i k 2#32) := ⟨_, off1_2 i k⟩
instance (i : grid0.Coords) (k : Fin (k0_t1_loop i).trips) : ClosedOff (k0_off1 i k 3#32) := ⟨_, off1_3 i k⟩
instance (i : grid0.Coords) (k : Fin (k0_t3_loop i).trips) : ClosedOff (k0_off3 i k 0#32) := ⟨_, off3_0 i k⟩
instance (i : grid0.Coords) (k : Fin (k0_t3_loop i).trips) : ClosedOff (k0_off3 i k 1#32) := ⟨_, off3_1 i k⟩
instance (i : grid0.Coords) (k : Fin (k0_t5_loop i).trips) : ClosedOff (k0_off5 i k) := ⟨_, off5_0 i k⟩
instance (i : grid0.Coords) : ClosedOff (k0_off7 i) := ⟨_, off7_0 i⟩

end Cert.KernelIdeal.Mla

end
-- ==== Proof.Mla.Trips.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Mla.Geo

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ
abbrev 𝒱₀ : Variants := Variants.none

/-! One trip of each loop of the sweep, executed at a symbolic trip: what it leaves in the three accumulated buffers and
in the carried pair of query gradients. -/

section Trips

variable (c : Dev nD) (i : grid0.Coords)
  (arg2 : Memref sig .tc .vmem S256x256 .bf16) (harg2 : arg2.IsWhole)
  (arg3 : Memref sig .tc .vmem S256x256 .bf16) (harg3 : arg3.IsWhole)
  (arg4 : Memref sig .tc .vmem S4096x256 .bf16) (harg4 : arg4.IsWhole)
  (arg5 : Memref sig .tc .vmem S4096x128 .bf16) (harg5 : arg5.IsWhole)
  (arg6 : Memref sig .tc .vmem S4096x256 .bf16) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S4096x256 .f32) (harg12 : arg12.IsWhole)
  (arg13 : Memref sig .tc .vmem S4096x128 .f32) (harg13 : arg13.IsWhole)
  (arg14 : Memref sig .tc .vmem S4096x256 .f32) (harg14 : arg14.IsWhole)

/-- The three input arrays a sweep reads, held in full. -/
abbrev inP (f4 : Buf (Elt F) (arg4.view.loc (c : Thread nD τ))) (f5 : Buf (Elt F) (arg5.view.loc (c : Thread nD τ)))
    (f6 : Buf (Elt F) (arg6.view.loc (c : Thread nD τ))) : sProp 𝕄 :=
  iprop((arg4.view.loc (c : Thread nD τ) ↦[arg4.view.set]{fullShare} f4) ∗ (arg5.view.loc (c : Thread nD τ) ↦[arg5.view.set]{fullShare} f5)
    ∗ (arg6.view.loc (c : Thread nD τ) ↦[arg6.view.set]{fullShare} f6))

/-- The three accumulated arrays, held in full. -/
abbrev outP (f12 : Buf (Elt F) (arg12.view.loc (c : Thread nD τ))) (f13 : Buf (Elt F) (arg13.view.loc (c : Thread nD τ)))
    (f14 : Buf (Elt F) (arg14.view.loc (c : Thread nD τ))) : sProp 𝕄 :=
  iprop((arg12.view.loc (c : Thread nD τ) ↦[arg12.view.set]{fullShare} f12) ∗ (arg13.view.loc (c : Thread nD τ) ↦[arg13.view.set]{fullShare} f13)
    ∗ (arg14.view.loc (c : Thread nD τ) ↦[arg14.view.set]{fullShare} f14))

/-- What a sweep changes: the three accumulated arrays and the two heads' query gradients. -/
abbrev St (F : FTy → Type) [FloatOps F] (c : Dev nD) (arg12 : Memref sig .tc .vmem S4096x256 .f32)
    (arg13 : Memref sig .tc .vmem S4096x128 .f32) (arg14 : Memref sig .tc .vmem S4096x256 .f32) : Type :=
  Buf (Elt F) (arg12.view.loc (c : Thread nD τ)) × Buf (Elt F) (arg13.view.loc (c : Thread nD τ))
    × Buf (Elt F) (arg14.view.loc (c : Thread nD τ)) × (FVec F S256x256 .f32 × FVec F S256x256 .f32)

section Loop1

variable (arg1 : BitVec 32) (v12 : FVec F S256x256 .bf16) (v13 : Vec F S256x128 .f32) (v16 : FVec F S256x1 .f32) (v21 : FVec F S256x1 .f32) (v22 : FVec F S256x256 .f32) (v25 : FVec F S256x256 .bf16) (v26 : Vec F S256x128 .f32) (v28 : Vec F S256x1 .f32) (v30 : Vec F S256x128 .f32)
  (f4 : Buf (Elt F) (arg4.view.loc (c : Thread nD τ))) (f5 : Buf (Elt F) (arg5.view.loc (c : Thread nD τ)))
  (f6 : Buf (Elt F) (arg6.view.loc (c : Thread nD τ)))

/-- One trip of loop 1: what it leaves is found by executing it. -/
def trip1 (k : Fin (k0_t1_loop i).trips) (f12 : Buf (Elt F) (arg12.view.loc (c : Thread nD τ)))
    (f13 : Buf (Elt F) (arg13.view.loc (c : Thread nD τ))) (f14 : Buf (Elt F) (arg14.view.loc (c : Thread nD τ)))
    (acc : FVec F S256x256 .f32 × FVec F S256x256 .f32) :
    { s : St F c arg12 arg13 arg14 //
      (iprop(inP c arg4 arg5 arg6 f4 f5 f6 ∗ outP c arg12 arg13 arg14 f12 f13 f14) : sProp 𝕄)
        ⊢ wp frame (wpE (defs₀ (F := F)) 𝒱₀ (c : Thread nD τ) none) Set.univ
            (k0_t1_body (F := F) i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 k acc)
            (fun acc' => iprop(inP c arg4 arg5 arg6 f4 f5 f6 ∗ (arg12.view.loc (c : Thread nD τ) ↦[arg12.view.set]{fullShare} s.1)
              ∗ (arg13.view.loc (c : Thread nD τ) ↦[arg13.view.set]{fullShare} s.2.1) ∗ (arg14.view.loc (c : Thread nD τ) ↦[arg14.view.set]{fullShare} s.2.2.1)
              ∗ ⌜acc' = s.2.2.2⌝)) } := by
  refine ⟨(?_, ?_, ?_, ?_), ?run⟩
  case run =>
    iintro ⟨⟨H4, H5, H6⟩, H12, H13, H14⟩
    sl_unfold [k0_t1_body]
    sl_exec
    sl_step
    isplitl [H4 H5 H6]
    · isplitl [H4]; · iexact H4
      isplitl [H5]; · iexact H5
      iexact H6
    isplitl [H12]; · iexact H12
    isplitl [H13]; · iexact H13
    isplitl [H14]; · iexact H14
    ipureintro
    rfl

/-- The state after `k` trips of loop 1 from `s0`. -/
def st1 (s0 : St F c arg12 arg13 arg14) : ℕ → St F c arg12 arg13 arg14
  | 0 => s0
  | k + 1 =>
    if h : k < (k0_t1_loop i).trips then
      (trip1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 ⟨k, h⟩ (st1 s0 k).1 (st1 s0 k).2.1 (st1 s0 k).2.2.1 (st1 s0 k).2.2.2).1
    else st1 s0 k

theorem st1_succ (s0 : St F c arg12 arg13 arg14) (k : Fin (k0_t1_loop i).trips) :
    st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 (k.val + 1)
      = (trip1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 k (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 k.val).1 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 k.val).2.1
          (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 k.val).2.2.1 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 k.val).2.2.2).1 := by
  rw [st1, dif_pos k.isLt]

theorem st1_zero (s0 : St F c arg12 arg13 arg14) : st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 0 = s0 := by rw [st1]

attribute [irreducible] st1

end Loop1

section Loop3

variable (arg1 : BitVec 32) (v12 : FVec F S256x256 .bf16) (v13 : Vec F S256x128 .f32) (v16 : FVec F S256x1 .f32) (v21 : FVec F S256x1 .f32) (v22 : FVec F S256x256 .f32) (v25 : FVec F S256x256 .bf16) (v26 : Vec F S256x128 .f32) (v28 : Vec F S256x1 .f32) (v30 : Vec F S256x128 .f32) (v47 : BitVec 32)
  (f4 : Buf (Elt F) (arg4.view.loc (c : Thread nD τ))) (f5 : Buf (Elt F) (arg5.view.loc (c : Thread nD τ)))
  (f6 : Buf (Elt F) (arg6.view.loc (c : Thread nD τ)))

/-- One trip of loop 3: what it leaves is found by executing it. -/
def trip3 (k : Fin (k0_t3_loop i).trips) (f12 : Buf (Elt F) (arg12.view.loc (c : Thread nD τ)))
    (f13 : Buf (Elt F) (arg13.view.loc (c : Thread nD τ))) (f14 : Buf (Elt F) (arg14.view.loc (c : Thread nD τ)))
    (acc : FVec F S256x256 .f32 × FVec F S256x256 .f32) :
    { s : St F c arg12 arg13 arg14 //
      (iprop(inP c arg4 arg5 arg6 f4 f5 f6 ∗ outP c arg12 arg13 arg14 f12 f13 f14) : sProp 𝕄)
        ⊢ wp frame (wpE (defs₀ (F := F)) 𝒱₀ (c : Thread nD τ) none) Set.univ
            (k0_t3_body (F := F) i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 k acc)
            (fun acc' => iprop(inP c arg4 arg5 arg6 f4 f5 f6 ∗ (arg12.view.loc (c : Thread nD τ) ↦[arg12.view.set]{fullShare} s.1)
              ∗ (arg13.view.loc (c : Thread nD τ) ↦[arg13.view.set]{fullShare} s.2.1) ∗ (arg14.view.loc (c : Thread nD τ) ↦[arg14.view.set]{fullShare} s.2.2.1)
              ∗ ⌜acc' = s.2.2.2⌝)) } := by
  refine ⟨(?_, ?_, ?_, ?_), ?run⟩
  case run =>
    iintro ⟨⟨H4, H5, H6⟩, H12, H13, H14⟩
    sl_unfold [k0_t3_body]
    sl_exec
    sl_step
    isplitl [H4 H5 H6]
    · isplitl [H4]; · iexact H4
      isplitl [H5]; · iexact H5
      iexact H6
    isplitl [H12]; · iexact H12
    isplitl [H13]; · iexact H13
    isplitl [H14]; · iexact H14
    ipureintro
    rfl

/-- The state after `k` trips of loop 3 from `s0`. -/
def st3 (s0 : St F c arg12 arg13 arg14) : ℕ → St F c arg12 arg13 arg14
  | 0 => s0
  | k + 1 =>
    if h : k < (k0_t3_loop i).trips then
      (trip3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 ⟨k, h⟩ (st3 s0 k).1 (st3 s0 k).2.1 (st3 s0 k).2.2.1 (st3 s0 k).2.2.2).1
    else st3 s0 k

theorem st3_succ (s0 : St F c arg12 arg13 arg14) (k : Fin (k0_t3_loop i).trips) :
    st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 (k.val + 1)
      = (trip3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 k (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 k.val).1 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 k.val).2.1
          (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 k.val).2.2.1 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 k.val).2.2.2).1 := by
  rw [st3, dif_pos k.isLt]

theorem st3_zero (s0 : St F c arg12 arg13 arg14) : st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 0 = s0 := by rw [st3]

attribute [irreducible] st3

end Loop3

section Loop5

variable (arg1 : BitVec 32) (v8 : IVec S256x256 32) (v9 : IVec S256x256 32) (v12 : FVec F S256x256 .bf16) (v13 : Vec F S256x128 .f32) (v16 : FVec F S256x1 .f32) (v21 : FVec F S256x1 .f32) (v25 : FVec F S256x256 .bf16) (v26 : Vec F S256x128 .f32) (v29 : FVec F S256x1 .f32) (v34 : FVec F S256x1 .f32) (v56_0 : FVec F S256x256 .f32) (v56_1 : FVec F S256x256 .f32) (v59 : BitVec 32) (c0_i32_40 : BitVec 32) (v65 : BitVec 32)
  (f4 : Buf (Elt F) (arg4.view.loc (c : Thread nD τ))) (f5 : Buf (Elt F) (arg5.view.loc (c : Thread nD τ)))
  (f6 : Buf (Elt F) (arg6.view.loc (c : Thread nD τ)))

/-- One trip of loop 5: what it leaves is found by executing it. -/
def trip5 (k : Fin (k0_t5_loop i).trips) (f12 : Buf (Elt F) (arg12.view.loc (c : Thread nD τ)))
    (f13 : Buf (Elt F) (arg13.view.loc (c : Thread nD τ))) (f14 : Buf (Elt F) (arg14.view.loc (c : Thread nD τ)))
    (acc : FVec F S256x256 .f32 × FVec F S256x256 .f32) :
    { s : St F c arg12 arg13 arg14 //
      (iprop(inP c arg4 arg5 arg6 f4 f5 f6 ∗ outP c arg12 arg13 arg14 f12 f13 f14) : sProp 𝕄)
        ⊢ wp frame (wpE (defs₀ (F := F)) 𝒱₀ (c : Thread nD τ) none) Set.univ
            (k0_t5_body (F := F) i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 k acc)
            (fun acc' => iprop(inP c arg4 arg5 arg6 f4 f5 f6 ∗ (arg12.view.loc (c : Thread nD τ) ↦[arg12.view.set]{fullShare} s.1)
              ∗ (arg13.view.loc (c : Thread nD τ) ↦[arg13.view.set]{fullShare} s.2.1) ∗ (arg14.view.loc (c : Thread nD τ) ↦[arg14.view.set]{fullShare} s.2.2.1)
              ∗ ⌜acc' = s.2.2.2⌝)) } := by
  refine ⟨(?_, ?_, ?_, ?_), ?run⟩
  case run =>
    iintro ⟨⟨H4, H5, H6⟩, H12, H13, H14⟩
    sl_unfold [k0_t5_body]
    sl_exec
    sl_step
    isplitl [H4 H5 H6]
    · isplitl [H4]; · iexact H4
      isplitl [H5]; · iexact H5
      iexact H6
    isplitl [H12]; · iexact H12
    isplitl [H13]; · iexact H13
    isplitl [H14]; · iexact H14
    ipureintro
    rfl

/-- The state after `k` trips of loop 5 from `s0`. -/
def st5 (s0 : St F c arg12 arg13 arg14) : ℕ → St F c arg12 arg13 arg14
  | 0 => s0
  | k + 1 =>
    if h : k < (k0_t5_loop i).trips then
      (trip5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 ⟨k, h⟩ (st5 s0 k).1 (st5 s0 k).2.1 (st5 s0 k).2.2.1 (st5 s0 k).2.2.2).1
    else st5 s0 k

theorem st5_succ (s0 : St F c arg12 arg13 arg14) (k : Fin (k0_t5_loop i).trips) :
    st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 (k.val + 1)
      = (trip5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 k (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 k.val).1 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 k.val).2.1
          (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 k.val).2.2.1 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 k.val).2.2.2).1 := by
  rw [st5, dif_pos k.isLt]

theorem st5_zero (s0 : St F c arg12 arg13 arg14) : st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 0 = s0 := by rw [st5]

attribute [irreducible] st5

end Loop5

end Trips

end Cert.KernelIdeal.Mla

end
-- ==== Proof.Mla.Invs.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Mla.Trips

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The first at zero, the second after. -/
@[reducible] def pick {α : Type} (k : ℕ) (a b : α) : α := Nat.rec a (fun _ _ => b) k

/-! The loops' invariants: before trip `k` the accumulated arrays hold what `k` trips have left. -/

section Invs

variable (c : Dev nD) (i : grid0.Coords)
  (arg2 : Memref sig .tc .vmem S256x256 .bf16) (harg2 : arg2.IsWhole)
  (arg3 : Memref sig .tc .vmem S256x256 .bf16) (harg3 : arg3.IsWhole)
  (arg4 : Memref sig .tc .vmem S4096x256 .bf16) (harg4 : arg4.IsWhole)
  (arg5 : Memref sig .tc .vmem S4096x128 .bf16) (harg5 : arg5.IsWhole)
  (arg6 : Memref sig .tc .vmem S4096x256 .bf16) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S4096x256 .f32) (harg12 : arg12.IsWhole)
  (arg13 : Memref sig .tc .vmem S4096x128 .f32) (harg13 : arg13.IsWhole)
  (arg14 : Memref sig .tc .vmem S4096x256 .f32) (harg14 : arg14.IsWhole)

section Loop1

variable (arg1 : BitVec 32) (v12 : FVec F S256x256 .bf16) (v13 : Vec F S256x128 .f32) (v16 : FVec F S256x1 .f32) (v21 : FVec F S256x1 .f32) (v22 : FVec F S256x256 .f32) (v25 : FVec F S256x256 .bf16) (v26 : Vec F S256x128 .f32) (v28 : Vec F S256x1 .f32) (v30 : Vec F S256x128 .f32)
  (f4 : Buf (Elt F) (arg4.view.loc (c : Thread nD τ))) (f5 : Buf (Elt F) (arg5.view.loc (c : Thread nD τ)))
  (f6 : Buf (Elt F) (arg6.view.loc (c : Thread nD τ)))

theorem pick1 (s0 : St F c arg12 arg13 arg14) (k : ℕ) :
    pick k s0.1 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 k).1 = (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 k).1
    ∧ pick k s0.2.1 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 k).2.1 = (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 k).2.1
    ∧ pick k s0.2.2.1 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 k).2.2.1 = (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 k).2.2.1
    ∧ pick k s0.2.2.2 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 k).2.2.2 = (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 s0 k).2.2.2 := by
  cases k
  · rw [st1_zero]; exact ⟨rfl, rfl, rfl, rfl⟩
  · exact ⟨rfl, rfl, rfl, rfl⟩

set_option warn.classDefReducibility false in
/-- Loop 1's invariant: the buffers hold the state after `k` trips. -/
@[sl_loop] def loopInv1 (f12 : Buf (Elt F) (arg12.view.loc (c : Thread nD τ)))
    (f13 : Buf (Elt F) (arg13.view.loc (c : Thread nD τ))) (f14 : Buf (Elt F) (arg14.view.loc (c : Thread nD τ)))
    (init : FVec F S256x256 .f32 × FVec F S256x256 .f32) :
    Gen.LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 init where
  inv k acc := iprop(inP c arg4 arg5 arg6 f4 f5 f6
    ∗ outP c arg12 arg13 arg14 (pick k f12 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) k).1)
        (pick k f13 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) k).2.1) (pick k f14 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) k).2.2.1)
    ∗ ⌜acc = pick k init (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) k).2.2.2⌝)
  step k acc := by
    obtain ⟨e1, e2, e3, e4⟩ := pick1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) k.val
    dsimp only at e1 e2 e3 e4
    rw [e1, e2, e3, e4]
    dsimp only [pick]
    rw [st1_succ]
    iintro ⟨H, H', %ha⟩
    subst ha
    iapply (wp_wand_r Idealize.ShloMosaic.frame (wpE (defs₀ (F := F)) 𝒱₀ (c : Thread nD τ) none) Set.univ)
    isplitl [H H']
    · iapply (trip1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 k _ _ _ _).2
      isplitl [H]; · iexact H
      iexact H'
    · iintro %_ ⟨HI, H12, H13, H14, HA⟩
      isplitl [HI]; · iexact HI
      isplitl [H12 H13 H14]
      · isplitl [H12]; · iexact H12
        isplitl [H13]; · iexact H13
        iexact H14
      iexact HA

/-- After loop 1 the buffers hold the state after all its trips. -/
instance (f12 : Buf (Elt F) (arg12.view.loc (c : Thread nD τ)))
    (f13 : Buf (Elt F) (arg13.view.loc (c : Thread nD τ))) (f14 : Buf (Elt F) (arg14.view.loc (c : Thread nD τ)))
    (init : FVec F S256x256 .f32 × FVec F S256x256 .f32) :
    LoopExit (loopInv1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 f12 f13 f14 init) where
  post acc := iprop(inP c arg4 arg5 arg6 f4 f5 f6
    ∗ outP c arg12 arg13 arg14 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) (k0_t1_loop i).trips).1
        (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) (k0_t1_loop i).trips).2.1 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) (k0_t1_loop i).trips).2.2.1
    ∗ ⌜acc = (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) (k0_t1_loop i).trips).2.2.2⌝)
  exit acc := by
    obtain ⟨e1, e2, e3, e4⟩ := pick1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) (k0_t1_loop i).trips
    dsimp only at e1 e2 e3 e4
    show iprop(inP c arg4 arg5 arg6 f4 f5 f6
      ∗ outP c arg12 arg13 arg14 (pick (k0_t1_loop i).trips f12 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) (k0_t1_loop i).trips).1)
          (pick (k0_t1_loop i).trips f13 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) (k0_t1_loop i).trips).2.1) (pick (k0_t1_loop i).trips f14 (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) (k0_t1_loop i).trips).2.2.1)
      ∗ ⌜acc = pick (k0_t1_loop i).trips init (st1 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 f4 f5 f6 (f12, f13, f14, init) (k0_t1_loop i).trips).2.2.2⌝) ⊢ _
    rw [e1, e2, e3, e4]

end Loop1

section Loop3

variable (arg1 : BitVec 32) (v12 : FVec F S256x256 .bf16) (v13 : Vec F S256x128 .f32) (v16 : FVec F S256x1 .f32) (v21 : FVec F S256x1 .f32) (v22 : FVec F S256x256 .f32) (v25 : FVec F S256x256 .bf16) (v26 : Vec F S256x128 .f32) (v28 : Vec F S256x1 .f32) (v30 : Vec F S256x128 .f32) (v47 : BitVec 32)
  (f4 : Buf (Elt F) (arg4.view.loc (c : Thread nD τ))) (f5 : Buf (Elt F) (arg5.view.loc (c : Thread nD τ)))
  (f6 : Buf (Elt F) (arg6.view.loc (c : Thread nD τ)))

theorem pick3 (s0 : St F c arg12 arg13 arg14) (k : ℕ) :
    pick k s0.1 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 k).1 = (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 k).1
    ∧ pick k s0.2.1 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 k).2.1 = (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 k).2.1
    ∧ pick k s0.2.2.1 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 k).2.2.1 = (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 k).2.2.1
    ∧ pick k s0.2.2.2 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 k).2.2.2 = (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 s0 k).2.2.2 := by
  cases k
  · rw [st3_zero]; exact ⟨rfl, rfl, rfl, rfl⟩
  · exact ⟨rfl, rfl, rfl, rfl⟩

set_option warn.classDefReducibility false in
/-- Loop 3's invariant: the buffers hold the state after `k` trips. -/
@[sl_loop] def loopInv3 (f12 : Buf (Elt F) (arg12.view.loc (c : Thread nD τ)))
    (f13 : Buf (Elt F) (arg13.view.loc (c : Thread nD τ))) (f14 : Buf (Elt F) (arg14.view.loc (c : Thread nD τ)))
    (init : FVec F S256x256 .f32 × FVec F S256x256 .f32) :
    Gen.LoopInvTy_k0_t3 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 init where
  inv k acc := iprop(inP c arg4 arg5 arg6 f4 f5 f6
    ∗ outP c arg12 arg13 arg14 (pick k f12 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) k).1)
        (pick k f13 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) k).2.1) (pick k f14 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) k).2.2.1)
    ∗ ⌜acc = pick k init (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) k).2.2.2⌝)
  step k acc := by
    obtain ⟨e1, e2, e3, e4⟩ := pick3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) k.val
    dsimp only at e1 e2 e3 e4
    rw [e1, e2, e3, e4]
    dsimp only [pick]
    rw [st3_succ]
    iintro ⟨H, H', %ha⟩
    subst ha
    iapply (wp_wand_r Idealize.ShloMosaic.frame (wpE (defs₀ (F := F)) 𝒱₀ (c : Thread nD τ) none) Set.univ)
    isplitl [H H']
    · iapply (trip3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 k _ _ _ _).2
      isplitl [H]; · iexact H
      iexact H'
    · iintro %_ ⟨HI, H12, H13, H14, HA⟩
      isplitl [HI]; · iexact HI
      isplitl [H12 H13 H14]
      · isplitl [H12]; · iexact H12
        isplitl [H13]; · iexact H13
        iexact H14
      iexact HA

/-- After loop 3 the buffers hold the state after all its trips. -/
instance (f12 : Buf (Elt F) (arg12.view.loc (c : Thread nD τ)))
    (f13 : Buf (Elt F) (arg13.view.loc (c : Thread nD τ))) (f14 : Buf (Elt F) (arg14.view.loc (c : Thread nD τ)))
    (init : FVec F S256x256 .f32 × FVec F S256x256 .f32) :
    LoopExit (loopInv3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 f12 f13 f14 init) where
  post acc := iprop(inP c arg4 arg5 arg6 f4 f5 f6
    ∗ outP c arg12 arg13 arg14 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) (k0_t3_loop i).trips).1
        (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) (k0_t3_loop i).trips).2.1 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) (k0_t3_loop i).trips).2.2.1
    ∗ ⌜acc = (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) (k0_t3_loop i).trips).2.2.2⌝)
  exit acc := by
    obtain ⟨e1, e2, e3, e4⟩ := pick3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) (k0_t3_loop i).trips
    dsimp only at e1 e2 e3 e4
    show iprop(inP c arg4 arg5 arg6 f4 f5 f6
      ∗ outP c arg12 arg13 arg14 (pick (k0_t3_loop i).trips f12 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) (k0_t3_loop i).trips).1)
          (pick (k0_t3_loop i).trips f13 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) (k0_t3_loop i).trips).2.1) (pick (k0_t3_loop i).trips f14 (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) (k0_t3_loop i).trips).2.2.1)
      ∗ ⌜acc = pick (k0_t3_loop i).trips init (st3 c i arg2 harg2 arg3 harg3 arg4 harg4 arg5 harg5 arg6 harg6 arg7 harg7 arg8 harg8 arg9 harg9 arg10 harg10 arg11 harg11 arg12 harg12 arg13 harg13 arg14 harg14 arg1 v12 v13 v16 v21 v22 v25 v26 v28 v30 v47 f4 f5 f6 (f12, f13, f14, init) (k0_t3_loop i).trips).2.2.2⌝) ⊢ _
    rw [e1, e2, e3, e4]

end Loop3

section Loop5

variable (arg1 : BitVec 32) (v8 : IVec S256x256 32) (v9 : IVec S256x256 32) (v12 : FVec F S256x256 .bf16) (v13 : Vec F S256x128 .f32) (v16 : FVec F S256x1 .f32) (v21 : FVec F S256x1 .f32) (v25 : FVec F S256x256 .bf16) (v26 : Vec F S256x128 .f32) (v29 : FVec F S256x1 .f32) (v34 : FVec F S256x1 .f32) (v56_0 : FVec F S256x256 .f32) (v56_1 : FVec F S256x256 .f32) (v59 : BitVec 32) (c0_i32_40 : BitVec 32) (v65 : BitVec 32)
  (f4 : Buf (Elt F) (arg4.view.loc (c : Thread nD τ))) (f5 : Buf (Elt F) (arg5.view.loc (c : Thread nD τ)))
  (f6 : Buf (Elt F) (arg6.view.loc (c : Thread nD τ)))

theorem pick5 (s0 : St F c arg12 arg13 arg14) (k : ℕ) :
    pick k s0.1 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 k).1 = (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 k).1
    ∧ pick k s0.2.1 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 k).2.1 = (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 k).2.1
    ∧ pick k s0.2.2.1 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 k).2.2.1 = (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 k).2.2.1
    ∧ pick k s0.2.2.2 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 k).2.2.2 = (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 s0 k).2.2.2 := by
  cases k
  · rw [st5_zero]; exact ⟨rfl, rfl, rfl, rfl⟩
  · exact ⟨rfl, rfl, rfl, rfl⟩

set_option warn.classDefReducibility false in
/-- Loop 5's invariant: the buffers hold the state after `k` trips. -/
@[sl_loop] def loopInv5 (f12 : Buf (Elt F) (arg12.view.loc (c : Thread nD τ)))
    (f13 : Buf (Elt F) (arg13.view.loc (c : Thread nD τ))) (f14 : Buf (Elt F) (arg14.view.loc (c : Thread nD τ)))
    (init : FVec F S256x256 .f32 × FVec F S256x256 .f32) :
    Gen.LoopInvTy_k0_t5 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 init where
  inv k acc := iprop(inP c arg4 arg5 arg6 f4 f5 f6
    ∗ outP c arg12 arg13 arg14 (pick k f12 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) k).1)
        (pick k f13 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) k).2.1) (pick k f14 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) k).2.2.1)
    ∗ ⌜acc = pick k init (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) k).2.2.2⌝)
  step k acc := by
    obtain ⟨e1, e2, e3, e4⟩ := pick5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) k.val
    dsimp only at e1 e2 e3 e4
    rw [e1, e2, e3, e4]
    dsimp only [pick]
    rw [st5_succ]
    iintro ⟨H, H', %ha⟩
    subst ha
    iapply (wp_wand_r Idealize.ShloMosaic.frame (wpE (defs₀ (F := F)) 𝒱₀ (c : Thread nD τ) none) Set.univ)
    isplitl [H H']
    · iapply (trip5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 k _ _ _ _).2
      isplitl [H]; · iexact H
      iexact H'
    · iintro %_ ⟨HI, H12, H13, H14, HA⟩
      isplitl [HI]; · iexact HI
      isplitl [H12 H13 H14]
      · isplitl [H12]; · iexact H12
        isplitl [H13]; · iexact H13
        iexact H14
      iexact HA

/-- After loop 5 the buffers hold the state after all its trips. -/
instance (f12 : Buf (Elt F) (arg12.view.loc (c : Thread nD τ)))
    (f13 : Buf (Elt F) (arg13.view.loc (c : Thread nD τ))) (f14 : Buf (Elt F) (arg14.view.loc (c : Thread nD τ)))
    (init : FVec F S256x256 .f32 × FVec F S256x256 .f32) :
    LoopExit (loopInv5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 f12 f13 f14 init) where
  post acc := iprop(inP c arg4 arg5 arg6 f4 f5 f6
    ∗ outP c arg12 arg13 arg14 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) (k0_t5_loop i).trips).1
        (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) (k0_t5_loop i).trips).2.1 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) (k0_t5_loop i).trips).2.2.1
    ∗ ⌜acc = (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) (k0_t5_loop i).trips).2.2.2⌝)
  exit acc := by
    obtain ⟨e1, e2, e3, e4⟩ := pick5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) (k0_t5_loop i).trips
    dsimp only at e1 e2 e3 e4
    show iprop(inP c arg4 arg5 arg6 f4 f5 f6
      ∗ outP c arg12 arg13 arg14 (pick (k0_t5_loop i).trips f12 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) (k0_t5_loop i).trips).1)
          (pick (k0_t5_loop i).trips f13 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) (k0_t5_loop i).trips).2.1) (pick (k0_t5_loop i).trips f14 (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) (k0_t5_loop i).trips).2.2.1)
      ∗ ⌜acc = pick (k0_t5_loop i).trips init (st5 c i arg2 harg2 arg3 harg3 arg4 harg4 arg5 harg5 arg6 harg6 arg7 harg7 arg8 harg8 arg9 harg9 arg10 harg10 arg11 harg11 arg12 harg12 arg13 harg13 arg14 harg14 arg1 v8 v9 v12 v13 v16 v21 v25 v26 v29 v34 v56_0 v56_1 v59 c0_i32_40 v65 f4 f5 f6 (f12, f13, f14, init) (k0_t5_loop i).trips).2.2.2⌝) ⊢ _
    rw [e1, e2, e3, e4]

end Loop5

end Invs

end Cert.KernelIdeal.Mla

end
-- ==== Proof.Mla.Head.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Mla.Invs

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-! The body at one grid point: the resets of the accumulated arrays and the loads of the query block,
before the sweep over the key blocks. -/

section Body

variable (c : Dev nD) (i : grid0.Coords)
  (arg2 : Memref sig .tc .vmem S256x256 .bf16) (harg2 : arg2.IsWhole)
  (arg3 : Memref sig .tc .vmem S256x256 .bf16) (harg3 : arg3.IsWhole)
  (arg4 : Memref sig .tc .vmem S4096x256 .bf16) (harg4 : arg4.IsWhole)
  (arg5 : Memref sig .tc .vmem S4096x128 .bf16) (harg5 : arg5.IsWhole)
  (arg6 : Memref sig .tc .vmem S4096x256 .bf16) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S4096x256 .f32) (harg12 : arg12.IsWhole)
  (arg13 : Memref sig .tc .vmem S4096x128 .f32) (harg13 : arg13.IsWhole)
  (arg14 : Memref sig .tc .vmem S4096x256 .f32) (harg14 : arg14.IsWhole)

variable (f2 : Buf (Elt F) (arg2.view.loc (c : Thread nD τ)))
  (f3 : Buf (Elt F) (arg3.view.loc (c : Thread nD τ)))
  (f4 : Buf (Elt F) (arg4.view.loc (c : Thread nD τ)))
  (f5 : Buf (Elt F) (arg5.view.loc (c : Thread nD τ)))
  (f6 : Buf (Elt F) (arg6.view.loc (c : Thread nD τ)))
  (f7 : Buf (Elt F) (arg7.view.loc (c : Thread nD τ)))
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))
  (f12 : Buf (Elt F) (arg12.view.loc (c : Thread nD τ)))
  (f13 : Buf (Elt F) (arg13.view.loc (c : Thread nD τ)))
  (f14 : Buf (Elt F) (arg14.view.loc (c : Thread nD τ)))

/-- The words of the reset conditions. -/
abbrev firstB (i : grid0.Coords) : BitVec 1 := Scalar.cmpi .ne (Scalar.extui (Scalar.cmpi .eq (BitVec.ofNat 32 (i 1).val) 0#32) : BitVec 32) 0#32
abbrev firstP (i : grid0.Coords) : BitVec 1 := Scalar.cmpi .ne (Scalar.extui (Scalar.andi (Scalar.cmpi .eq (BitVec.ofNat 32 (i 1).val) 0#32) (Scalar.cmpi .eq (BitVec.ofNat 32 (i 0).val) 0#32)) : BitVec 32) 0#32

theorem firstB_iff : ∀ i : grid0.Coords, firstB i = 1#1 ↔ (i 1).val = 0 := by decide +kernel
theorem firstP_iff : ∀ i : grid0.Coords, firstP i = 1#1 ↔ (i 1).val = 0 ∧ (i 0).val = 0 := by decide +kernel

/-- The key gradients a point starts from: zero at the first query block of a pair of heads. -/
def start12 : Buf (Elt F) (arg12.view.loc (c : Thread nD τ)) :=
  if (i 1).val = 0 then arg12.view.writes (Elt F) f12 [⟨Rect.unit ![0, 0] S4096x256.size inb_S4096x256_S4096x256_0_0, k0_pay233⟩] else f12
/-- The shared key gradient a point starts from: zero at the first point. -/
def start13 : Buf (Elt F) (arg13.view.loc (c : Thread nD τ)) :=
  if (i 1).val = 0 ∧ (i 0).val = 0 then arg13.view.writes (Elt F) f13 [⟨Rect.unit ![0, 0] S4096x128.size inb_S4096x128_S4096x128_0_0, k0_pay234⟩] else f13
/-- The value gradients a point starts from: zero at the first query block of a pair of heads. -/
def start14 : Buf (Elt F) (arg14.view.loc (c : Thread nD τ)) :=
  if (i 1).val = 0 then arg14.view.writes (Elt F) f14 [⟨Rect.unit ![0, 0] S4096x256.size inb_S4096x256_S4096x256_0_0, k0_pay232⟩] else f14

set_option maxHeartbeats 400000 in
/-- The resets and the first loads. -/
theorem head_spec :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱₀ (c : Thread nD τ) none) Set.univ (k0_part37 (F := F) i arg2 harg2 arg3 harg3 arg4 harg4 arg5 harg5 arg6 harg6 arg7 harg7 arg8 harg8 arg9 harg9 arg10 harg10 arg11 harg11 arg12 harg12 arg13 harg13 arg14 harg14)
        (fun r => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} (start12 c i arg12 f12)) ∗ (arg13.view.loc (c : Thread nD τ) ↦[arg13.view.set]{fullShare} (start13 c i arg13 f13)) ∗ (arg14.view.loc (c : Thread nD τ) ↦[arg14.view.set]{fullShare} (start14 c i arg14 f14))
          ∗ ⌜r = ⟨BitVec.ofNat 32 (i 1).val, iota .tc S256x256 32 [0] iota_S256x256_d0_w32, iota .tc S256x256 32 [1] iota_S256x256_d1_w32,
              k0_pay235 (View.readAt (Elt F) arg2.view (Rect.unit (s := S256x256) ![0, 0] S256x128.size inb_S256x256_S256x128_0_0).toLoadRect f2) (View.readAt (Elt F) arg3.view (Rect.unit (s := S256x256) ![0, 0] S256x128.size inb_S256x256_S256x128_0_0).toLoadRect f3), (View.readAt (Elt F) arg9.view (Rect.unit (s := S256x256) ![0, 0] S256x128.size inb_S256x256_S256x128_0_0).toLoadRect f9), k0_pay236 (View.readAt (Elt F) arg8.view ((Rect.unit (s := S256x256) ![0, 0] S256x128.size inb_S256x256_S256x128_0_0).withinL (Rect.unit (s := S256x128) ![0, 0] S256x1.size inb_S256x128_S256x1_0_0).toLoadRect (by decide)) f8),
              k0_pay237 (View.readAt (Elt F) arg9.view (Rect.unit (s := S256x256) ![0, 0] S256x128.size inb_S256x256_S256x128_0_0).toLoadRect f9) (View.readAt (Elt F) arg7.view (Rect.unit (s := S256x256) ![0, 0] S256x128.size inb_S256x256_S256x128_0_0).toLoadRect f7), k0_pay238, k0_pay239 (View.readAt (Elt F) arg2.view (Rect.unit (s := S256x256) ![0, 128] S256x128.size inb_S256x256_S256x128_0_128).toLoadRect f2) (View.readAt (Elt F) arg3.view (Rect.unit (s := S256x256) ![0, 128] S256x128.size inb_S256x256_S256x128_0_128).toLoadRect f3), (View.readAt (Elt F) arg9.view (Rect.unit (s := S256x256) ![0, 128] S256x128.size inb_S256x256_S256x128_0_128).toLoadRect f9)⟩⌝)) := by
  unfold start12 start13 start14
  have b1 := firstB_iff i
  have b2 := firstP_iff i
  by_cases h0 : (i 1).val = 0 <;> by_cases h1 : (i 1).val = 0 ∧ (i 0).val = 0 <;>
  ( first | rw [if_pos h0, if_pos h0] | rw [if_neg h0, if_neg h0]
    first | rw [if_pos h1] | rw [if_neg h1]
    first | replace b1 := b1.mpr h0 | replace b1 := mt b1.mp h0
    first | replace b2 := b2.mpr h1 | replace b2 := mt b2.mp h1
    iintro ⟨H2, H3, H4, H5, H6, H7, H8, H9, H10, H11, H12, H13, H14⟩
    sl_unfold [k0_part37]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    ipureintro; rfl )

attribute [irreducible] start12 start13 start14

end Body

end Cert.KernelIdeal.Mla

end
-- ==== Proof.Mla.Body.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Mla.Head

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-! The body at one grid point: the resets and the first loads (`head_spec`), then the sweep over the key blocks and the stores. -/

section Body

variable (c : Dev nD) (i : grid0.Coords)
  (arg2 : Memref sig .tc .vmem S256x256 .bf16) (harg2 : arg2.IsWhole)
  (arg3 : Memref sig .tc .vmem S256x256 .bf16) (harg3 : arg3.IsWhole)
  (arg4 : Memref sig .tc .vmem S4096x256 .bf16) (harg4 : arg4.IsWhole)
  (arg5 : Memref sig .tc .vmem S4096x128 .bf16) (harg5 : arg5.IsWhole)
  (arg6 : Memref sig .tc .vmem S4096x256 .bf16) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S4096x256 .f32) (harg12 : arg12.IsWhole)
  (arg13 : Memref sig .tc .vmem S4096x128 .f32) (harg13 : arg13.IsWhole)
  (arg14 : Memref sig .tc .vmem S4096x256 .f32) (harg14 : arg14.IsWhole)

variable (f4 : Buf (Elt F) (arg4.view.loc (c : Thread nD τ))) (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (s12 : Buf (Elt F) (arg12.view.loc (c : Thread nD τ))) (s13 : Buf (Elt F) (arg13.view.loc (c : Thread nD τ))) (s14 : Buf (Elt F) (arg14.view.loc (c : Thread nD τ)))
  (q0 : FVec F S256x256 .bf16) (d0 : Vec F S256x128 .f32) (z0 : FVec F S256x1 .f32) (w0 : FVec F S256x1 .f32) (q1 : FVec F S256x256 .bf16) (d1 : Vec F S256x128 .f32)

/-- What the body leaves: the halves of the two query gradients it stores, and the three key gradients' buffers. -/
structure Left where
  lo8 : Vec F S256x128 .f32
  hi8 : Vec F S256x128 .f32
  lo9 : Vec F S256x128 .f32
  hi9 : Vec F S256x128 .f32
  b12 : Buf (Elt F) (arg12.view.loc (c : Thread nD τ))
  b13 : Buf (Elt F) (arg13.view.loc (c : Thread nD τ))
  b14 : Buf (Elt F) (arg14.view.loc (c : Thread nD τ))

set_option maxHeartbeats 400000 in
/-- The body at a grid point: what it leaves in the five results' buffers is found by executing it. It depends on the
    results' buffers only through what the resets leave of them. -/
def bodyRun :
    { s : Left (F := F) c arg12 arg13 arg14 //
      ∀ (f2 : Buf (Elt F) (arg2.view.loc (c : Thread nD τ))) (f3 : Buf (Elt F) (arg3.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ)))
        (hq0 : k0_pay235 (View.readAt (Elt F) arg2.view (Rect.unit (s := S256x256) ![0, 0] S256x128.size inb_S256x256_S256x128_0_0).toLoadRect f2) (View.readAt (Elt F) arg3.view (Rect.unit (s := S256x256) ![0, 0] S256x128.size inb_S256x256_S256x128_0_0).toLoadRect f3) = q0) (hz0 : k0_pay236 (View.readAt (Elt F) arg8.view ((Rect.unit (s := S256x256) ![0, 0] S256x128.size inb_S256x256_S256x128_0_0).withinL (Rect.unit (s := S256x128) ![0, 0] S256x1.size inb_S256x128_S256x1_0_0).toLoadRect (by decide)) f8) = z0) (hw0 : k0_pay237 (View.readAt (Elt F) arg9.view (Rect.unit (s := S256x256) ![0, 0] S256x128.size inb_S256x256_S256x128_0_0).toLoadRect f9) (View.readAt (Elt F) arg7.view (Rect.unit (s := S256x256) ![0, 0] S256x128.size inb_S256x256_S256x128_0_0).toLoadRect f7) = w0) (hq1 : k0_pay239 (View.readAt (Elt F) arg2.view (Rect.unit (s := S256x256) ![0, 128] S256x128.size inb_S256x256_S256x128_0_128).toLoadRect f2) (View.readAt (Elt F) arg3.view (Rect.unit (s := S256x256) ![0, 128] S256x128.size inb_S256x256_S256x128_0_128).toLoadRect f3) = q1) (hd0 : (View.readAt (Elt F) arg9.view (Rect.unit (s := S256x256) ![0, 0] S256x128.size inb_S256x256_S256x128_0_0).toLoadRect f9) = d0) (hd1 : (View.readAt (Elt F) arg9.view (Rect.unit (s := S256x256) ![0, 128] S256x128.size inb_S256x256_S256x128_0_128).toLoadRect f9) = d1) (h12 : start12 c i arg12 f12 = s12) (h13 : start13 c i arg13 f13 = s13) (h14 : start14 c i arg14 f14 = s14),
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
        ⊢ wp frame (wpE (defs₀ (F := F)) 𝒱₀ (c : Thread nD τ) none) Set.univ (cc0_mla_core_bwd (F := F) i arg2 harg2 arg3 harg3 arg4 harg4 arg5 harg5 arg6 harg6 arg7 harg7 arg8 harg8 arg9 harg9 arg10 harg10 arg11 harg11 arg12 harg12 arg13 harg13 arg14 harg14)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
            ∗ (arg10.view.loc (c : Thread nD τ) ↦[arg10.view.set]{fullShare} (arg10.view.writes (Elt F) f10 [⟨Rect.unit (s := S256x256) ![0, 128] S256x128.size inb_S256x256_S256x128_0_128, s.hi8⟩, ⟨Rect.unit (s := S256x256) ![0, 0] S256x128.size inb_S256x256_S256x128_0_0, s.lo8⟩]))
            ∗ (arg11.view.loc (c : Thread nD τ) ↦[arg11.view.set]{fullShare} (arg11.view.writes (Elt F) f11 [⟨Rect.unit (s := S256x256) ![0, 128] S256x128.size inb_S256x256_S256x128_0_128, s.hi9⟩, ⟨Rect.unit (s := S256x256) ![0, 0] S256x128.size inb_S256x256_S256x128_0_0, s.lo9⟩]))
            ∗ (arg12.view.loc (c : Thread nD τ) ↦[arg12.view.set]{fullShare} s.b12) ∗ (arg13.view.loc (c : Thread nD τ) ↦[arg13.view.set]{fullShare} s.b13) ∗ (arg14.view.loc (c : Thread nD τ) ↦[arg14.view.set]{fullShare} s.b14))) } := by
  refine ⟨⟨?_, ?_, ?_, ?_, ?_, ?_, ?_⟩, ?run⟩
  case run =>
    intro f2 f3 f9 f10 f11 f12 f13 f14 hq0 hz0 hw0 hq1 hd0 hd1 h12 h13 h14
    have ht2 := trips2 i
    have ht4 := trips4 i
    have ht6 := trips6 i
    rw [cc0_mla_core_bwd_eq_skeleton]
    unfold cc0_mla_core_bwd_skel
    rw [wp_bind]
    iintro ⟨H2, H3, H4, H5, H6, H7, H8, H9, H10, H11, H12, H13, H14⟩
    iapply (wp_wand_r Idealize.ShloMosaic.frame (wpE (defs₀ (F := F)) 𝒱₀ (c : Thread nD τ) none) Set.univ)
    isplitl [H2 H3 H4 H5 H6 H7 H8 H9 H10 H11 H12 H13 H14]
    · iapply (head_spec c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    rw [hq0, hz0, hw0, hq1, hd0, hd1, h12, h13, h14]
    iintro %r ⟨H2, H3, H4, H5, H6, H7, H8, H9, H10, H11, H12, H13, H14, %hr⟩
    subst hr
    dsimp only
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Body

attribute [irreducible] bodyRun

end Cert.KernelIdeal.Mla

end
-- ==== Proof.Mla.Data.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Mla.Body
public import Idealize.ShloMosaic.Lib.WritesUnit

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-! The run of the kernel: what its outputs hold after every grid point, and the body's obligation there. -/

open Idealize.ShloMosaic.Pipeline (Dat BodyObligation)

section Reset

variable (c : Dev nD) (i : grid0.Coords)

/-- A buffer written over whole holds the same whatever it held. -/
theorem writes_whole {sp : Space} {s : Shape} {e : EltTy} (M : Memref sig .tc sp s e) (h : M.IsWhole) (off : Fin s.rank → ℕ) (inb : ∀ a, off a + s.size a ≤ s.size a)
    (p : (Rect.unit off s.size inb).shape.Idx → Elt F e) (f f' : M.view.ty.Contents (Elt F)) :
    M.view.writes (Elt F) f [⟨Rect.unit off s.size inb, p⟩] = M.view.writes (Elt F) f' [⟨Rect.unit off s.size inb, p⟩] := by
  apply h.read_bijective.1
  funext y
  have h0 : ∀ a, off a = 0 := fun a => by have := inb a; omega
  rw [View.read_writes_cons_unit_of_mem M.view f inb p [] y y rfl (fun a => by rw [h0 a, Nat.zero_add]), View.read_writes_cons_unit_of_mem M.view f' inb p [] y y rfl (fun a => by rw [h0 a, Nat.zero_add])]

unseal start12 in
theorem start12_indep (M : Memref sig .tc .vmem S4096x256 .f32) (h : M.IsWhole) (f f' : Buf (Elt F) (M.view.loc (c : Thread nD τ))) (h0 : (i 1).val = 0) :
    start12 c i M f = start12 c i M f' := by
  unfold start12; rw [if_pos h0, if_pos h0]; exact writes_whole M h _ _ _ f f'

unseal start13 in
theorem start13_indep (M : Memref sig .tc .vmem S4096x128 .f32) (h : M.IsWhole) (f f' : Buf (Elt F) (M.view.loc (c : Thread nD τ))) (h0 : (i 1).val = 0 ∧ (i 0).val = 0) :
    start13 c i M f = start13 c i M f' := by
  unfold start13; rw [if_pos h0, if_pos h0]; exact writes_whole M h _ _ _ f f'

unseal start14 in
theorem start14_indep (M : Memref sig .tc .vmem S4096x256 .f32) (h : M.IsWhole) (f f' : Buf (Elt F) (M.view.loc (c : Thread nD τ))) (h0 : (i 1).val = 0) :
    start14 c i M f = start14 c i M f' := by
  unfold start14; rw [if_pos h0, if_pos h0]; exact writes_whole M h _ _ _ f f'

end Reset

variable (m : (ℓ : Loc nD τ sig) → Buf (Elt F) ℓ) (c : Dev nD)

/-- The contents of the three key gradients' buffers, as read. -/
structure Keys (F : FTy → Type) [FloatOps F] where
  r12 : S4096x256.Idx → Elt F .f32
  r13 : S4096x128.Idx → Elt F .f32
  r14 : S4096x256.Idx → Elt F .f32

/-- What the body leaves at point `t`, begun on key gradients `X`. -/
def left (t : Fin cfg0.N) (X : Keys F) : Left (F := F) c (win0_10.stage (cfg0.slots t 10)) (win0_11.stage (cfg0.slots t 11)) (win0_12.stage (cfg0.slots t 12)) :=
  (bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) ((hstage0_2 ((cfg0.slots t 2).cast nbuf0_2)).unread (Val := Elt F) (iblk m c 2 t)) ((hstage0_3 ((cfg0.slots t 3).cast nbuf0_3)).unread (Val := Elt F) (iblk m c 3 t)) ((hstage0_4 ((cfg0.slots t 4).cast nbuf0_4)).unread (Val := Elt F) (iblk m c 4 t)) ((hstage0_5 ((cfg0.slots t 5).cast nbuf0_5)).unread (Val := Elt F) (iblk m c 5 t)) ((hstage0_6 ((cfg0.slots t 6).cast nbuf0_6)).unread (Val := Elt F) (iblk m c 6 t))
    (start12 c (grid0.coords t) (win0_10.stage (cfg0.slots t 10)) ((hstage0_10 ((cfg0.slots t 10).cast nbuf0_10)).unread X.r12)) (start13 c (grid0.coords t) (win0_11.stage (cfg0.slots t 11)) ((hstage0_11 ((cfg0.slots t 11).cast nbuf0_11)).unread X.r13)) (start14 c (grid0.coords t) (win0_12.stage (cfg0.slots t 12)) ((hstage0_12 ((cfg0.slots t 12).cast nbuf0_12)).unread X.r14))
    (k0_pay235 (View.readAt (Elt F) (win0_0.stage (cfg0.slots t 0)).view (Rect.unit (s := S256x256) ![0, 0] S256x128.size inb_S256x256_S256x128_0_0).toLoadRect ((hstage0_0 ((cfg0.slots t 0).cast nbuf0_0)).unread (Val := Elt F) (iblk m c 0 t))) (View.readAt (Elt F) (win0_1.stage (cfg0.slots t 1)).view (Rect.unit (s := S256x256) ![0, 0] S256x128.size inb_S256x256_S256x128_0_0).toLoadRect ((hstage0_1 ((cfg0.slots t 1).cast nbuf0_1)).unread (Val := Elt F) (iblk m c 1 t)))) (View.readAt (Elt F) (win0_7.stage (cfg0.slots t 7)).view (Rect.unit (s := S256x256) ![0, 0] S256x128.size inb_S256x256_S256x128_0_0).toLoadRect ((hstage0_7 ((cfg0.slots t 7).cast nbuf0_7)).unread (Val := Elt F) (iblk m c 7 t))) (k0_pay236 (View.readAt (Elt F) (win0_6.stage (cfg0.slots t 6)).view ((Rect.unit (s := S256x256) ![0, 0] S256x128.size inb_S256x256_S256x128_0_0).withinL (Rect.unit (s := S256x128) ![0, 0] S256x1.size inb_S256x128_S256x1_0_0).toLoadRect (by decide)) ((hstage0_6 ((cfg0.slots t 6).cast nbuf0_6)).unread (Val := Elt F) (iblk m c 6 t)))) (k0_pay237 (View.readAt (Elt F) (win0_7.stage (cfg0.slots t 7)).view (Rect.unit (s := S256x256) ![0, 0] S256x128.size inb_S256x256_S256x128_0_0).toLoadRect ((hstage0_7 ((cfg0.slots t 7).cast nbuf0_7)).unread (Val := Elt F) (iblk m c 7 t))) (View.readAt (Elt F) (win0_5.stage (cfg0.slots t 5)).view (Rect.unit (s := S256x256) ![0, 0] S256x128.size inb_S256x256_S256x128_0_0).toLoadRect ((hstage0_5 ((cfg0.slots t 5).cast nbuf0_5)).unread (Val := Elt F) (iblk m c 5 t)))) (k0_pay239 (View.readAt (Elt F) (win0_0.stage (cfg0.slots t 0)).view (Rect.unit (s := S256x256) ![0, 128] S256x128.size inb_S256x256_S256x128_0_128).toLoadRect ((hstage0_0 ((cfg0.slots t 0).cast nbuf0_0)).unread (Val := Elt F) (iblk m c 0 t))) (View.readAt (Elt F) (win0_1.stage (cfg0.slots t 1)).view (Rect.unit (s := S256x256) ![0, 128] S256x128.size inb_S256x256_S256x128_0_128).toLoadRect ((hstage0_1 ((cfg0.slots t 1).cast nbuf0_1)).unread (Val := Elt F) (iblk m c 1 t)))) (View.readAt (Elt F) (win0_7.stage (cfg0.slots t 7)).view (Rect.unit (s := S256x256) ![0, 128] S256x128.size inb_S256x256_S256x128_0_128).toLoadRect ((hstage0_7 ((cfg0.slots t 7).cast nbuf0_7)).unread (Val := Elt F) (iblk m c 7 t)))).1

/-- The key gradients after point `t`. -/
def step (t : Fin cfg0.N) (X : Keys F) : Keys F :=
  ⟨(win0_10.stage (cfg0.slots t 10)).view.read (Elt F) (left m c t X).b12, (win0_11.stage (cfg0.slots t 11)).view.read (Elt F) (left m c t X).b13, (win0_12.stage (cfg0.slots t 12)).view.read (Elt F) (left m c t X).b14⟩

/-- The key gradients before point `n`: zero at the start (the resets make what they hold there immaterial). -/
def keys (n : ℕ) : Keys F :=
  Nat.rec ⟨k0_pay233, k0_pay234, k0_pay232⟩ (fun k X => if h : k < cfg0.N then step m c ⟨k, h⟩ X else X) n

theorem keys_succ (t : Fin cfg0.N) : keys m c (t.val + 1) = step m c t (keys m c t.val) := by
  show (if h : t.val < cfg0.N then step m c ⟨t.val, h⟩ (keys m c t.val) else keys m c t.val) = _
  rw [dif_pos t.isLt]

/-- A query gradient's block, its two halves (the second one at the higher columns). -/
def halves (lo hi : S256x128.Idx → Elt F .f32) : S256x256.Idx → Elt F .f32 :=
  fun y => if h : (y 1).val < 128 then lo (fun a => ⟨(y a).val, by revert a; exact Fin.forall_fin_two.mpr ⟨(y 0).isLt, h⟩⟩)
    else hi (fun a => ⟨(y a).val - ![0, 128] a, by revert a; exact Fin.forall_fin_two.mpr ⟨(y 0).isLt, by have := (y 1).isLt; show (y 1).val - 128 < 128; have h2 : S256x256.size 1 = 256 := rfl; omega⟩⟩)

theorem read_halves (M : Memref sig .tc .vmem S256x256 .f32) (f : M.view.ty.Contents (Elt F)) (lo hi : S256x128.Idx → Elt F .f32) :
    M.view.read (Elt F) (M.view.writes (Elt F) f [⟨Rect.unit (s := S256x256) ![0, 128] S256x128.size inb_S256x256_S256x128_0_128, hi⟩, ⟨Rect.unit (s := S256x256) ![0, 0] S256x128.size inb_S256x256_S256x128_0_0, lo⟩])
      = halves lo hi := by
  funext y
  unfold halves
  by_cases h : (y 1).val < 128
  · rw [dif_pos h]
    rw [View.read_writes_cons_unit_of_not_mem M.view f _ _ _ y rfl 1 (.inl h)]
    exact View.read_writes_cons_unit_of_mem M.view f _ lo _ y _ rfl (fun a => by revert a; exact Fin.forall_fin_two.mpr ⟨(Nat.zero_add _).symm, (Nat.zero_add _).symm⟩)
  · rw [dif_neg h]
    exact View.read_writes_cons_unit_of_mem M.view f _ hi _ y _ rfl (fun a => by
      revert a; exact Fin.forall_fin_two.mpr ⟨(Nat.zero_add _).symm, by show (y 1).val = 128 + ((y 1).val - 128); omega⟩)

/-- What the results hold after point `t`. -/
def after0 : (w : Fin cfg0.W) → (t : Fin cfg0.N) → (cfg0.win w).block.Idx → Elt F (cfg0.win w).elt
  | 0, t => iblk m c 0 t | 1, t => iblk m c 1 t | 2, t => iblk m c 2 t | 3, t => iblk m c 3 t
  | 4, t => iblk m c 4 t | 5, t => iblk m c 5 t | 6, t => iblk m c 6 t | 7, t => iblk m c 7 t
  | 8, t => halves (left m c t (keys m c t.val)).lo8 (left m c t (keys m c t.val)).hi8
  | 9, t => halves (left m c t (keys m c t.val)).lo9 (left m c t (keys m c t.val)).hi9
  | 10, t => (keys m c (t.val + 1)).r12
  | 11, t => (keys m c (t.val + 1)).r13
  | 12, t => (keys m c (t.val + 1)).r14
  | ⟨_ + 13, h⟩, _ => absurd h (Nat.not_lt.2 (Nat.le_add_left _ _))

/-- The run's data. -/
def dats (_ : Fin 1) (c : Dev nD) : Dat τ (Elt F) Unit ℕ (UR sig nD τ) ℕ cfg0 c where
  A w := V m c (Pipeline.arrRef spec0 w)
  after := after0 m c
  Φ _ := Pipeline.ΦA spec0 c
  q _ := fullShare
  owed _ := 0

theorem before_0 (t : Fin cfg0.N) (d) : (dats m 0 c).before 0 t d = iblk m c 0 t := before0_0_of m (dats m 0 c) rfl (fun _ => rfl) t d
theorem before_1 (t : Fin cfg0.N) (d) : (dats m 0 c).before 1 t d = iblk m c 1 t := before0_1_of m (dats m 0 c) rfl (fun _ => rfl) t d
theorem before_2 (t : Fin cfg0.N) (d) : (dats m 0 c).before 2 t d = iblk m c 2 t := before0_2_of m (dats m 0 c) rfl (fun _ => rfl) t d
theorem before_3 (t : Fin cfg0.N) (d) : (dats m 0 c).before 3 t d = iblk m c 3 t := before0_3_of m (dats m 0 c) rfl (fun _ => rfl) t d
theorem before_4 (t : Fin cfg0.N) (d) : (dats m 0 c).before 4 t d = iblk m c 4 t := before0_4_of m (dats m 0 c) rfl (fun _ => rfl) t d
theorem before_5 (t : Fin cfg0.N) (d) : (dats m 0 c).before 5 t d = iblk m c 5 t := before0_5_of m (dats m 0 c) rfl (fun _ => rfl) t d
theorem before_6 (t : Fin cfg0.N) (d) : (dats m 0 c).before 6 t d = iblk m c 6 t := before0_6_of m (dats m 0 c) rfl (fun _ => rfl) t d
theorem before_7 (t : Fin cfg0.N) (d) : (dats m 0 c).before 7 t d = iblk m c 7 t := before0_7_of m (dats m 0 c) rfl (fun _ => rfl) t d

theorem coord1 : ∀ t : Fin cfg0.N, (grid0.coords t 1).val = t.val % 16 := by decide +kernel
theorem coord0 : ∀ t : Fin cfg0.N, (grid0.coords t 0).val = t.val / 16 := by decide +kernel

/-- What the body begins on in result 2: nothing that matters at a reset, what the last point left elsewhere. -/
theorem start_10 (t : Fin cfg0.N) (d) :
    start12 c (grid0.coords t) (win0_10.stage (cfg0.slots t 10)) ((hstage0_10 ((cfg0.slots t 10).cast nbuf0_10)).unread (Val := Elt F) ((dats m 0 c).before 10 t d)) = start12 c (grid0.coords t) (win0_10.stage (cfg0.slots t 10)) ((hstage0_10 ((cfg0.slots t 10).cast nbuf0_10)).unread (keys m c t.val).r12) := by
  by_cases h : t.val % 16 = 0
  · exact start12_indep c _ _ (hstage0_10 ((cfg0.slots t 10).cast nbuf0_10)) _ _ (coord1 t ▸ h)
  · have ht : t.val ≠ 0 := fun e => h (by rw [e])
    have hb : (dats m 0 c).before 10 t d = (keys m c t.val).r12 :=
      ((dats m 0 c).before_out_kept 10 rfl t ht
        (Bool.eq_false_iff.mpr (mt (flush0_10 ⟨t.val - 1, Nat.lt_of_le_of_lt (Nat.sub_le _ _) t.isLt⟩).mp (by show ¬ (t.val - 1) % 16 = 15; omega)))
        (fun _ => rfl) (fun _ _ => rfl) d).trans
      (by show (keys m c (t.val - 1 + 1)).r12 = _; rw [Nat.sub_add_cancel (Nat.pos_of_ne_zero ht)])
    rw [hb]

/-- What the body begins on in result 3: nothing that matters at a reset, what the last point left elsewhere. -/
theorem start_11 (t : Fin cfg0.N) (d) :
    start13 c (grid0.coords t) (win0_11.stage (cfg0.slots t 11)) ((hstage0_11 ((cfg0.slots t 11).cast nbuf0_11)).unread (Val := Elt F) ((dats m 0 c).before 11 t d)) = start13 c (grid0.coords t) (win0_11.stage (cfg0.slots t 11)) ((hstage0_11 ((cfg0.slots t 11).cast nbuf0_11)).unread (keys m c t.val).r13) := by
  by_cases h : t.val % 64 = 0
  · exact start13_indep c _ _ (hstage0_11 ((cfg0.slots t 11).cast nbuf0_11)) _ _ (by have h64 : t.val < 64 := lt_of_lt_of_eq t.isLt N_0; exact ⟨(coord1 t).trans (by omega), (coord0 t).trans (by omega)⟩)
  · have ht : t.val ≠ 0 := fun e => h (by rw [e])
    have hb : (dats m 0 c).before 11 t d = (keys m c t.val).r13 :=
      ((dats m 0 c).before_out_kept 11 rfl t ht
        (Bool.eq_false_iff.mpr (mt (flush0_11 ⟨t.val - 1, Nat.lt_of_le_of_lt (Nat.sub_le _ _) t.isLt⟩).mp (by show ¬ (t.val - 1) % 64 = 63; omega)))
        (fun _ => rfl) (fun _ _ => rfl) d).trans
      (by show (keys m c (t.val - 1 + 1)).r13 = _; rw [Nat.sub_add_cancel (Nat.pos_of_ne_zero ht)])
    rw [hb]

/-- What the body begins on in result 4: nothing that matters at a reset, what the last point left elsewhere. -/
theorem start_12 (t : Fin cfg0.N) (d) :
    start14 c (grid0.coords t) (win0_12.stage (cfg0.slots t 12)) ((hstage0_12 ((cfg0.slots t 12).cast nbuf0_12)).unread (Val := Elt F) ((dats m 0 c).before 12 t d)) = start14 c (grid0.coords t) (win0_12.stage (cfg0.slots t 12)) ((hstage0_12 ((cfg0.slots t 12).cast nbuf0_12)).unread (keys m c t.val).r14) := by
  by_cases h : t.val % 16 = 0
  · exact start14_indep c _ _ (hstage0_12 ((cfg0.slots t 12).cast nbuf0_12)) _ _ (coord1 t ▸ h)
  · have ht : t.val ≠ 0 := fun e => h (by rw [e])
    have hb : (dats m 0 c).before 12 t d = (keys m c t.val).r14 :=
      ((dats m 0 c).before_out_kept 12 rfl t ht
        (Bool.eq_false_iff.mpr (mt (flush0_12 ⟨t.val - 1, Nat.lt_of_le_of_lt (Nat.sub_le _ _) t.isLt⟩).mp (by show ¬ (t.val - 1) % 16 = 15; omega)))
        (fun _ => rfl) (fun _ _ => rfl) d).trans
      (by show (keys m c (t.val - 1 + 1)).r14 = _; rw [Nat.sub_add_cancel (Nat.pos_of_ne_zero ht)])
    rw [hb]

theorem defs_tc : defs₀ (F := F) .tc cfg0.body = fun a => cc0_mla_core_bwd (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (win0_8.stage (a.2 8)) (hstage0_8 ((a.2 8).cast nbuf0_8)) (win0_9.stage (a.2 9)) (hstage0_9 ((a.2 9).cast nbuf0_9)) (win0_10.stage (a.2 10)) (hstage0_10 ((a.2 10).cast nbuf0_10)) (win0_11.stage (a.2 11)) (hstage0_11 ((a.2 11).cast nbuf0_11)) (win0_12.stage (a.2 12)) (hstage0_12 ((a.2 12).cast nbuf0_12)) := rfl
theorem prog_eq (t : Fin cfg0.N) : defs₀ (F := F) .tc cfg0.body (cfg0.bodyArgs t (cfg0.slots t)) = cc0_mla_core_bwd (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) :=
  (congrFun defs_tc _).trans rfl

/-- The body at point `t`, on the blocks it finds. -/
theorem body_at (t : Fin cfg0.N) (f10 : Buf (Elt F) ((win0_8.stage (cfg0.slots t 8)).view.loc (c : Thread nD τ))) (f11 : Buf (Elt F) ((win0_9.stage (cfg0.slots t 9)).view.loc (c : Thread nD τ))) (f12 : Buf (Elt F) ((win0_10.stage (cfg0.slots t 10)).view.loc (c : Thread nD τ))) (f13 : Buf (Elt F) ((win0_11.stage (cfg0.slots t 11)).view.loc (c : Thread nD τ))) (f14 : Buf (Elt F) ((win0_12.stage (cfg0.slots t 12)).view.loc (c : Thread nD τ)))
    (h12 : start12 c (grid0.coords t) (win0_10.stage (cfg0.slots t 10)) f12 = start12 c (grid0.coords t) (win0_10.stage (cfg0.slots t 10)) ((hstage0_10 ((cfg0.slots t 10).cast nbuf0_10)).unread (keys m c t.val).r12)) (h13 : start13 c (grid0.coords t) (win0_11.stage (cfg0.slots t 11)) f13 = start13 c (grid0.coords t) (win0_11.stage (cfg0.slots t 11)) ((hstage0_11 ((cfg0.slots t 11).cast nbuf0_11)).unread (keys m c t.val).r13)) (h14 : start14 c (grid0.coords t) (win0_12.stage (cfg0.slots t 12)) f14 = start14 c (grid0.coords t) (win0_12.stage (cfg0.slots t 12)) ((hstage0_12 ((cfg0.slots t 12).cast nbuf0_12)).unread (keys m c t.val).r14)) :
    (iprop(((win0_0.stage (cfg0.slots t 0)).view.loc (c : Thread nD τ) ↦[(win0_0.stage (cfg0.slots t 0)).view.set]{fullShare} ((hstage0_0 ((cfg0.slots t 0).cast nbuf0_0)).unread (Val := Elt F) (iblk m c 0 t))) ∗ ((win0_1.stage (cfg0.slots t 1)).view.loc (c : Thread nD τ) ↦[(win0_1.stage (cfg0.slots t 1)).view.set]{fullShare} ((hstage0_1 ((cfg0.slots t 1).cast nbuf0_1)).unread (Val := Elt F) (iblk m c 1 t))) ∗ ((win0_2.stage (cfg0.slots t 2)).view.loc (c : Thread nD τ) ↦[(win0_2.stage (cfg0.slots t 2)).view.set]{fullShare} ((hstage0_2 ((cfg0.slots t 2).cast nbuf0_2)).unread (Val := Elt F) (iblk m c 2 t))) ∗ ((win0_3.stage (cfg0.slots t 3)).view.loc (c : Thread nD τ) ↦[(win0_3.stage (cfg0.slots t 3)).view.set]{fullShare} ((hstage0_3 ((cfg0.slots t 3).cast nbuf0_3)).unread (Val := Elt F) (iblk m c 3 t))) ∗ ((win0_4.stage (cfg0.slots t 4)).view.loc (c : Thread nD τ) ↦[(win0_4.stage (cfg0.slots t 4)).view.set]{fullShare} ((hstage0_4 ((cfg0.slots t 4).cast nbuf0_4)).unread (Val := Elt F) (iblk m c 4 t))) ∗ ((win0_5.stage (cfg0.slots t 5)).view.loc (c : Thread nD τ) ↦[(win0_5.stage (cfg0.slots t 5)).view.set]{fullShare} ((hstage0_5 ((cfg0.slots t 5).cast nbuf0_5)).unread (Val := Elt F) (iblk m c 5 t))) ∗ ((win0_6.stage (cfg0.slots t 6)).view.loc (c : Thread nD τ) ↦[(win0_6.stage (cfg0.slots t 6)).view.set]{fullShare} ((hstage0_6 ((cfg0.slots t 6).cast nbuf0_6)).unread (Val := Elt F) (iblk m c 6 t))) ∗ ((win0_7.stage (cfg0.slots t 7)).view.loc (c : Thread nD τ) ↦[(win0_7.stage (cfg0.slots t 7)).view.set]{fullShare} ((hstage0_7 ((cfg0.slots t 7).cast nbuf0_7)).unread (Val := Elt F) (iblk m c 7 t))) ∗ ((win0_8.stage (cfg0.slots t 8)).view.loc (c : Thread nD τ) ↦[(win0_8.stage (cfg0.slots t 8)).view.set]{fullShare} f10) ∗ ((win0_9.stage (cfg0.slots t 9)).view.loc (c : Thread nD τ) ↦[(win0_9.stage (cfg0.slots t 9)).view.set]{fullShare} f11) ∗ ((win0_10.stage (cfg0.slots t 10)).view.loc (c : Thread nD τ) ↦[(win0_10.stage (cfg0.slots t 10)).view.set]{fullShare} f12) ∗ ((win0_11.stage (cfg0.slots t 11)).view.loc (c : Thread nD τ) ↦[(win0_11.stage (cfg0.slots t 11)).view.set]{fullShare} f13) ∗ ((win0_12.stage (cfg0.slots t 12)).view.loc (c : Thread nD τ) ↦[(win0_12.stage (cfg0.slots t 12)).view.set]{fullShare} f14)) : sProp 𝕄) ⊢ wp frame (wpE (defs₀ (F := F)) 𝒱₀ (c : Thread nD τ) none) Set.univ (cc0_mla_core_bwd (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)))
      (fun _ => iprop(((win0_0.stage (cfg0.slots t 0)).view.loc (c : Thread nD τ) ↦[(win0_0.stage (cfg0.slots t 0)).view.set]{fullShare} ((hstage0_0 ((cfg0.slots t 0).cast nbuf0_0)).unread (Val := Elt F) (iblk m c 0 t))) ∗ ((win0_1.stage (cfg0.slots t 1)).view.loc (c : Thread nD τ) ↦[(win0_1.stage (cfg0.slots t 1)).view.set]{fullShare} ((hstage0_1 ((cfg0.slots t 1).cast nbuf0_1)).unread (Val := Elt F) (iblk m c 1 t))) ∗ ((win0_2.stage (cfg0.slots t 2)).view.loc (c : Thread nD τ) ↦[(win0_2.stage (cfg0.slots t 2)).view.set]{fullShare} ((hstage0_2 ((cfg0.slots t 2).cast nbuf0_2)).unread (Val := Elt F) (iblk m c 2 t))) ∗ ((win0_3.stage (cfg0.slots t 3)).view.loc (c : Thread nD τ) ↦[(win0_3.stage (cfg0.slots t 3)).view.set]{fullShare} ((hstage0_3 ((cfg0.slots t 3).cast nbuf0_3)).unread (Val := Elt F) (iblk m c 3 t))) ∗ ((win0_4.stage (cfg0.slots t 4)).view.loc (c : Thread nD τ) ↦[(win0_4.stage (cfg0.slots t 4)).view.set]{fullShare} ((hstage0_4 ((cfg0.slots t 4).cast nbuf0_4)).unread (Val := Elt F) (iblk m c 4 t))) ∗ ((win0_5.stage (cfg0.slots t 5)).view.loc (c : Thread nD τ) ↦[(win0_5.stage (cfg0.slots t 5)).view.set]{fullShare} ((hstage0_5 ((cfg0.slots t 5).cast nbuf0_5)).unread (Val := Elt F) (iblk m c 5 t))) ∗ ((win0_6.stage (cfg0.slots t 6)).view.loc (c : Thread nD τ) ↦[(win0_6.stage (cfg0.slots t 6)).view.set]{fullShare} ((hstage0_6 ((cfg0.slots t 6).cast nbuf0_6)).unread (Val := Elt F) (iblk m c 6 t))) ∗ ((win0_7.stage (cfg0.slots t 7)).view.loc (c : Thread nD τ) ↦[(win0_7.stage (cfg0.slots t 7)).view.set]{fullShare} ((hstage0_7 ((cfg0.slots t 7).cast nbuf0_7)).unread (Val := Elt F) (iblk m c 7 t))) ∗ ((win0_8.stage (cfg0.slots t 8)).view.loc (c : Thread nD τ) ↦[(win0_8.stage (cfg0.slots t 8)).view.set]{fullShare} ((win0_8.stage (cfg0.slots t 8)).view.writes (Elt F) f10 [⟨Rect.unit (s := S256x256) ![0, 128] S256x128.size inb_S256x256_S256x128_0_128, (left m c t (keys m c t.val)).hi8⟩, ⟨Rect.unit (s := S256x256) ![0, 0] S256x128.size inb_S256x256_S256x128_0_0, (left m c t (keys m c t.val)).lo8⟩])) ∗ ((win0_9.stage (cfg0.slots t 9)).view.loc (c : Thread nD τ) ↦[(win0_9.stage (cfg0.slots t 9)).view.set]{fullShare} ((win0_9.stage (cfg0.slots t 9)).view.writes (Elt F) f11 [⟨Rect.unit (s := S256x256) ![0, 128] S256x128.size inb_S256x256_S256x128_0_128, (left m c t (keys m c t.val)).hi9⟩, ⟨Rect.unit (s := S256x256) ![0, 0] S256x128.size inb_S256x256_S256x128_0_0, (left m c t (keys m c t.val)).lo9⟩])) ∗ ((win0_10.stage (cfg0.slots t 10)).view.loc (c : Thread nD τ) ↦[(win0_10.stage (cfg0.slots t 10)).view.set]{fullShare} (left m c t (keys m c t.val)).b12) ∗ ((win0_11.stage (cfg0.slots t 11)).view.loc (c : Thread nD τ) ↦[(win0_11.stage (cfg0.slots t 11)).view.set]{fullShare} (left m c t (keys m c t.val)).b13) ∗ ((win0_12.stage (cfg0.slots t 12)).view.loc (c : Thread nD τ) ↦[(win0_12.stage (cfg0.slots t 12)).view.set]{fullShare} (left m c t (keys m c t.val)).b14))) :=
  by unfold left; exact (bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) ((hstage0_2 ((cfg0.slots t 2).cast nbuf0_2)).unread (Val := Elt F) (iblk m c 2 t)) ((hstage0_3 ((cfg0.slots t 3).cast nbuf0_3)).unread (Val := Elt F) (iblk m c 3 t)) ((hstage0_4 ((cfg0.slots t 4).cast nbuf0_4)).unread (Val := Elt F) (iblk m c 4 t)) ((hstage0_5 ((cfg0.slots t 5).cast nbuf0_5)).unread (Val := Elt F) (iblk m c 5 t)) ((hstage0_6 ((cfg0.slots t 6).cast nbuf0_6)).unread (Val := Elt F) (iblk m c 6 t)) _ _ _ _ _ _ _ _ _).2 ((hstage0_0 ((cfg0.slots t 0).cast nbuf0_0)).unread (Val := Elt F) (iblk m c 0 t)) ((hstage0_1 ((cfg0.slots t 1).cast nbuf0_1)).unread (Val := Elt F) (iblk m c 1 t)) ((hstage0_7 ((cfg0.slots t 7).cast nbuf0_7)).unread (Val := Elt F) (iblk m c 7 t)) f10 f11 f12 f13 f14 rfl rfl rfl rfl rfl rfl h12 h13 h14

attribute [irreducible] left keys step halves

theorem after_0 (t : Fin cfg0.N) : (dats m 0 c).after 0 t = iblk m c 0 t := rfl
theorem after_1 (t : Fin cfg0.N) : (dats m 0 c).after 1 t = iblk m c 1 t := rfl
theorem after_2 (t : Fin cfg0.N) : (dats m 0 c).after 2 t = iblk m c 2 t := rfl
theorem after_3 (t : Fin cfg0.N) : (dats m 0 c).after 3 t = iblk m c 3 t := rfl
theorem after_4 (t : Fin cfg0.N) : (dats m 0 c).after 4 t = iblk m c 4 t := rfl
theorem after_5 (t : Fin cfg0.N) : (dats m 0 c).after 5 t = iblk m c 5 t := rfl
theorem after_6 (t : Fin cfg0.N) : (dats m 0 c).after 6 t = iblk m c 6 t := rfl
theorem after_7 (t : Fin cfg0.N) : (dats m 0 c).after 7 t = iblk m c 7 t := rfl
theorem after_8 (t : Fin cfg0.N) : (dats m 0 c).after 8 t = halves (left m c t (keys m c t.val)).lo8 (left m c t (keys m c t.val)).hi8 := rfl
theorem after_9 (t : Fin cfg0.N) : (dats m 0 c).after 9 t = halves (left m c t (keys m c t.val)).lo9 (left m c t (keys m c t.val)).hi9 := rfl
unseal step in
theorem after_10 (t : Fin cfg0.N) : (dats m 0 c).after 10 t = (win0_10.stage (cfg0.slots t 10)).view.read (Elt F) (left m c t (keys m c t.val)).b12 := congrArg Keys.r12 (keys_succ m c t)
unseal step in
theorem after_11 (t : Fin cfg0.N) : (dats m 0 c).after 11 t = (win0_11.stage (cfg0.slots t 11)).view.read (Elt F) (left m c t (keys m c t.val)).b13 := congrArg Keys.r13 (keys_succ m c t)
unseal step in
theorem after_12 (t : Fin cfg0.N) : (dats m 0 c).after 12 t = (win0_12.stage (cfg0.slots t 12)).view.read (Elt F) (left m c t (keys m c t.val)).b14 := congrArg Keys.r14 (keys_succ m c t)

end Cert.KernelIdeal.Mla

end
-- ==== Proof.Mla.Run.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Mla.Data
public import Idealize.ShloMosaic.Lib.WritesUnit

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ
open Idealize.ShloMosaic.Pipeline (Dat BodyObligation)

/-! The body's obligation at every grid point, and the run of the kernel. -/

variable (m : (ℓ : Loc nD τ sig) → Buf (Elt F) ℓ) (c : Dev nD)

omit [FloatOps F] in
theorem owns_open {sp : Space} {s : Shape} {e : EltTy} (M : Memref sig .tc sp s e) (h : M.IsWhole) (X : s.Idx → Elt F e) :
    (owns (c : Thread nD τ) M fullShare X : sProp 𝕄) ⊢ (M.view.loc (c : Thread nD τ) ↦[M.view.set]{fullShare} h.unread X) := by
  unfold owns
  iintro ⟨%f, %e, H⟩
  obtain rfl := h.eq_unread e
  iexact H

omit [FloatOps F] in
theorem owns_close {sp : Space} {s : Shape} {e : EltTy} (M : Memref sig .tc sp s e) (f : Buf (Elt F) (M.view.loc (c : Thread nD τ))) (X : s.Idx → Elt F e) (h : M.view.read (Elt F) f = X) :
    (M.view.loc (c : Thread nD τ) ↦[M.view.set]{fullShare} f) ⊢ (owns (c : Thread nD τ) M fullShare X : sProp 𝕄) := by
  unfold owns
  iintro H
  iexists f
  isplitr; · ipureintro; exact h
  iexact H

set_option backward.isDefEq.respectTransparency.types false in
/-- The body does at every point what the data say. -/
theorem body_obligation : BodyObligation (dats (F := F) m 0 c) defs₀ 𝒱₀ () Set.univ := fun t => by
  rw [bigSep_W0, bigSep_W0]
  dsimp only
  simp only [before_0, before_1, before_2, before_3, before_4, before_5, before_6, before_7, after_0, after_1, after_2, after_3, after_4, after_5, after_6, after_7, after_8, after_9, after_10, after_11, after_12]
  rw [show (dats m 0 c).Φ t.castSucc = Pipeline.ΦA spec0 c from rfl, show (dats m 0 c).Φ t.succ = Pipeline.ΦA spec0 c from rfl]
  unfold Dat.owesAt Pipeline.owesWithin
  rw [show (dats m 0 c).owed t.castSucc = 0 from rfl, show (dats m 0 c).owed t.succ = 0 from rfl]
  iintro ⟨HΦ, Hw, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  sl_rw [prog_eq t]
  iapply (wp_wand_r Idealize.ShloMosaic.frame (wpE (defs₀ (F := F)) 𝒱₀ (c : Thread nD τ) none) Set.univ)
  isplitl [H2 H3 H4 H5 H6 H7 H8 H9 H10 H11 H12 H13 H14]
  · iapply (body_at m c t ((hstage0_8 ((cfg0.slots t 8).cast nbuf0_8)).unread ((dats m 0 c).before 8 t d10)) ((hstage0_9 ((cfg0.slots t 9).cast nbuf0_9)).unread ((dats m 0 c).before 9 t d11)) ((hstage0_10 ((cfg0.slots t 10).cast nbuf0_10)).unread ((dats m 0 c).before 10 t d12)) ((hstage0_11 ((cfg0.slots t 11).cast nbuf0_11)).unread ((dats m 0 c).before 11 t d13)) ((hstage0_12 ((cfg0.slots t 12).cast nbuf0_12)).unread ((dats m 0 c).before 12 t d14))
      (start_10 m c t d12) (start_11 m c t d13) (start_12 m c t d14))
    isplitl [H2]; · iapply (owns_open c (win0_0.stage (cfg0.slots t 0)) (hstage0_0 ((cfg0.slots t 0).cast nbuf0_0)) (iblk m c 0 t)); iexact H2
    isplitl [H3]; · iapply (owns_open c (win0_1.stage (cfg0.slots t 1)) (hstage0_1 ((cfg0.slots t 1).cast nbuf0_1)) (iblk m c 1 t)); iexact H3
    isplitl [H4]; · iapply (owns_open c (win0_2.stage (cfg0.slots t 2)) (hstage0_2 ((cfg0.slots t 2).cast nbuf0_2)) (iblk m c 2 t)); iexact H4
    isplitl [H5]; · iapply (owns_open c (win0_3.stage (cfg0.slots t 3)) (hstage0_3 ((cfg0.slots t 3).cast nbuf0_3)) (iblk m c 3 t)); iexact H5
    isplitl [H6]; · iapply (owns_open c (win0_4.stage (cfg0.slots t 4)) (hstage0_4 ((cfg0.slots t 4).cast nbuf0_4)) (iblk m c 4 t)); iexact H6
    isplitl [H7]; · iapply (owns_open c (win0_5.stage (cfg0.slots t 5)) (hstage0_5 ((cfg0.slots t 5).cast nbuf0_5)) (iblk m c 5 t)); iexact H7
    isplitl [H8]; · iapply (owns_open c (win0_6.stage (cfg0.slots t 6)) (hstage0_6 ((cfg0.slots t 6).cast nbuf0_6)) (iblk m c 6 t)); iexact H8
    isplitl [H9]; · iapply (owns_open c (win0_7.stage (cfg0.slots t 7)) (hstage0_7 ((cfg0.slots t 7).cast nbuf0_7)) (iblk m c 7 t)); iexact H9
    isplitl [H10]; · iapply (owns_open c (win0_8.stage (cfg0.slots t 8)) (hstage0_8 ((cfg0.slots t 8).cast nbuf0_8)) ((dats m 0 c).before 8 t d10)); iexact H10
    isplitl [H11]; · iapply (owns_open c (win0_9.stage (cfg0.slots t 9)) (hstage0_9 ((cfg0.slots t 9).cast nbuf0_9)) ((dats m 0 c).before 9 t d11)); iexact H11
    isplitl [H12]; · iapply (owns_open c (win0_10.stage (cfg0.slots t 10)) (hstage0_10 ((cfg0.slots t 10).cast nbuf0_10)) ((dats m 0 c).before 10 t d12)); iexact H12
    isplitl [H13]; · iapply (owns_open c (win0_11.stage (cfg0.slots t 11)) (hstage0_11 ((cfg0.slots t 11).cast nbuf0_11)) ((dats m 0 c).before 11 t d13)); iexact H13
    iapply (owns_open c (win0_12.stage (cfg0.slots t 12)) (hstage0_12 ((cfg0.slots t 12).cast nbuf0_12)) ((dats m 0 c).before 12 t d14)); iexact H14
  iintro %_ ⟨H2, H3, H4, H5, H6, H7, H8, H9, H10, H11, H12, H13, H14⟩
  isplitl [HΦ]; · iexact HΦ
  isplitl [Hw]; · iexact Hw
  isplitl [H2]; · iapply (owns_close c (win0_0.stage (cfg0.slots t 0)) _ _ ((hstage0_0 ((cfg0.slots t 0).cast nbuf0_0)).read_unread _)); iexact H2
  isplitl [H3]; · iapply (owns_close c (win0_1.stage (cfg0.slots t 1)) _ _ ((hstage0_1 ((cfg0.slots t 1).cast nbuf0_1)).read_unread _)); iexact H3
  isplitl [H4]; · iapply (owns_close c (win0_2.stage (cfg0.slots t 2)) _ _ ((hstage0_2 ((cfg0.slots t 2).cast nbuf0_2)).read_unread _)); iexact H4
  isplitl [H5]; · iapply (owns_close c (win0_3.stage (cfg0.slots t 3)) _ _ ((hstage0_3 ((cfg0.slots t 3).cast nbuf0_3)).read_unread _)); iexact H5
  isplitl [H6]; · iapply (owns_close c (win0_4.stage (cfg0.slots t 4)) _ _ ((hstage0_4 ((cfg0.slots t 4).cast nbuf0_4)).read_unread _)); iexact H6
  isplitl [H7]; · iapply (owns_close c (win0_5.stage (cfg0.slots t 5)) _ _ ((hstage0_5 ((cfg0.slots t 5).cast nbuf0_5)).read_unread _)); iexact H7
  isplitl [H8]; · iapply (owns_close c (win0_6.stage (cfg0.slots t 6)) _ _ ((hstage0_6 ((cfg0.slots t 6).cast nbuf0_6)).read_unread _)); iexact H8
  isplitl [H9]; · iapply (owns_close c (win0_7.stage (cfg0.slots t 7)) _ _ ((hstage0_7 ((cfg0.slots t 7).cast nbuf0_7)).read_unread _)); iexact H9
  isplitl [H10]; · iapply (owns_close c (win0_8.stage (cfg0.slots t 8)) _ _ (read_halves _ _ _ _)); iexact H10
  isplitl [H11]; · iapply (owns_close c (win0_9.stage (cfg0.slots t 9)) _ _ (read_halves _ _ _ _)); iexact H11
  isplitl [H12]; · iapply (owns_close c (win0_10.stage (cfg0.slots t 10)) _ _ rfl); iexact H12
  isplitl [H13]; · iapply (owns_close c (win0_11.stage (cfg0.slots t 11)) _ _ rfl); iexact H13
  iapply (owns_close c (win0_12.stage (cfg0.slots t 12)) _ _ rfl); iexact H14

/-- The kernel runs to the end; its arrays then hold what the points flushed, and its counters are at zero. -/
theorem run (ρ : Dev nD → PrngReg) :
    θ_run defs (onTc (τ := τ) (main (F := F))) (s₀ m ρ) fun r => Pipeline.FramePost cfgs (dats m) 0 (V m) r ∧ r.2.sem = fun _ => 0 :=
  Pipeline.θ_run_frame (Q' := _) cfgs (dats m) 0 launch0 defs₀ 𝒱₀ m ρ main (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.KernelIdeal.Mla

end
-- ==== Proof.Mla.Args.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Mla.Run
public import proofs.«01_k».proof.Proof.Gen.Kernel
public import Idealize.ShloMosaic.Lib.WritesUnit

@[expose] public section

set_option maxRecDepth 16384

noncomputable section

namespace Cert.KernelIdeal.Mla

open Cert.KernelIdeal Cert.KernelIdeal.Gen
open Idealize.ShloMosaic Idealize.ShloMosaic.TcCoe
open Idealize.SL Idealize.SL.RA Idealize.SL.Sem
open Idealize.ShloMosaic.Pipeline (Dat)

/-! One run, read at the arguments and at the results, for both printings of the kernel. -/

variable {F : FTy → Type} [FloatOps F] (m : (ℓ : Loc nD τ sig) → Buf (Elt F) ℓ)

/-- What a run of the pipeline leaves in the arguments, whatever data it is run by. -/
theorem args_of (D : (p : Fin 1) → (c : Dev nD) → Dat τ (Elt F) Unit ℕ (UR sig nD τ) ℕ (cfgs p) c)
    (hA : ∀ c w, (D 0 c).A w = V m c (Pipeline.arrRef spec0 w)) (r) (h : Pipeline.FramePost cfgs D 0 (V m) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := fun c =>
  ⟨((h c).1 0).trans (((D 0 c).arrAt_in 0 rfl _).trans ((hA c 0).trans (V_main_arg0 m c))),
    ((h c).1 1).trans (((D 0 c).arrAt_in 1 rfl _).trans ((hA c 1).trans (V_main_arg1 m c))),
    ((h c).1 2).trans (((D 0 c).arrAt_in 2 rfl _).trans ((hA c 2).trans (V_main_arg2 m c))),
    ((h c).1 3).trans (((D 0 c).arrAt_in 3 rfl _).trans ((hA c 3).trans (V_main_arg3 m c))),
    ((h c).1 4).trans (((D 0 c).arrAt_in 4 rfl _).trans ((hA c 4).trans (V_main_arg4 m c))),
    ((h c).1 7).trans (((D 0 c).arrAt_in 7 rfl _).trans ((hA c 7).trans (V_main_arg5 m c)))⟩

/-- A run leaves the arguments alone and the counters at zero. -/
theorem run_args (ρ : Dev nD → PrngReg) : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨args_of m (dats m) (fun _ _ => rfl) r h.1, h.2⟩) (run m ρ)

end Cert.KernelIdeal.Mla

end
-- ==== Proof.Mla.Same.lean ====
module

public import proofs.«01_k».proof.Defs
public import proofs.«01_k».proof.Proof.Gen.Kernel
public import proofs.«01_k».proof.Proof.Mla.Args

@[expose] public section

set_option maxRecDepth 16384

noncomputable section

namespace Cert.KernelIdeal.Mla

open Idealize.ShloMosaic Idealize.SL.Sem

/-! The two printings of the kernel are one program. -/

theorem same_body : Cert.Kernel.cc0_mla_core_bwd (F := Bits) = Cert.KernelIdeal.cc0_mla_core_bwd (F := Bits) := rfl

set_option maxHeartbeats 2000000 in
theorem same_defs₀ : Cert.Kernel.defs₀ (F := Bits) = Cert.KernelIdeal.defs₀ (F := Bits) := by
  unfold Cert.Kernel.defs₀ Cert.KernelIdeal.defs₀
  refine congrArg _ ?_
  funext l a
  match l, a with
  | 0, (t, s) => rfl

set_option maxHeartbeats 2000000 in
theorem same_pcfgs : Cert.Kernel.pcfgs (F := Bits) = Cert.KernelIdeal.pcfgs (F := Bits) := rfl

set_option maxHeartbeats 2000000 in
theorem same_defs : Cert.Kernel.defs (F := Bits) = Cert.KernelIdeal.defs (F := Bits) := by
  unfold Cert.Kernel.defs Cert.KernelIdeal.defs
  exact congrArg (Idealize.ShloMosaic.Pipeline.defs (Cert.Kernel.pcfgs (F := Bits))) same_defs₀

set_option maxHeartbeats 4000000 in
theorem same_main : Cert.Kernel.main (F := Bits) = Cert.KernelIdeal.main (F := Bits) := rfl

set_option maxHeartbeats 2000000 in
/-- The kernel's own printing takes the run of the ideal printing, which is stated over any floats. -/
theorem frame_kernel : Cert.quiescent_Kernel := by
  intro m ρ _
  rw [same_defs, same_main]
  exact run_args (F := Bits) m ρ

end Cert.KernelIdeal.Mla

end
-- ==== Proof.Ffn.Sums.lean ====
module

public import Idealize.ShloMosaic.Lib.ValueIdx
public import Idealize.ShloMosaic.Lib.Tactic

@[expose] public section

noncomputable section

namespace Cert.Ffn

open Idealize.ShloMosaic Idealize.ShloMosaic.ValueIdx

/-! A product computed in blocks of its contracted axis: the sums that put the blocks together again. -/

/-- The entry of a matrix at a row and a column given as plain numbers, zero outside it. -/
def cell {a b : ℕ} (X : (⟨2, ![a, b]⟩ : Shape).Idx → EReal) (r s : ℕ) : EReal :=
  if h : r < a ∧ s < b then X (ix2 ⟨r, h.1⟩ ⟨s, h.2⟩) else 0

theorem cell_ix2 {a b : ℕ} (X : (⟨2, ![a, b]⟩ : Shape).Idx → EReal) (r : Fin a) (s : Fin b) :
    cell X r.val s.val = X (ix2 r s) := dif_pos ⟨r.isLt, s.isLt⟩

theorem cell_idx {a b : ℕ} (X : (⟨2, ![a, b]⟩ : Shape).Idx → EReal) (i : (⟨2, ![a, b]⟩ : Shape).Idx) (r s : ℕ)
    (hr : (i 0).val = r) (hs : (i 1).val = s) : X i = cell X r s := by
  subst hr hs
  exact (congrArg X (eq_ix2 i)).trans (cell_ix2 X (i 0) (i 1)).symm

/-- A scratch that starts afresh every `nk` points and adds one term at each point holds, after a point, the terms of
    the points since its last start. -/
theorem carried_sum {ι : Type} {N : ℕ} (nk : ℕ) (acc : (n : ℕ) → n < N → ι → EReal) (M : ℕ → ι → EReal)
    (h0 : ∀ n h y, n % nk = 0 → acc n h y = M n y)
    (hs : ∀ n (h : n + 1 < N) y, ¬ (n + 1) % nk = 0 → acc (n + 1) h y = acc n (Nat.lt_of_succ_lt h) y + M (n + 1) y) :
    ∀ n h y, acc n h y = ∑ s ∈ Finset.range (n % nk + 1), M (nk * (n / nk) + s) y
  | 0, h, y => by simp [h0 0 h y (Nat.zero_mod _)]
  | n + 1, h, y => by
    by_cases hz : (n + 1) % nk = 0
    · rw [h0 _ h y hz, hz]
      have := Nat.div_add_mod (n + 1) nk
      rw [hz] at this
      simp only [zero_add, Finset.sum_range_one]
      rw [this]
    · rw [hs n h y hz, carried_sum nk acc M h0 hs n _ y]
      have hd : ¬ nk ∣ n + 1 := fun hh => hz (Nat.mod_eq_zero_of_dvd hh)
      have e1 : (n + 1) / nk = n / nk := by rw [Nat.succ_div, if_neg hd, Nat.add_zero]
      have e2 : (n + 1) % nk = n % nk + 1 := by
        have a := Nat.div_add_mod (n + 1) nk
        have b := Nat.div_add_mod n nk
        rw [e1] at a
        omega
      have e3 : nk * (n / nk) + (n % nk + 1) = n + 1 := by have := Nat.div_add_mod n nk; omega
      rw [e1, e2, Finset.sum_range_succ _ (n % nk + 1), e3]

/-- The sums over equal consecutive parts make the sum over the whole. -/
theorem sum_parts (n B : ℕ) (f : ℕ → EReal) :
    ∑ s ∈ Finset.range n, ∑ k : Fin B, f (s * B + k.val) = ∑ k : Fin (n * B), f k.val := by
  rw [Fin.sum_univ_eq_sum_range f]
  induction n with
  | zero => simp
  | succ n ih =>
    rw [Finset.sum_range_succ, ih, Nat.succ_mul, Finset.sum_range_add, Fin.sum_univ_eq_sum_range (fun k => f (n * B + k))]

/-- The scratch of a blocked product after a run's last point: the sum over the whole contracted axis. -/
theorem run_total {ι : Type} {N : ℕ} (nk tk : ℕ) (acc : (n : ℕ) → n < N → ι → EReal) (term : ℕ → ℕ → ι → EReal)
    (h0 : ∀ n h y, n % nk = 0 → acc n h y = ∑ k : Fin tk, term (n / nk) (n % nk * tk + k.val) y)
    (hs : ∀ n (h : n + 1 < N) y, ¬ (n + 1) % nk = 0 → acc (n + 1) h y = acc n (Nat.lt_of_succ_lt h) y
      + ∑ k : Fin tk, term ((n + 1) / nk) ((n + 1) % nk * tk + k.val) y)
    (n : ℕ) (h : n < N) (y : ι) (hn : n % nk + 1 = nk) : acc n h y = ∑ k : Fin (nk * tk), term (n / nk) k.val y := by
  rw [carried_sum nk acc (fun n y => ∑ k : Fin tk, term (n / nk) (n % nk * tk + k.val) y) h0 hs n h y, hn]
  refine Eq.trans (Finset.sum_congr rfl fun s hs => ?_) (sum_parts nk tk fun k => term (n / nk) k y)
  have hlt : s < nk := Finset.mem_range.mp hs
  rw [Nat.mul_add_mod, Nat.mod_eq_of_lt hlt, Nat.mul_add_div (Nat.lt_of_le_of_lt (Nat.zero_le _) hlt), Nat.div_eq_of_lt hlt,
    Nat.add_zero]

end Cert.Ffn

end
-- ==== Proof.Ffn.DownDx.lean ====
module

public import proofs.«01_k».proof.Defs
public import proofs.«01_k».proof.Proof.Ffn.Sums
public import proofs.«01_k».proof.Proof.Gen.Kernel2Ideal.Value
public import proofs.«01_k».proof.Proof.Gen.Reference2Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel2Ideal.Value

open Cert.Kernel2Ideal Cert.Kernel2Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-- A point's output block: the block product on a cleared scratch. -/
theorem out_eq (c : Dev nD) (t : Fin cfg0.N) :
    outsAt0 m c t = k0_pay2 (k0_pay1 (F := F)) (iblk m c 0 t) (iblk m c 1 t) := by
  unfold outsAt0 out0_A_2
  rw [View.read_writes_eq_canon _ _ _ (fun y => cover0_A_2 (y := y) ..)]
  unfold kernelRun0_A
  dsimp only
  sl_unfold_words
  rw [View.canon_unit_zero hz]
  simp only [View.readCov_unit_zero (S := S1024x1408) _ hz, View.readAt_eq_ld, (hs0_0 t).read_unread, (hs0_1 t).read_unread,
    View.ld_unit_zero (S := S1024x1024) hz, View.ld_unit_zero (S := S1408x1024) hz]
  exact View.readCov_cons_toLoadRect ..

/-! ## Over the extended reals -/

section AtIdeal

variable (m : (ℓ : Loc nD τ sig) → Buf (Elt Ideal) ℓ)

/-- The grid's blocks: the rows of the left operand go with the output's rows, the rows of the right one with its columns. -/
theorem block_index : ∀ t : Fin cfg0.N, win0_0.index t 0 = t.val / 2 ∧ win0_0.index t 1 = 0
    ∧ win0_1.index t 0 = t.val % 2 ∧ win0_1.index t 1 = 0 ∧ win0_2.index t 0 = t.val / 2 ∧ win0_2.index t 1 = t.val % 2 :=
  (by decide +kernel : ∀ t : Fin grid0.N, _)

theorem block_left (c : Dev nD) (t : Fin cfg0.N) (j : S1024x1024.Idx) :
    (iblk m c 0 t : Vec Ideal S1024x1024 .f32) j
      = cell (m ((c : Thread nD τ).loc main_arg2)) (t.val / 2 * 1024 + (j 0).val) (j 1).val := by
  obtain ⟨e0, e1, -⟩ := block_index t
  unfold iblk
  rw [View.read_apply]
  refine cell_idx (m ((c : Thread nD τ).loc main_arg2)) _ _ _ ?_ ?_
  · show win0_0.index t 0 * 1024 + 1 * (j 0).val = _; rw [e0, Nat.one_mul]
  · show win0_0.index t 1 * 1024 + 1 * (j 1).val = _; rw [e1]; omega

theorem block_right (c : Dev nD) (t : Fin cfg0.N) (j : S1408x1024.Idx) :
    (iblk m c 1 t : Vec Ideal S1408x1024 .bf16) j
      = cell (m ((c : Thread nD τ).loc main_arg1)) (t.val % 2 * 1408 + (j 0).val) (j 1).val := by
  obtain ⟨-, -, e0, e1, -⟩ := block_index t
  unfold iblk
  rw [View.read_apply]
  refine cell_idx (m ((c : Thread nD τ).loc main_arg1)) _ _ _ ?_ ?_
  · show win0_1.index t 0 * 1408 + 1 * (j 0).val = _; rw [e0, Nat.one_mul]
  · show win0_1.index t 1 * 1024 + 1 * (j 1).val = _; rw [e1]; omega

/-- The result array: each entry sums over the whole contracted axis. -/
def result (c : Dev nD) : Buf (Elt Ideal) ((c : Thread nD τ).loc main_v0) := fun i =>
  show EReal from ∑ k : Fin 1024, cell (m ((c : Thread nD τ).loc main_arg2)) (i 0).val k.val
    * cell (m ((c : Thread nD τ).loc main_arg1)) (i 1).val k.val

theorem out_apply (c : Dev nD) (t : Fin cfg0.N) (y : S1024x1408.Idx) :
    (outsAt0 m c t y : EReal) = ∑ k : Fin 1024, cell (m ((c : Thread nD τ).loc main_arg2)) (t.val / 2 * 1024 + (y 0).val) k.val
      * cell (m ((c : Thread nD τ).loc main_arg1)) (t.val % 2 * 1408 + (y 1).val) k.val := by
  rw [out_eq]
  unfold k0_pay2 k0_pay1
  pointwise
  simp only [block_left, block_right]
  rfl

/-- A point writes back its block of the result. -/
theorem flushed_eq (c : Dev nD) (t : Fin cfg0.N) :
    (dats m 0 c).flushed 2 t = ((cfg0.win 2).blk t).view.read (Elt Ideal) (result m c) := by
  rw [flushed2]
  obtain ⟨-, -, -, -, e0, e1⟩ := block_index t
  funext y
  refine (out_apply m c t _).trans ?_
  rw [View.read_apply]
  unfold result
  have h0 : (((cfg0.win 2).blk t).view.emb y 0).val = t.val / 2 * 1024 + (y 0).val := by
    show win0_2.index t 0 * 1024 + 1 * (y 0).val = _; rw [e0, Nat.one_mul]
  have h1 : (((cfg0.win 2).blk t).view.emb y 1).val = t.val % 2 * 1408 + (y 1).val := by
    show win0_2.index t 1 * 1408 + 1 * (y 1).val = _; rw [e1, Nat.one_mul]
  rw [h0, h1]
  rfl

/-- The blocks fill the result array. -/
theorem final_result (c : Dev nD) : (dats m 0 c).arrAt 2 cfg0.N = result m c :=
  (dats m 0 c).arrAt_eq_of_cover 2 (result m c) (fun t _ => flushed_eq m c t) fun i => by
    have h0 : (i 0).val < 4096 := (i 0).isLt
    have h1 : (i 1).val < 2816 := (i 1).isLt
    have hN : cfg0.N = 8 := N_0
    obtain ⟨t, ht⟩ : ∃ t : Fin cfg0.N, t.val = 2 * ((i 0).val / 1024) + (i 1).val / 1408 := ⟨⟨_, by omega⟩, rfl⟩
    obtain ⟨-, -, -, -, e0, e1⟩ := block_index t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 1408 ≤ (i 1).val ∧ (i 1).val < win0_2.index t 1 * 1408 + 1408; omega

end AtIdeal

end Cert.Kernel2Ideal.Value

namespace Cert.Ffn

/-- The gradient of the down product with respect to its input is the plain gradient. -/
theorem down_dx : algebraic_Kernel2Ideal_Reference2Ideal := by
  intro m g m' g' _ hagree
  refine ⟨fun c => Kernel2Ideal.Value.result m c, (θ_run _ _ _).mono
    (fun r h c => ⟨(h c).1.trans (Kernel2Ideal.Value.final_result m c), (h c).2⟩) (Kernel2Ideal.Value.run_blocks m g), ?_⟩
  refine (θ_run _ _ _).mono (fun r h c => ⟨(h c).1.trans ?_, (h c).2⟩) (Reference2Ideal.Value.run m' g')
  obtain ⟨-, e1, e2⟩ := hagree c
  rw [e1, e2]
  funext i
  unfold Kernel2Ideal.Value.result
  pointwise
  refine Finset.sum_congr rfl fun k _ => ?_
  exact congrArg₂ (· * ·) (cell_ix2 (m (c.tc.loc Kernel2Ideal.main_arg2)) (i 0) k).symm
    (cell_ix2 (m (c.tc.loc Kernel2Ideal.main_arg1)) (i 1) k).symm

end Cert.Ffn

end
-- ==== Proof.Ffn.DownDw.lean ====
module

public import proofs.«01_k».proof.Defs
public import proofs.«01_k».proof.Proof.Ffn.Sums
public import proofs.«01_k».proof.Proof.Gen.Kernel3Ideal.Value
public import proofs.«01_k».proof.Proof.Gen.Reference3Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel3Ideal.Value

open Cert.Kernel3Ideal Cert.Kernel3Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-- At a run's first point the scratch is cleared and takes the first block product. -/
theorem scratch_first (c : Dev nD) (t : Fin cfg0.N) (h0 : t.val % 4 = 0) :
    (outsAt0 m c t.val t.isLt).2 = k0_pay2 (k0_pay1 (F := F)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1408x1024) hz, View.readCov_unit_zero (S := S1408x1024) _ hz]
  simp only [View.readAt_eq_ld, (hs0_0 t).read_unread, (hs0_1 t).read_unread, View.ld_unit_zero (S := S1024x1408) hz,
    View.ld_unit_zero (S := S1024x1024) hz]

/-- At every other point it takes the point's block product on top of what it held. -/
theorem scratch_next (c : Dev nD) (t : Fin cfg0.N) (h0 : ¬ t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz]
    simp only [View.readAt_eq_ld, (hs0_0 t).read_unread, (hs0_1 t).read_unread, (Memref.isWhole_whole _).read_unread,
      View.ld_unit_zero (S := S1024x1408) hz, View.ld_unit_zero (S := S1024x1024) hz, View.ld_unit_zero (S := S1408x1024) hz]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz]
    simp only [View.readAt_eq_ld, (hs0_0 t).read_unread, (hs0_1 t).read_unread, (Memref.isWhole_whole _).read_unread,
      View.ld_unit_zero (S := S1024x1408) hz, View.ld_unit_zero (S := S1024x1024) hz, View.ld_unit_zero (S := S1408x1024) hz]

/-- At a run's last point the output block is the scratch. -/
theorem out_last (c : Dev nD) (t : Fin cfg0.N) (h1 : t.val % 4 = 3) :
    (outsAt0 m c t.val t.isLt).1 = (outsAt0 m c t.val t.isLt).2 := by
  rw [scratch_next m c t (by omega), outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero hz, View.readCov_unit_zero (S := S1408x1024) _ hz]
  simp only [View.readAt_eq_ld, (hs0_0 t).read_unread, (hs0_1 t).read_unread, (Memref.isWhole_whole _).read_unread,
    View.ld_unit_zero (S := S1024x1408) hz, View.ld_unit_zero (S := S1024x1024) hz, View.ld_unit_zero (S := S1408x1024) hz]

/-! ## Over the extended reals -/

section AtIdeal

variable (m : (ℓ : Loc nD τ sig) → Buf (Elt Ideal) ℓ)

/-- The grid's blocks: the rows of both operands go with the point's place in its run, the output's rows with the run. -/
theorem block_index : ∀ t : Fin cfg0.N, win0_0.index t 0 = t.val % 4 ∧ win0_0.index t 1 = t.val / 4
    ∧ win0_1.index t 0 = t.val % 4 ∧ win0_1.index t 1 = 0 :=
  (by decide +kernel : ∀ t : Fin grid0.N, _)

/-- One point's block product, written with entries of the whole operands. -/
def part (c : Dev nD) (n : ℕ) (y : S1408x1024.Idx) : EReal :=
  ∑ k : Fin 1024, cell (m ((c : Thread nD τ).loc main_arg0)) (n % 4 * 1024 + k.val) (n / 4 * 1408 + (y 0).val)
    * cell (m ((c : Thread nD τ).loc main_arg2)) (n % 4 * 1024 + k.val) (y 1).val

theorem block_left (c : Dev nD) (t : Fin cfg0.N) (j : S1024x1408.Idx) :
    (iblk m c 0 t : Vec Ideal S1024x1408 .bf16) j
      = cell (m ((c : Thread nD τ).loc main_arg0)) (t.val % 4 * 1024 + (j 0).val) (t.val / 4 * 1408 + (j 1).val) := by
  obtain ⟨e0, e1, -, -⟩ := block_index t
  unfold iblk
  rw [View.read_apply]
  refine cell_idx (m ((c : Thread nD τ).loc main_arg0)) _ _ _ ?_ ?_
  · show win0_0.index t 0 * 1024 + 1 * (j 0).val = _; rw [e0, Nat.one_mul]
  · show win0_0.index t 1 * 1408 + 1 * (j 1).val = _; rw [e1, Nat.one_mul]

theorem block_right (c : Dev nD) (t : Fin cfg0.N) (j : S1024x1024.Idx) :
    (iblk m c 1 t : Vec Ideal S1024x1024 .f32) j
      = cell (m ((c : Thread nD τ).loc main_arg2)) (t.val % 4 * 1024 + (j 0).val) (j 1).val := by
  obtain ⟨-, -, e0, e1⟩ := block_index t
  unfold iblk
  rw [View.read_apply]
  refine cell_idx (m ((c : Thread nD τ).loc main_arg2)) _ _ _ ?_ ?_
  · show win0_1.index t 0 * 1024 + 1 * (j 0).val = _; rw [e0, Nat.one_mul]
  · show win0_1.index t 1 * 1024 + 1 * (j 1).val = _; rw [e1]; omega

/-- What the body adds at a point. -/
theorem step_apply (c : Dev nD) (t : Fin cfg0.N) (a : Vec Ideal S1408x1024 .f32) (y : S1408x1024.Idx) :
    (k0_pay2 a (iblk m c 0 t) (iblk m c 1 t) y : EReal) = a y + part m c t.val y := by
  unfold k0_pay2
  pointwise
  simp only [block_left, block_right]
  rfl

theorem start_apply (y : S1408x1024.Idx) : (k0_pay1 (F := Ideal) y : EReal) = 0 := by
  unfold k0_pay1
  pointwise

theorem scratch_apply (c : Dev nD) (n : ℕ) (h : n < cfg0.N) (y : S1408x1024.Idx) :
    ((outsAt0 m c n h).2 y : EReal) = ∑ s ∈ Finset.range (n % 4 + 1), part m c (4 * (n / 4) + s) y :=
  carried_sum 4 (fun n h y => ((outsAt0 m c n h).2 y : EReal)) (part m c)
    (fun n h y h0 => by
      show ((outsAt0 m c n h).2 y : EReal) = _
      rw [scratch_first m c ⟨n, h⟩ h0, step_apply, start_apply, zero_add])
    (fun n h y h0 => by
      show ((outsAt0 m c (n + 1) h).2 y : EReal) = _
      rw [scratch_next m c ⟨n + 1, h⟩ h0, step_apply]
      rfl)
    n h y

/-- The result array's entry: the whole contracted axis. -/
theorem result_apply (c : Dev nD) (i : S2816x1024.Idx) :
    (show EReal from G2 m c i) = ∑ k : Fin 4096, cell (m ((c : Thread nD τ).loc main_arg0)) k.val (i 0).val
      * cell (m ((c : Thread nD τ).loc main_arg2)) k.val (i 1).val := by
  have h0 : (i 0).val < 2816 := (i 0).isLt
  have h1 : (i 1).val < 1024 := (i 1).isLt
  have hp : pt2Of i = 4 * ((i 0).val / 1408) + 3 := by
    show 4 * (1 * ((i 0).val / 1408 - 0) + 1 * ((i 1).val / 1024 - 0)) + 3 = _
    omega
  have hN : cfg0.N = 8 := N_0
  have hlt : pt2Of i < cfg0.N := by omega
  unfold G2
  rw [dif_pos hlt, ← outsAt0_sweep m c _ hlt, out_last m c ⟨pt2Of i, hlt⟩ (by show pt2Of i % 4 = 3; omega), scratch_apply m c _ hlt]
  rw [show pt2Of i % 4 + 1 = 4 by omega, show pt2Of i / 4 = (i 0).val / 1408 by omega]
  refine Eq.trans (Finset.sum_congr rfl fun s hs => ?_) (sum_parts 4 1024 fun k => cell (m ((c : Thread nD τ).loc main_arg0)) k (i 0).val
      * cell (m ((c : Thread nD τ).loc main_arg2)) k (i 1).val)
  have hs4 : s < 4 := Finset.mem_range.mp hs
  unfold part
  rw [show (4 * ((i 0).val / 1408) + s) % 4 = s by omega, show (4 * ((i 0).val / 1408) + s) / 4 = (i 0).val / 1408 by omega]
  have e0 : (i 0).val / 1408 * 1408 + (loc2Of i 0).val = (i 0).val := by
    show (i 0).val / 1408 * 1408 + (i 0).val % 1408 = _; omega
  have e1 : (loc2Of i 1).val = (i 1).val := by show (i 1).val % 1024 = _; omega
  rw [e0, e1]

end AtIdeal

end Cert.Kernel3Ideal.Value

namespace Cert.Ffn

/-- The gradient of the down product with respect to its weights is the plain gradient. -/
theorem down_dw : algebraic_Kernel3Ideal_Reference3Ideal := by
  intro m g m' g' _ hagree
  refine ⟨fun c => Kernel3Ideal.Value.G2 m c, Kernel3Ideal.Value.run m g, ?_⟩
  refine (θ_run _ _ _).mono (fun r h c => ⟨(h c).1.trans ?_, (h c).2⟩) (Reference3Ideal.Value.run m' g')
  obtain ⟨e0, -, e2⟩ := hagree c
  rw [e0, e2]
  funext i
  refine Eq.trans ?_ (Kernel3Ideal.Value.result_apply m c i).symm
  pointwise
  refine Finset.sum_congr rfl fun k _ => ?_
  exact (mul_comm _ _).trans (congrArg₂ (· * ·) (cell_ix2 (m (c.tc.loc Kernel3Ideal.main_arg0)) k (i 0)).symm
    (cell_ix2 (m (c.tc.loc Kernel3Ideal.main_arg2)) k (i 1)).symm)

end Cert.Ffn

end
-- ==== Proof.Ffn.GuDx.lean ====
module

public import proofs.«01_k».proof.Defs
public import proofs.«01_k».proof.Proof.Ffn.Sums
public import proofs.«01_k».proof.Proof.Gen.Kernel4Ideal.Value
public import proofs.«01_k».proof.Proof.Gen.Reference4Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel4Ideal.Value

open Cert.Kernel4Ideal Cert.Kernel4Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-- At a run's first point the scratch is cleared and takes the first block product. -/
theorem scratch_first (c : Dev nD) (t : Fin cfg0.N) (h0 : t.val % 11 = 0) :
    (outsAt0 m c t.val t.isLt).2 = k0_pay2 (k0_pay1 (F := F)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x512) hz]

/-- At every other point it takes the point's block product on top of what it held. -/
theorem scratch_next (c : Dev nD) (t : Fin cfg0.N) (h0 : ¬ t.val % 11 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 11 = 10
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz]
    simp only [View.readAt_eq_ld, (hs0_0 t).read_unread, (hs0_1 t).read_unread, (Memref.isWhole_whole _).read_unread,
      View.ld_unit_zero (S := S1024x512) hz, View.ld_unit_zero (S := S1024x1024) hz]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz]
    simp only [View.readAt_eq_ld, (hs0_0 t).read_unread, (hs0_1 t).read_unread, (Memref.isWhole_whole _).read_unread,
      View.ld_unit_zero (S := S1024x512) hz, View.ld_unit_zero (S := S1024x1024) hz]

/-- At a run's last point the output block is the scratch. -/
theorem out_last (c : Dev nD) (t : Fin cfg0.N) (h1 : t.val % 11 = 10) :
    (outsAt0 m c t.val t.isLt).1 = (outsAt0 m c t.val t.isLt).2 := by
  rw [scratch_next m c t (by omega), outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero hz, View.readCov_unit_zero (S := S1024x1024) _ hz]
  simp only [View.readAt_eq_ld, (hs0_0 t).read_unread, (hs0_1 t).read_unread, (Memref.isWhole_whole _).read_unread,
    View.ld_unit_zero (S := S1024x512) hz, View.ld_unit_zero (S := S1024x1024) hz]

/-! ## Over the extended reals -/

section AtIdeal

variable (m : (ℓ : Loc nD τ sig) → Buf (Elt Ideal) ℓ)

/-- The grid's blocks: the columns of both operands go with the point's place in its run, the output's rows with the run. -/
theorem block_index : ∀ t : Fin cfg0.N, win0_0.index t 0 = t.val / 11 ∧ win0_0.index t 1 = t.val % 11
    ∧ win0_1.index t 0 = 0 ∧ win0_1.index t 1 = t.val % 11 :=
  (by decide +kernel : ∀ t : Fin grid0.N, _)

/-- One point's block product, written with entries of the whole operands. -/
def part (c : Dev nD) (n : ℕ) (y : S1024x1024.Idx) : EReal :=
  ∑ k : Fin 512, cell (m ((c : Thread nD τ).loc main_arg2)) (n / 11 * 1024 + (y 0).val) (n % 11 * 512 + k.val)
    * cell (m ((c : Thread nD τ).loc main_arg1)) (y 1).val (n % 11 * 512 + k.val)

theorem block_left (c : Dev nD) (t : Fin cfg0.N) (j : S1024x512.Idx) :
    (iblk m c 0 t : Vec Ideal S1024x512 .bf16) j
      = cell (m ((c : Thread nD τ).loc main_arg2)) (t.val / 11 * 1024 + (j 0).val) (t.val % 11 * 512 + (j 1).val) := by
  obtain ⟨e0, e1, -, -⟩ := block_index t
  unfold iblk
  rw [View.read_apply]
  refine cell_idx (m ((c : Thread nD τ).loc main_arg2)) _ _ _ ?_ ?_
  · show win0_0.index t 0 * 1024 + 1 * (j 0).val = _; rw [e0, Nat.one_mul]
  · show win0_0.index t 1 * 512 + 1 * (j 1).val = _; rw [e1, Nat.one_mul]

theorem block_right (c : Dev nD) (t : Fin cfg0.N) (j : S1024x512.Idx) :
    (iblk m c 1 t : Vec Ideal S1024x512 .bf16) j
      = cell (m ((c : Thread nD τ).loc main_arg1)) (j 0).val (t.val % 11 * 512 + (j 1).val) := by
  obtain ⟨-, -, e0, e1⟩ := block_index t
  unfold iblk
  rw [View.read_apply]
  refine cell_idx (m ((c : Thread nD τ).loc main_arg1)) _ _ _ ?_ ?_
  · show win0_1.index t 0 * 1024 + 1 * (j 0).val = _; rw [e0]; omega
  · show win0_1.index t 1 * 512 + 1 * (j 1).val = _; rw [e1, Nat.one_mul]

/-- What the body adds at a point. -/
theorem step_apply (c : Dev nD) (t : Fin cfg0.N) (a : Vec Ideal S1024x1024 .f32) (y : S1024x1024.Idx) :
    (k0_pay2 a (iblk m c 0 t) (iblk m c 1 t) y : EReal) = a y + part m c t.val y := by
  unfold k0_pay2
  pointwise
  simp only [block_left, block_right]
  rfl

theorem start_apply (y : S1024x1024.Idx) : (k0_pay1 (F := Ideal) y : EReal) = 0 := by
  unfold k0_pay1
  pointwise

theorem scratch_apply (c : Dev nD) (n : ℕ) (h : n < cfg0.N) (y : S1024x1024.Idx) :
    ((outsAt0 m c n h).2 y : EReal) = ∑ s ∈ Finset.range (n % 11 + 1), part m c (11 * (n / 11) + s) y :=
  carried_sum 11 (fun n h y => ((outsAt0 m c n h).2 y : EReal)) (part m c)
    (fun n h y h0 => by
      show ((outsAt0 m c n h).2 y : EReal) = _
      rw [scratch_first m c ⟨n, h⟩ h0, step_apply, start_apply, zero_add])
    (fun n h y h0 => by
      show ((outsAt0 m c (n + 1) h).2 y : EReal) = _
      rw [scratch_next m c ⟨n + 1, h⟩ h0, step_apply]
      rfl)
    n h y

/-- The result array's entry: the whole contracted axis. -/
theorem result_apply (c : Dev nD) (i : S4096x1024.Idx) :
    (show EReal from G2 m c i) = ∑ k : Fin 5632, cell (m ((c : Thread nD τ).loc main_arg2)) (i 0).val k.val
      * cell (m ((c : Thread nD τ).loc main_arg1)) (i 1).val k.val := by
  have h0 : (i 0).val < 4096 := (i 0).isLt
  have h1 : (i 1).val < 1024 := (i 1).isLt
  have hp : pt2Of i = 11 * ((i 0).val / 1024) + 10 := by
    show 11 * (1 * ((i 0).val / 1024 - 0) + 1 * ((i 1).val / 1024 - 0)) + 10 = _
    omega
  have hN : cfg0.N = 44 := N_0
  have hlt : pt2Of i < cfg0.N := by omega
  unfold G2
  rw [dif_pos hlt, ← outsAt0_sweep m c _ hlt, out_last m c ⟨pt2Of i, hlt⟩ (by show pt2Of i % 11 = 10; omega), scratch_apply m c _ hlt]
  rw [show pt2Of i % 11 + 1 = 11 by omega, show pt2Of i / 11 = (i 0).val / 1024 by omega]
  refine Eq.trans (Finset.sum_congr rfl fun s hs => ?_) (sum_parts 11 512 fun k => cell (m ((c : Thread nD τ).loc main_arg2)) (i 0).val k
      * cell (m ((c : Thread nD τ).loc main_arg1)) (i 1).val k)
  have hs11 : s < 11 := Finset.mem_range.mp hs
  unfold part
  rw [show (11 * ((i 0).val / 1024) + s) % 11 = s by omega, show (11 * ((i 0).val / 1024) + s) / 11 = (i 0).val / 1024 by omega]
  have e0 : (i 0).val / 1024 * 1024 + (loc2Of i 0).val = (i 0).val := by
    show (i 0).val / 1024 * 1024 + (i 0).val % 1024 = _; omega
  have e1 : (loc2Of i 1).val = (i 1).val := by show (i 1).val % 1024 = _; omega
  rw [e0, e1]

end AtIdeal

end Cert.Kernel4Ideal.Value

namespace Cert.Ffn

/-- The gradient of the gate and up product with respect to its input is the plain gradient. -/
theorem gate_up_dx : algebraic_Kernel4Ideal_Reference4Ideal := by
  intro m g m' g' _ hagree
  refine ⟨fun c => Kernel4Ideal.Value.G2 m c, Kernel4Ideal.Value.run m g, ?_⟩
  refine (θ_run _ _ _).mono (fun r h c => ⟨(h c).1.trans ?_, (h c).2⟩) (Reference4Ideal.Value.run m' g')
  obtain ⟨-, e1, e2⟩ := hagree c
  rw [e1, e2]
  funext i
  refine Eq.trans ?_ (Kernel4Ideal.Value.result_apply m c i).symm
  pointwise
  refine Finset.sum_congr rfl fun k _ => ?_
  exact congrArg₂ (· * ·) (cell_ix2 (m (c.tc.loc Kernel4Ideal.main_arg2)) (i 0) k).symm
    (cell_ix2 (m (c.tc.loc Kernel4Ideal.main_arg1)) (i 1) k).symm

end Cert.Ffn

end
-- ==== Proof.Ffn.GuDw.lean ====
module

public import proofs.«01_k».proof.Defs
public import proofs.«01_k».proof.Proof.Ffn.Sums
public import proofs.«01_k».proof.Proof.Gen.Kernel5Ideal.Value
public import proofs.«01_k».proof.Proof.Gen.Reference5Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel5Ideal.Value

open Cert.Kernel5Ideal Cert.Kernel5Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-- At a run's first point the scratch is cleared and takes the first block product. -/
theorem scratch_first (c : Dev nD) (t : Fin cfg0.N) (h0 : t.val % 4 = 0) :
    (outsAt0 m c t.val t.isLt).2 = k0_pay2 (k0_pay1 (F := F)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1408) hz, View.readCov_unit_zero (S := S1024x1408) _ hz]
  simp only [View.readAt_eq_ld, (hs0_0 t).read_unread, (hs0_1 t).read_unread, View.ld_unit_zero (S := S1024x1024) hz,
    View.ld_unit_zero (S := S1024x1408) hz]

/-- At every other point it takes the point's block product on top of what it held. -/
theorem scratch_next (c : Dev nD) (t : Fin cfg0.N) (h0 : ¬ t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz]
    simp only [View.readAt_eq_ld, (hs0_0 t).read_unread, (hs0_1 t).read_unread, (Memref.isWhole_whole _).read_unread,
      View.ld_unit_zero (S := S1024x1024) hz, View.ld_unit_zero (S := S1024x1408) hz]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz]
    simp only [View.readAt_eq_ld, (hs0_0 t).read_unread, (hs0_1 t).read_unread, (Memref.isWhole_whole _).read_unread,
      View.ld_unit_zero (S := S1024x1024) hz, View.ld_unit_zero (S := S1024x1408) hz]

/-- At a run's last point the output block is the scratch. -/
theorem out_last (c : Dev nD) (t : Fin cfg0.N) (h1 : t.val % 4 = 3) :
    (outsAt0 m c t.val t.isLt).1 = (outsAt0 m c t.val t.isLt).2 := by
  rw [scratch_next m c t (by omega), outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero hz, View.readCov_unit_zero (S := S1024x1408) _ hz]
  simp only [View.readAt_eq_ld, (hs0_0 t).read_unread, (hs0_1 t).read_unread, (Memref.isWhole_whole _).read_unread,
    View.ld_unit_zero (S := S1024x1024) hz, View.ld_unit_zero (S := S1024x1408) hz]

/-! ## Over the extended reals -/

section AtIdeal

variable (m : (ℓ : Loc nD τ sig) → Buf (Elt Ideal) ℓ)

/-- The grid's blocks: the rows of both operands go with the point's place in its run, the output's columns with the run. -/
theorem block_index : ∀ t : Fin cfg0.N, win0_0.index t 0 = t.val % 4 ∧ win0_0.index t 1 = 0
    ∧ win0_1.index t 0 = t.val % 4 ∧ win0_1.index t 1 = t.val / 4 :=
  (by decide +kernel : ∀ t : Fin grid0.N, _)

/-- One point's block product, written with entries of the whole operands. -/
def part (c : Dev nD) (n : ℕ) (y : S1024x1408.Idx) : EReal :=
  ∑ k : Fin 1024, cell (m ((c : Thread nD τ).loc main_arg0)) (n % 4 * 1024 + k.val) (y 0).val
    * cell (m ((c : Thread nD τ).loc main_arg2)) (n % 4 * 1024 + k.val) (n / 4 * 1408 + (y 1).val)

theorem block_left (c : Dev nD) (t : Fin cfg0.N) (j : S1024x1024.Idx) :
    (iblk m c 0 t : Vec Ideal S1024x1024 .bf16) j
      = cell (m ((c : Thread nD τ).loc main_arg0)) (t.val % 4 * 1024 + (j 0).val) (j 1).val := by
  obtain ⟨e0, e1, -, -⟩ := block_index t
  unfold iblk
  rw [View.read_apply]
  refine cell_idx (m ((c : Thread nD τ).loc main_arg0)) _ _ _ ?_ ?_
  · show win0_0.index t 0 * 1024 + 1 * (j 0).val = _; rw [e0, Nat.one_mul]
  · show win0_0.index t 1 * 1024 + 1 * (j 1).val = _; rw [e1]; omega

theorem block_right (c : Dev nD) (t : Fin cfg0.N) (j : S1024x1408.Idx) :
    (iblk m c 1 t : Vec Ideal S1024x1408 .bf16) j
      = cell (m ((c : Thread nD τ).loc main_arg2)) (t.val % 4 * 1024 + (j 0).val) (t.val / 4 * 1408 + (j 1).val) := by
  obtain ⟨-, -, e0, e1⟩ := block_index t
  unfold iblk
  rw [View.read_apply]
  refine cell_idx (m ((c : Thread nD τ).loc main_arg2)) _ _ _ ?_ ?_
  · show win0_1.index t 0 * 1024 + 1 * (j 0).val = _; rw [e0, Nat.one_mul]
  · show win0_1.index t 1 * 1408 + 1 * (j 1).val = _; rw [e1, Nat.one_mul]

/-- What the body adds at a point. -/
theorem step_apply (c : Dev nD) (t : Fin cfg0.N) (a : Vec Ideal S1024x1408 .f32) (y : S1024x1408.Idx) :
    (k0_pay2 a (iblk m c 0 t) (iblk m c 1 t) y : EReal) = a y + part m c t.val y := by
  unfold k0_pay2
  pointwise
  simp only [block_left, block_right]
  rfl

theorem start_apply (y : S1024x1408.Idx) : (k0_pay1 (F := Ideal) y : EReal) = 0 := by
  unfold k0_pay1
  pointwise

theorem scratch_apply (c : Dev nD) (n : ℕ) (h : n < cfg0.N) (y : S1024x1408.Idx) :
    ((outsAt0 m c n h).2 y : EReal) = ∑ s ∈ Finset.range (n % 4 + 1), part m c (4 * (n / 4) + s) y :=
  carried_sum 4 (fun n h y => ((outsAt0 m c n h).2 y : EReal)) (part m c)
    (fun n h y h0 => by
      show ((outsAt0 m c n h).2 y : EReal) = _
      rw [scratch_first m c ⟨n, h⟩ h0, step_apply, start_apply, zero_add])
    (fun n h y h0 => by
      show ((outsAt0 m c (n + 1) h).2 y : EReal) = _
      rw [scratch_next m c ⟨n + 1, h⟩ h0, step_apply]
      rfl)
    n h y

/-- The result array's entry: the whole contracted axis. -/
theorem result_apply (c : Dev nD) (i : S1024x5632.Idx) :
    (show EReal from G2 m c i) = ∑ k : Fin 4096, cell (m ((c : Thread nD τ).loc main_arg0)) k.val (i 0).val
      * cell (m ((c : Thread nD τ).loc main_arg2)) k.val (i 1).val := by
  have h0 : (i 0).val < 1024 := (i 0).isLt
  have h1 : (i 1).val < 5632 := (i 1).isLt
  have hp : pt2Of i = 4 * ((i 1).val / 1408) + 3 := by
    show 4 * (4 * ((i 0).val / 1024 - 0) + 1 * ((i 1).val / 1408 - 0)) + 3 = _
    omega
  have hN : cfg0.N = 16 := N_0
  have hlt : pt2Of i < cfg0.N := by omega
  unfold G2
  rw [dif_pos hlt, ← outsAt0_sweep m c _ hlt, out_last m c ⟨pt2Of i, hlt⟩ (by show pt2Of i % 4 = 3; omega), scratch_apply m c _ hlt]
  rw [show pt2Of i % 4 + 1 = 4 by omega, show pt2Of i / 4 = (i 1).val / 1408 by omega]
  refine Eq.trans (Finset.sum_congr rfl fun s hs => ?_) (sum_parts 4 1024 fun k => cell (m ((c : Thread nD τ).loc main_arg0)) k (i 0).val
      * cell (m ((c : Thread nD τ).loc main_arg2)) k (i 1).val)
  have hs4 : s < 4 := Finset.mem_range.mp hs
  unfold part
  rw [show (4 * ((i 1).val / 1408) + s) % 4 = s by omega, show (4 * ((i 1).val / 1408) + s) / 4 = (i 1).val / 1408 by omega]
  have e0 : (loc2Of i 0).val = (i 0).val := by show (i 0).val % 1024 = _; omega
  have e1 : (i 1).val / 1408 * 1408 + (loc2Of i 1).val = (i 1).val := by
    show (i 1).val / 1408 * 1408 + (i 1).val % 1408 = _; omega
  rw [e0, e1]

end AtIdeal

end Cert.Kernel5Ideal.Value

namespace Cert.Ffn

/-- The gradient of the gate and up product with respect to its weights is the plain gradient. -/
theorem gate_up_dw : algebraic_Kernel5Ideal_Reference5Ideal := by
  intro m g m' g' _ hagree
  refine ⟨fun c => Kernel5Ideal.Value.G2 m c, Kernel5Ideal.Value.run m g, ?_⟩
  refine (θ_run _ _ _).mono (fun r h c => ⟨(h c).1.trans ?_, (h c).2⟩) (Reference5Ideal.Value.run m' g')
  obtain ⟨e0, -, e2⟩ := hagree c
  rw [e0, e2]
  funext i
  refine Eq.trans ?_ (Kernel5Ideal.Value.result_apply m c i).symm
  pointwise
  refine Finset.sum_congr rfl fun k _ => ?_
  exact (mul_comm _ _).trans (congrArg₂ (· * ·) (cell_ix2 (m (c.tc.loc Kernel5Ideal.main_arg0)) k (i 0)).symm
    (cell_ix2 (m (c.tc.loc Kernel5Ideal.main_arg2)) k (i 1)).symm)

end Cert.Ffn

end
-- ==== Proof.Gate.Act.lean ====
module

public import proofs.«01_k».proof.Defs
public import proofs.«01_k».proof.Proof.Ffn.Sums
public import proofs.«01_k».proof.Proof.Gen.Kernel6Ideal.Value
public import proofs.«01_k».proof.Proof.Gen.Reference6Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel6Ideal.Value

open Cert.Kernel6Ideal Cert.Kernel6Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-! ## Over the extended reals -/

section AtIdeal

variable (m : (ℓ : Loc nD τ sig) → Buf (Elt Ideal) ℓ)

/-- The grid's blocks: each point has its rows of every array. -/
theorem block_index : ∀ t : Fin cfg0.N, win0_0.index t 0 = t.val ∧ win0_0.index t 1 = 0
    ∧ win0_1.index t 0 = t.val ∧ win0_1.index t 1 = 0 ∧ win0_2.index t 0 = t.val ∧ win0_2.index t 1 = 0 :=
  (by decide +kernel : ∀ t : Fin grid0.N, _)

theorem block_gu (c : Dev nD) (t : Fin cfg0.N) (j : S128x5632.Idx) :
    (iblk m c 0 t : Vec Ideal S128x5632 .f32) j = cell (m ((c : Thread nD τ).loc main_arg0)) (t.val * 128 + (j 0).val) (j 1).val := by
  obtain ⟨e0, e1, -⟩ := block_index t
  unfold iblk
  rw [View.read_apply]
  refine cell_idx (m ((c : Thread nD τ).loc main_arg0)) _ _ _ ?_ ?_
  · show win0_0.index t 0 * 128 + 1 * (j 0).val = _; rw [e0, Nat.one_mul]
  · show win0_0.index t 1 * 5632 + 1 * (j 1).val = _; rw [e1]; omega

theorem block_dact (c : Dev nD) (t : Fin cfg0.N) (j : S128x2816.Idx) :
    (iblk m c 1 t : Vec Ideal S128x2816 .f32) j = cell (m ((c : Thread nD τ).loc main_arg1)) (t.val * 128 + (j 0).val) (j 1).val := by
  obtain ⟨-, -, e0, e1, -⟩ := block_index t
  unfold iblk
  rw [View.read_apply]
  refine cell_idx (m ((c : Thread nD τ).loc main_arg1)) _ _ _ ?_ ?_
  · show win0_1.index t 0 * 128 + 1 * (j 0).val = _; rw [e0, Nat.one_mul]
  · show win0_1.index t 1 * 2816 + 1 * (j 1).val = _; rw [e1]; omega

/-- The logistic function. -/
abbrev sg (x : EReal) : EReal := FloatOps.logistic (F := Ideal) (φ := .f32) x

/-- The gradient with respect to the gate `g`, where `u` is the up half and `d` the gradient of the product. -/
def gateGrad (g u d : EReal) : EReal := d * u * sg g + g * (d * u) * (sg g * (1 - sg g))

/-- The gradient with respect to the up half. -/
def upGrad (g d : EReal) : EReal := g * sg g * d

/-- The gradient array's entry at row `r` and column `s`: the gate's half, then the up half. -/
def entry (gu : S4096x5632.Idx → EReal) (dact : S4096x2816.Idx → EReal) (r s : ℕ) : EReal :=
  if s < 2816 then gateGrad (cell gu r s) (cell gu r (s + 2816)) (cell dact r s)
  else upGrad (cell gu r (s - 2816)) (cell dact r (s - 2816))

/-- What a point writes back, entry by entry. -/
theorem out_apply (c : Dev nD) (t : Fin cfg0.N) (y : S128x5632.Idx) :
    (out0_2 (iblk m c 0 t) (iblk m c 1 t) y : EReal)
      = entry (m ((c : Thread nD τ).loc main_arg0)) (m ((c : Thread nD τ).loc main_arg1)) (t.val * 128 + (y 0).val) (y 1).val := by
  unfold out0_2
  rw [View.canon_unit_zero hz]
  unfold k0_pay1
  pointwise
  simp only [block_gu, block_dact]
  unfold entry
  by_cases h : (y 1).val < 2816
  · simp only [dif_pos h, if_pos h, zero_add, Nat.add_comm (y 1).val]
    rfl
  · simp only [dif_neg h, if_neg h, add_zero]
    rfl

/-- The gradient array. -/
def result (c : Dev nD) : Buf (Elt Ideal) ((c : Thread nD τ).loc main_v0) := fun i =>
  show EReal from entry (m ((c : Thread nD τ).loc main_arg0)) (m ((c : Thread nD τ).loc main_arg1)) (i 0).val (i 1).val

/-- A point writes back its rows of the gradient array. -/
theorem flushed_eq (c : Dev nD) (t : Fin cfg0.N) :
    (dats m 0 c).flushed 2 t = ((cfg0.win 2).blk t).view.read (Elt Ideal) (result m c) := by
  rw [flushed2]
  obtain ⟨-, -, -, -, e0, e1⟩ := block_index t
  funext y
  refine (out_apply m c t _).trans ?_
  rw [View.read_apply]
  unfold result
  have h0 : (((cfg0.win 2).blk t).view.emb y 0).val = t.val * 128 + (y 0).val := by
    show win0_2.index t 0 * 128 + 1 * (y 0).val = _; rw [e0, Nat.one_mul]
  have h1 : (((cfg0.win 2).blk t).view.emb y 1).val = (y 1).val := by
    show win0_2.index t 1 * 5632 + 1 * (y 1).val = _; rw [e1]; omega
  rw [h0, h1]
  rfl

/-- The rows of all points make up the array. -/
theorem final_result (c : Dev nD) : (dats m 0 c).arrAt 2 cfg0.N = result m c :=
  (dats m 0 c).arrAt_eq_of_cover 2 (result m c) (fun t _ => flushed_eq m c t) fun i => by
    have h0 : (i 0).val < 4096 := (i 0).isLt
    have h1 : (i 1).val < 5632 := (i 1).isLt
    have hN : cfg0.N = 32 := N_0
    obtain ⟨t, ht⟩ : ∃ t : Fin cfg0.N, t.val = (i 0).val / 128 := ⟨⟨_, by omega⟩, rfl⟩
    obtain ⟨-, -, -, -, e0, e1⟩ := block_index t
    refine ⟨t, flush0_2 t, ?_⟩
    show i ∈ ((View.whole main_v0).slice (win0_2.rect t)).set
    rw [View.set_slice_whole, Rect.mem_set_unit]
    intro a
    match a with
    | ⟨0, _⟩ => show win0_2.index t 0 * 128 ≤ (i 0).val ∧ (i 0).val < win0_2.index t 0 * 128 + 128; omega
    | ⟨1, _⟩ => show win0_2.index t 1 * 5632 ≤ (i 1).val ∧ (i 1).val < win0_2.index t 1 * 5632 + 5632; omega

end AtIdeal

end Cert.Kernel6Ideal.Value

namespace Cert.Ffn

/-- The gradient of the gated product is the plain gradient. -/
theorem act_bwd : algebraic_Kernel6Ideal_Reference6Ideal := by
  intro m g m' g' _ hagree
  refine ⟨fun c => Kernel6Ideal.Value.result m c, (θ_run _ _ _).mono
    (fun r h c => ⟨(h c).1.trans (Kernel6Ideal.Value.final_result m c), (h c).2⟩) (Kernel6Ideal.Value.run_blocks m g), ?_⟩
  refine (θ_run _ _ _).mono (fun r h c => ⟨(h c).1.trans ?_, (h c).2⟩) (Reference6Ideal.Value.run m' g')
  obtain ⟨e0, e1⟩ := hagree c
  rw [e0, e1]
  funext i
  unfold Kernel6Ideal.Value.result
  pointwise
  unfold Kernel6Ideal.Value.entry Kernel6Ideal.Value.gateGrad Kernel6Ideal.Value.upGrad
  by_cases h : (i 1).val < 2816
  · rw [dif_pos h, if_pos h, Nat.add_comm (i 1).val, ← cell_idx (m (c.tc.loc Kernel6Ideal.main_arg0)) i _ _ rfl rfl,
      cell_ix2 (m (c.tc.loc Kernel6Ideal.main_arg0)) (i 0) ⟨2816 + (i 1).val, _⟩,
      cell_ix2 (m (c.tc.loc Kernel6Ideal.main_arg1)) (i 0) ⟨(i 1).val, h⟩]
    rfl
  · rw [dif_neg h, if_neg h, cell_ix2 (m (c.tc.loc Kernel6Ideal.main_arg0)) (i 0) ⟨(i 1).val - 2816, _⟩,
      cell_ix2 (m (c.tc.loc Kernel6Ideal.main_arg1)) (i 0) ⟨(i 1).val - 2816, _⟩]
    rfl

end Cert.Ffn

end
-- ==== Proof.Gate.Norm.lean ====
module

public import proofs.«01_k».proof.Defs
public import proofs.«01_k».proof.Proof.Ffn.Sums
public import proofs.«01_k».proof.Proof.Gen.Kernel7Ideal.Value
public import proofs.«01_k».proof.Proof.Gen.Reference7Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Ffn

/-! One row of the norm: `x` the row, `d` the gradient of the normed row, `g` the gain. -/

/-- The row's mean square, with the small constant under the root. -/
def meanSq (x : Fin 1024 → EReal) : EReal :=
  (∑ k, x k * x k) * Ideal.ofBits FTy.f32 981467136#32 + Ideal.ofBits FTy.f32 897988541#32

/-- What reaches each entry of the row through the mean square, for one of the square's two factors. -/
def viaMean (x d g : Fin 1024 → EReal) : EReal :=
  (∑ k, x k * (d k * g k)) * (Ideal.ofBits FTy.f32 3204448256#32 * Ideal.div (Ideal.rsqrt (meanSq x)) (meanSq x))
    * Ideal.ofBits FTy.f32 981467136#32

/-- The row's gradient: directly, through the mean square's two factors, and from the residual. -/
def rowGrad (x d g r : Fin 1024 → EReal) (j : Fin 1024) : EReal :=
  d j * g j * Ideal.rsqrt (meanSq x) + x j * viaMean x d g + viaMean x d g * x j + r j

/-- The row's part of the gain's gradient. -/
def gainGrad (x d : Fin 1024 → EReal) (j : Fin 1024) : EReal := x j * Ideal.rsqrt (meanSq x) * d j

/-- A matrix's row, as a function of the column. -/
def row {a b : ℕ} (X : (⟨2, ![a, b]⟩ : Shape).Idx → EReal) (r : ℕ) (k : Fin 1024) : EReal := cell X r k.val

end Cert.Ffn

namespace Cert.Kernel7Ideal.Value

open Cert.Kernel7Ideal Cert.Kernel7Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-- At every point the input's gradient is the body's term of the point's blocks. -/
theorem dx_eq (c : Dev nD) (t : Fin cfg0.N) :
    (outsAt0 m c t.val t.isLt).1 = k0_pay6 (iblk m c 0 t) (iblk m c 1 t) (iblk m c 2 t) (iblk m c 3 t) := by
  by_cases h0 : t.val % 16 = 0
  · rw [outsAt0_A m c t h0]
    dsimp only
    unfold out0_A_4
    rw [View.read_writes_eq_canon _ _ _ (fun y => cover0_A_4 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S256x1024) hz, View.ld_unit_zero (S := S1x1024) hz]
  · rw [outsAt0_B m c t h0]
    dsimp only
    unfold out0_B_4
    rw [View.read_writes_eq_canon _ _ _ (fun y => cover0_B_4 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S256x1024) hz, View.ld_unit_zero (S := S1x1024) hz]

/-- At the first point the gain's gradient is cleared and takes the point's rows. -/
theorem gain_first (c : Dev nD) (t : Fin cfg0.N) (h0 : t.val % 16 = 0) :
    (outsAt0 m c t.val t.isLt).2 = k0_pay2 (k0_pay5 (iblk m c 0 t) (iblk m c 2 t)) (k0_pay1 (F := F)) := by
  rw [outsAt0_A m c t h0]
  dsimp only
  unfold out0_A_5
  rw [View.read_writes_eq_canon _ _ _ (fun y => cover0_A_5 (y := y) ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_2 t).read_unread, View.ld_unit_zero (S := S256x1024) hz]

/-- At every other point it takes the point's rows on top of what it held. -/
theorem gain_next (c : Dev nD) (t : Fin cfg0.N) (h0 : ¬ t.val % 16 = 0) :
    (outsAt0 m c t.val t.isLt).2 = k0_pay2 (k0_pay5 (iblk m c 0 t) (iblk m c 2 t))
      (outsAt0 m c (t.val - 1) (Nat.lt_of_le_of_lt (Nat.sub_le _ _) t.isLt)).2 := by
  rw [outsAt0_B m c t h0]
  dsimp only
  unfold out0_B_5
  rw [View.read_writes_eq_canon _ _ _ (fun y => cover0_B_5 (y := y) ..)]
  unfold kernelRun0_B
  dsimp only
  sl_unfold_words
  rw [View.canon_unit_zero hz]
  simp only [View.readAt_eq_ld, (hs0_0 t).read_unread, (hs0_2 t).read_unread, (hs0_5 t).read_unread,
    View.ld_unit_zero (S := S256x1024) hz, View.ld_unit_zero (S := S1x1024) hz]

/-! ## Over the extended reals -/

section AtIdeal

variable (m : (ℓ : Loc nD τ sig) → Buf (Elt Ideal) ℓ)

/-- The grid's blocks: each point has its rows of the input, of its gradients and of the result, and the whole gain. -/
theorem block_rows : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = 0 ∧ win0_5.index t 1 = 0) :=
  (by decide +kernel : ∀ t : Fin grid0.N, _)

theorem block_x (c : Dev nD) (t : Fin cfg0.N) (j : S256x1024.Idx) :
    (iblk m c 0 t : Vec Ideal S256x1024 .f32) j = cell (m ((c : Thread nD τ).loc main_arg0)) (t.val * 256 + (j 0).val) (j 1).val := by
  obtain ⟨e0, e1⟩ := (block_rows t).1
  unfold iblk
  rw [View.read_apply]
  refine cell_idx (m ((c : Thread nD τ).loc main_arg0)) _ _ _ ?_ ?_
  · show win0_0.index t 0 * 256 + 1 * (j 0).val = _; rw [e0]; omega
  · show win0_0.index t 1 * 1024 + 1 * (j 1).val = _; rw [e1]; omega

theorem block_gain (c : Dev nD) (t : Fin cfg0.N) (j : S1x1024.Idx) :
    (iblk m c 1 t : Vec Ideal S1x1024 .f32) j = cell (m ((c : Thread nD τ).loc main_arg1)) (j 0).val (j 1).val := by
  obtain ⟨e0, e1⟩ := (block_rows t).2.1
  unfold iblk
  rw [View.read_apply]
  refine cell_idx (m ((c : Thread nD τ).loc main_arg1)) _ _ _ ?_ ?_
  · show win0_1.index t 0 * 1 + 1 * (j 0).val = _; rw [e0]; omega
  · show win0_1.index t 1 * 1024 + 1 * (j 1).val = _; rw [e1]; omega

theorem block_dh (c : Dev nD) (t : Fin cfg0.N) (j : S256x1024.Idx) :
    (iblk m c 2 t : Vec Ideal S256x1024 .f32) j = cell (m ((c : Thread nD τ).loc main_arg2)) (t.val * 256 + (j 0).val) (j 1).val := by
  obtain ⟨e0, e1⟩ := (block_rows t).2.2.1
  unfold iblk
  rw [View.read_apply]
  refine cell_idx (m ((c : Thread nD τ).loc main_arg2)) _ _ _ ?_ ?_
  · show win0_2.index t 0 * 256 + 1 * (j 0).val = _; rw [e0]; omega
  · show win0_2.index t 1 * 1024 + 1 * (j 1).val = _; rw [e1]; omega

theorem block_dy (c : Dev nD) (t : Fin cfg0.N) (j : S256x1024.Idx) :
    (iblk m c 3 t : Vec Ideal S256x1024 .f32) j = cell (m ((c : Thread nD τ).loc main_arg3)) (t.val * 256 + (j 0).val) (j 1).val := by
  obtain ⟨e0, e1⟩ := (block_rows t).2.2.2.1
  unfold iblk
  rw [View.read_apply]
  refine cell_idx (m ((c : Thread nD τ).loc main_arg3)) _ _ _ ?_ ?_
  · show win0_3.index t 0 * 256 + 1 * (j 0).val = _; rw [e0]; omega
  · show win0_3.index t 1 * 1024 + 1 * (j 1).val = _; rw [e1]; omega

/-- The result array of the input's gradient. -/
def resultDx (c : Dev nD) : Buf (Elt Ideal) ((c : Thread nD τ).loc main_v0_0) := fun i =>
  rowGrad (row (m ((c : Thread nD τ).loc main_arg0)) (i 0).val) (row (m ((c : Thread nD τ).loc main_arg2)) (i 0).val)
    (row (m ((c : Thread nD τ).loc main_arg1)) 0) (row (m ((c : Thread nD τ).loc main_arg3)) (i 0).val) (i 1)

/-- The result array of the gain's gradient: the rows' parts, summed. -/
def resultGain (c : Dev nD) : Buf (Elt Ideal) ((c : Thread nD τ).loc main_v0_1) := fun i =>
  show EReal from ∑ r : Fin 4096, gainGrad (row (m ((c : Thread nD τ).loc main_arg0)) r.val)
    (row (m ((c : Thread nD τ).loc main_arg2)) r.val) (i 1)

theorem dx_apply (c : Dev nD) (t : Fin cfg0.N) (y : S256x1024.Idx) :
    ((outsAt0 m c t.val t.isLt).1 y : EReal)
      = rowGrad (row (m ((c : Thread nD τ).loc main_arg0)) (t.val * 256 + (y 0).val))
          (row (m ((c : Thread nD τ).loc main_arg2)) (t.val * 256 + (y 0).val))
          (row (m ((c : Thread nD τ).loc main_arg1)) 0)
          (row (m ((c : Thread nD τ).loc main_arg3)) (t.val * 256 + (y 0).val)) (y 1) := by
  rw [dx_eq]
  unfold k0_pay6 k0_pay4 k0_pay3
  pointwise
  simp only [block_x, block_gain, block_dh, block_dy]
  rw [Fin.sum_univ_one]
  rfl

theorem gain_term (c : Dev nD) (t : Fin cfg0.N) (a : Vec Ideal S1x1024 .f32) (y : S1x1024.Idx) :
    (k0_pay2 (k0_pay5 (iblk m c 0 t) (iblk m c 2 t)) a y : EReal)
      = a y + ∑ k : Fin 256, gainGrad (row (m ((c : Thread nD τ).loc main_arg0)) (t.val * 256 + k.val))
          (row (m ((c : Thread nD τ).loc main_arg2)) (t.val * 256 + k.val)) (y 1) := by
  unfold k0_pay2 k0_pay5 k0_pay4 k0_pay3
  pointwise
  simp only [block_x, block_dh]
  rfl

/-- After the last point the gain's gradient holds every row's part. -/
theorem gain_last (c : Dev nD) (t : Fin cfg0.N) (ht : t.val % 16 = 15) (y : S1x1024.Idx) :
    ((outsAt0 m c t.val t.isLt).2 y : EReal) = ∑ r : Fin 4096, gainGrad (row (m ((c : Thread nD τ).loc main_arg0)) r.val)
      (row (m ((c : Thread nD τ).loc main_arg2)) r.val) (y 1) := by
  have hN : cfg0.N = 16 := N_0
  have e (f : ℕ → EReal) : ∑ r : Fin (16 * 256), f r.val = ∑ r : Fin 4096, f r.val := by
    rw [Fin.sum_univ_eq_sum_range]
  refine Eq.trans ?_ (e fun r => gainGrad (row (m ((c : Thread nD τ).loc main_arg0)) r)
    (row (m ((c : Thread nD τ).loc main_arg2)) r) (y 1))
  refine run_total 16 256 (fun n h (y : S1x1024.Idx) => ((outsAt0 m c n h).2 y : EReal))
    (fun _ r y => gainGrad (row (m ((c : Thread nD τ).loc main_arg0)) r) (row (m ((c : Thread nD τ).loc main_arg2)) r) (y 1))
    (fun n h y hn => ?_) (fun n h y hn => ?_) t.val t.isLt y (by omega)
  · show ((outsAt0 m c n h).2 y : EReal) = _
    rw [gain_first m c ⟨n, h⟩ hn, gain_term, Nat.mod_eq_of_lt (by omega : n < 16)]
    unfold k0_pay1
    pointwise
  · show ((outsAt0 m c (n + 1) h).2 y : EReal) = _
    rw [gain_next m c ⟨n + 1, h⟩ hn, gain_term, Nat.mod_eq_of_lt (by omega : n + 1 < 16)]
    rfl

/-- A point writes back its rows of the input's gradient. -/
theorem flushed_dx (c : Dev nD) (t : Fin cfg0.N) :
    (dats m 0 c).flushed 4 t = ((cfg0.win 4).blk t).view.read (Elt Ideal) (resultDx m c) := by
  rw [flushed4]
  obtain ⟨e0, e1⟩ := (block_rows t).2.2.2.2.1
  funext y
  refine (dx_apply m c t _).trans ?_
  rw [View.read_apply]
  unfold resultDx
  have h0 : (((cfg0.win 4).blk t).view.emb y 0).val = t.val * 256 + (y 0).val := by
    show win0_4.index t 0 * 256 + 1 * (y 0).val = _; rw [e0, Nat.one_mul]
  have h1 : ((cfg0.win 4).blk t).view.emb y 1 = y 1 := Fin.ext (by
    show win0_4.index t 1 * 1024 + 1 * (y 1).val = _; rw [e1]; omega)
  rw [h0, h1]
  rfl

/-- The last point writes back the gain's gradient. -/
theorem flushed_gain (c : Dev nD) (t : Fin cfg0.N) (ht : t.val % 16 = 15) :
    (dats m 0 c).flushed 5 t = ((cfg0.win 5).blk t).view.read (Elt Ideal) (resultGain m c) := by
  rw [flushed5]
  obtain ⟨e0, e1⟩ := (block_rows t).2.2.2.2.2
  funext y
  refine (gain_last m c t ht _).trans ?_
  rw [View.read_apply]
  unfold resultGain
  have h1 : ((cfg0.win 5).blk t).view.emb y 1 = y 1 := Fin.ext (by
    show win0_5.index t 1 * 1024 + 1 * (y 1).val = _; rw [e1]; omega)
  rw [h1]
  rfl

theorem final_dx (c : Dev nD) : (dats m 0 c).arrAt 4 cfg0.N = resultDx m c :=
  (dats m 0 c).arrAt_eq_of_cover 4 (resultDx m c) (fun t _ => flushed_dx m c t) fun i => by
    have h0 : (i 0).val < 4096 := (i 0).isLt
    have h1 : (i 1).val < 1024 := (i 1).isLt
    have hN : cfg0.N = 16 := N_0
    obtain ⟨t, ht⟩ : ∃ t : Fin cfg0.N, t.val = (i 0).val / 256 := ⟨⟨_, by omega⟩, rfl⟩
    obtain ⟨e0, e1⟩ := (block_rows t).2.2.2.2.1
    refine ⟨t, flush0_4 t, ?_⟩
    show i ∈ ((View.whole main_v0_0).slice (win0_4.rect t)).set
    rw [View.set_slice_whole, Rect.mem_set_unit]
    intro a
    match a with
    | ⟨0, _⟩ => show win0_4.index t 0 * 256 ≤ (i 0).val ∧ (i 0).val < win0_4.index t 0 * 256 + 256; omega
    | ⟨1, _⟩ => show win0_4.index t 1 * 1024 ≤ (i 1).val ∧ (i 1).val < win0_4.index t 1 * 1024 + 1024; omega

theorem final_gain (c : Dev nD) : (dats m 0 c).arrAt 5 cfg0.N = resultGain m c :=
  (dats m 0 c).arrAt_eq_of_cover 5 (resultGain m c) (fun t ht => flushed_gain m c t ((flush0_5 t).mp ht)) fun i => by
    have h0 : (i 0).val < 1 := (i 0).isLt
    have h1 : (i 1).val < 1024 := (i 1).isLt
    have hN : cfg0.N = 16 := N_0
    obtain ⟨t, ht⟩ : ∃ t : Fin cfg0.N, t.val = 15 := ⟨⟨15, by omega⟩, rfl⟩
    obtain ⟨e0, e1⟩ := (block_rows t).2.2.2.2.2
    refine ⟨t, (flush0_5 t).mpr (by omega), ?_⟩
    show i ∈ ((View.whole main_v0_1).slice (win0_5.rect t)).set
    rw [View.set_slice_whole, Rect.mem_set_unit]
    intro a
    match a with
    | ⟨0, _⟩ => show win0_5.index t 0 * 1 ≤ (i 0).val ∧ (i 0).val < win0_5.index t 0 * 1 + 1; omega
    | ⟨1, _⟩ => show win0_5.index t 1 * 1024 ≤ (i 1).val ∧ (i 1).val < win0_5.index t 1 * 1024 + 1024; omega

end AtIdeal

end Cert.Kernel7Ideal.Value

namespace Cert.Ffn

/-! The plain gradient's terms. -/

section Plain

open Cert.Reference7Ideal Cert.Reference7Ideal.Gen

theorem div_1024 (x : EReal) : Ideal.div x (Ideal.ofBits .f32 1149239296#32) = x * Ideal.ofBits .f32 981467136#32 := by
  have e1 : Ideal.ofBits .f32 1149239296#32 = ((1024 : ℝ) : EReal) := by
    simp [Ideal.ofBits, Ideal.ieee, -EReal.coe_mul]; norm_num
  have e2 : Ideal.ofBits .f32 981467136#32 = (((1024 : ℝ)⁻¹ : ℝ) : EReal) := by
    simp [Ideal.ofBits, Ideal.ieee, -EReal.coe_mul]; norm_num
  rw [e1, e2, Ideal.div, if_neg (by norm_num), ← EReal.coe_inv]

theorem row_ix {a : ℕ} (X : (⟨2, ![a, 1024]⟩ : Shape).Idx → EReal) (r : Fin a) (k : Fin 1024) :
    X (Idealize.ShloMosaic.ix2 r k) = row X r.val k := (cell_ix2 X r k).symm

variable (X D : FVec Ideal S4096x1024 .f32) (G : FVec Ideal S1x1024 .f32) (Y : FVec Ideal S4096x1024 .f32)

def plainSq : FVec Ideal S4096x1 .f32 :=
  addf (Host.divf (broadcastInDim S4096x1 ![0] bcast_S4096_S4096x1_0 (Host.reduceAdd (mulf X X) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32))

def plainDot : FVec Ideal S4096 .f32 :=
  Host.reduceAdd (mulf X (mulf D (broadcastInDim S4096x1024 ![0, 1] bcast_S1x1024_S4096x1024_0_1 G)))
    (constant S_ .f32 0x00000000#32) reducesTo_S4096x1024_S4096_d1 h_S_

def plainVia : FVec Ideal S4096 .f32 :=
  Host.reduceAdd (Host.divf (mulf (shapeCast S4096x1 (plainDot X D G) shapeCasts_S4096_S4096x1)
    (mulf (broadcastInDim S4096x1 ![] bcast_S_S4096x1 (constant S_ .f32 0xBF000000#32))
      (Host.divf (Host.rsqrt (plainSq X)) (plainSq X))))
    (broadcastInDim S4096x1 ![] bcast_S_S4096x1 (constant S_ .f32 0x44800000#32)))
    (constant S_ .f32 0x00000000#32) reducesTo_S4096x1_S4096_d1 h_S_

def plainDx : FVec Ideal S4096x1024 .f32 :=
  addf (addf (addf (mulf (mulf D (broadcastInDim S4096x1024 ![0, 1] bcast_S1x1024_S4096x1024_0_1 G))
    (broadcastInDim S4096x1024 ![0, 1] bcast_S4096x1_S4096x1024_0_1 (Host.rsqrt (plainSq X))))
    (mulf X (broadcastInDim S4096x1024 ![0] bcast_S4096_S4096x1024_0 (plainVia X D G))))
    (mulf (broadcastInDim S4096x1024 ![0] bcast_S4096_S4096x1024_0 (plainVia X D G)) X)) Y

def plainGain : FVec Ideal S1x1024 .f32 :=
  shapeCast S1x1024 (Host.reduceAdd (mulf (mulf X (broadcastInDim S4096x1024 ![0, 1] bcast_S4096x1_S4096x1024_0_1
    (Host.rsqrt (plainSq X)))) D) (constant S_ .f32 0x00000000#32) reducesTo_S4096x1024_S1024_d0 h_S_) shapeCasts_S1024_S1x1024

theorem plainSq_apply (r : Fin 4096) (z : Fin 1) : (plainSq X (Idealize.ShloMosaic.ix2 r z) : EReal) = meanSq (row X r.val) := by
  unfold plainSq
  pointwise
  rw [div_1024]
  exact congrArg (· * _ + _) (Finset.sum_congr rfl fun k _ => congrArg₂ (· * ·) (row_ix X r k) (row_ix X r k))

theorem plainDot_apply (r : Fin 4096) :
    (plainDot X D G (Idealize.ShloMosaic.ix1 r) : EReal) = ∑ k, row X r.val k * (row D r.val k * row G 0 k) := by
  unfold plainDot
  pointwise
  exact Finset.sum_congr rfl fun k _ =>
    congrArg₂ (· * ·) (row_ix X r k) (congrArg₂ (· * ·) (row_ix D r k) (row_ix G 0 k))

theorem plainVia_apply (r : Fin 4096) :
    (plainVia X D G (Idealize.ShloMosaic.ix1 r) : EReal) = viaMean (row X r.val) (row D r.val) (row G 0) := by
  unfold plainVia
  pointwise
  rw [Fin.sum_univ_one, div_1024]
  unfold viaMean
  rw [← plainDot_apply, ← plainSq_apply X r 0]

theorem plainDx_apply (i : S4096x1024.Idx) : (plainDx X D G Y i : EReal)
    = rowGrad (row X (i 0).val) (row D (i 0).val) (row G 0) (row Y (i 0).val) (i 1) := by
  have hX : X i = row X (i 0).val (i 1) := cell_idx X i _ _ rfl rfl
  have hD : D i = row D (i 0).val (i 1) := cell_idx D i _ _ rfl rfl
  have hY : Y i = row Y (i 0).val (i 1) := cell_idx Y i _ _ rfl rfl
  have hG : G (Idealize.ShloMosaic.ix2 0 (i 1)) = row G 0 (i 1) := row_ix G 0 (i 1)
  unfold plainDx
  pointwise
  unfold rowGrad
  rw [hX, hD, hY, hG]
  refine congrArg (· + _) (congrArg₂ (· + ·) (congrArg₂ (· + ·) (congrArg (_ * ·) (congrArg Ideal.rsqrt ?_))
    (congrArg (_ * ·) ?_)) (congrArg (· * _) ?_))
  · exact plainSq_apply X (i 0) 0
  · exact plainVia_apply X D G (i 0)
  · exact plainVia_apply X D G (i 0)

theorem plainGain_apply (i : S1x1024.Idx) : (plainGain X D i : EReal)
    = ∑ r : Fin 4096, gainGrad (row X r.val) (row D r.val) (i 1) := by
  unfold plainGain
  pointwise
  exact Finset.sum_congr rfl fun r _ => congrArg₂ (· * ·) (congrArg₂ (· * ·) (row_ix X r (i 1))
    (congrArg Ideal.rsqrt (plainSq_apply X r 0))) (row_ix D r (i 1))

end Plain

/-- The gradient of the root mean square norm, with the residual's gradient added, is the plain gradient. -/
theorem norm_bwd : algebraic_Kernel7Ideal_Reference7Ideal := by
  intro m g m' g' _ hagree
  refine ⟨fun c => Kernel7Ideal.Value.resultDx m c, fun c => Kernel7Ideal.Value.resultGain m c, (θ_run _ _ _).mono
    (fun r h c => ⟨(h c).1.trans (Kernel7Ideal.Value.final_dx m c), (h c).2.1.trans (Kernel7Ideal.Value.final_gain m c), (h c).2.2⟩)
    (Kernel7Ideal.Value.run_blocks m g), ?_⟩
  refine (θ_run _ _ _).mono (fun r h c => ⟨(h c).1.trans ?_, (h c).2.1.trans ?_, (h c).2.2⟩) (Reference7Ideal.Value.run m' g')
  · obtain ⟨e0, e1, e2, e3⟩ := hagree c
    rw [e0, e1, e2, e3]
    exact funext fun i => plainDx_apply (m (c.tc.loc Kernel7Ideal.main_arg0)) (m (c.tc.loc Kernel7Ideal.main_arg2))
      (m (c.tc.loc Kernel7Ideal.main_arg1)) (m (c.tc.loc Kernel7Ideal.main_arg3)) i
  · obtain ⟨e0, -, e2, -⟩ := hagree c
    rw [e0, e2]
    exact funext fun i => plainGain_apply (m (c.tc.loc Kernel7Ideal.main_arg0)) (m (c.tc.loc Kernel7Ideal.main_arg2)) i

end Cert.Ffn

end
-- ==== Proof.Mix.DnInDx.lean ====
module

public import proofs.«01_k».proof.Defs
public import proofs.«01_k».proof.Proof.Ffn.Sums
public import proofs.«01_k».proof.Proof.Gen.Kernel8Ideal.Value
public import proofs.«01_k».proof.Proof.Gen.Reference8Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel8Ideal.Value

open Cert.Kernel8Ideal Cert.Kernel8Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-- At a run's first point the scratch is cleared and takes the first block product. -/
theorem scratch_first (c : Dev nD) (t : Fin cfg0.N) (h0 : t.val % 11 = 0) :
    (outsAt0 m c t.val t.isLt).2 = k0_pay2 (k0_pay1 (F := F)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x384) hz]

/-- At every other point it takes the point's block product on top of what it held. -/
theorem scratch_next (c : Dev nD) (t : Fin cfg0.N) (h0 : ¬ t.val % 11 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 11 = 10
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz]
    simp only [View.readAt_eq_ld, (hs0_0 t).read_unread, (hs0_1 t).read_unread, (Memref.isWhole_whole _).read_unread,
      View.ld_unit_zero (S := S1024x384) hz, View.ld_unit_zero (S := S1024x1024) hz]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz]
    simp only [View.readAt_eq_ld, (hs0_0 t).read_unread, (hs0_1 t).read_unread, (Memref.isWhole_whole _).read_unread,
      View.ld_unit_zero (S := S1024x384) hz, View.ld_unit_zero (S := S1024x1024) hz]

/-- At a run's last point the output block is the scratch. -/
theorem out_last (c : Dev nD) (t : Fin cfg0.N) (h1 : t.val % 11 = 10) :
    (outsAt0 m c t.val t.isLt).1 = (outsAt0 m c t.val t.isLt).2 := by
  rw [scratch_next m c t (by omega), outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero hz, View.readCov_unit_zero (S := S1024x1024) _ hz]
  simp only [View.readAt_eq_ld, (hs0_0 t).read_unread, (hs0_1 t).read_unread, (Memref.isWhole_whole _).read_unread,
    View.ld_unit_zero (S := S1024x384) hz, View.ld_unit_zero (S := S1024x1024) hz]

/-! ## Over the extended reals -/

section AtIdeal

variable (m : (ℓ : Loc nD τ sig) → Buf (Elt Ideal) ℓ)

/-- The grid's blocks: the columns of both operands go with the point's place in its run, the output's rows with the run. -/
theorem block_index : ∀ t : Fin cfg0.N, win0_0.index t 0 = t.val / 11 ∧ win0_0.index t 1 = t.val % 11
    ∧ win0_1.index t 0 = 0 ∧ win0_1.index t 1 = t.val % 11 :=
  (by decide +kernel : ∀ t : Fin grid0.N, _)

theorem block_left (c : Dev nD) (t : Fin cfg0.N) (j : S1024x384.Idx) :
    (iblk m c 0 t : Vec Ideal S1024x384 .bf16) j
      = cell (m ((c : Thread nD τ).loc main_arg2)) (t.val / 11 * 1024 + (j 0).val) (t.val % 11 * 384 + (j 1).val) := by
  obtain ⟨e0, e1, -, -⟩ := block_index t
  unfold iblk
  rw [View.read_apply]
  refine cell_idx (m ((c : Thread nD τ).loc main_arg2)) _ _ _ ?_ ?_
  · show win0_0.index t 0 * 1024 + 1 * (j 0).val = _; rw [e0, Nat.one_mul]
  · show win0_0.index t 1 * 384 + 1 * (j 1).val = _; rw [e1, Nat.one_mul]

theorem block_right (c : Dev nD) (t : Fin cfg0.N) (j : S1024x384.Idx) :
    (iblk m c 1 t : Vec Ideal S1024x384 .bf16) j
      = cell (m ((c : Thread nD τ).loc main_arg1)) (0 * 1024 + (j 0).val) (t.val % 11 * 384 + (j 1).val) := by
  obtain ⟨-, -, e0, e1⟩ := block_index t
  unfold iblk
  rw [View.read_apply]
  refine cell_idx (m ((c : Thread nD τ).loc main_arg1)) _ _ _ ?_ ?_
  · show win0_1.index t 0 * 1024 + 1 * (j 0).val = _; rw [e0, Nat.one_mul]
  · show win0_1.index t 1 * 384 + 1 * (j 1).val = _; rw [e1, Nat.one_mul]

/-- One product of the sum that the points of run `r` make of an output entry. -/
def term (c : Dev nD) (r k : ℕ) (y : S1024x1024.Idx) : EReal :=
  cell (m ((c : Thread nD τ).loc main_arg2)) (r * 1024 + (y 0).val) k
    * cell (m ((c : Thread nD τ).loc main_arg1)) (0 * 1024 + (y 1).val) k

/-- What the body adds at a point. -/
theorem step_apply (c : Dev nD) (t : Fin cfg0.N) (a : Vec Ideal S1024x1024 .f32) (y : S1024x1024.Idx) :
    (k0_pay2 a (iblk m c 0 t) (iblk m c 1 t) y : EReal)
      = a y + ∑ k : Fin 384, term m c (t.val / 11) (t.val % 11 * 384 + k.val) y := by
  unfold k0_pay2
  pointwise
  simp only [block_left, block_right]
  rfl

theorem start_apply (y : S1024x1024.Idx) : (k0_pay1 (F := Ideal) y : EReal) = 0 := by
  unfold k0_pay1
  pointwise

/-- After a run's last point the scratch holds the sum over the whole contracted axis. -/
theorem scratch_last (c : Dev nD) (n : ℕ) (h : n < cfg0.N) (hn : n % 11 + 1 = 11) (y : S1024x1024.Idx) :
    ((outsAt0 m c n h).2 y : EReal) = ∑ k : Fin 4224, term m c (n / 11) k.val y :=
  run_total 11 384 (fun n h y => ((outsAt0 m c n h).2 y : EReal)) (term m c)
    (fun n h y h0 => by
      show ((outsAt0 m c n h).2 y : EReal) = _
      rw [scratch_first m c ⟨n, h⟩ h0, step_apply, start_apply, zero_add])
    (fun n h y h0 => by
      show ((outsAt0 m c (n + 1) h).2 y : EReal) = _
      rw [scratch_next m c ⟨n + 1, h⟩ h0, step_apply]
      rfl)
    n h y hn

/-- The result array's entry: the whole contracted axis. -/
theorem result_apply (c : Dev nD) (i : S4096x1024.Idx) :
    (show EReal from G2 m c i) = ∑ k : Fin 4224, cell (m ((c : Thread nD τ).loc main_arg2)) (i 0).val k.val
      * cell (m ((c : Thread nD τ).loc main_arg1)) (i 1).val k.val := by
  have h0 : (i 0).val < 4096 := (i 0).isLt
  have h1 : (i 1).val < 1024 := (i 1).isLt
  have hp : pt2Of i = 11 * (1 * ((i 0).val / 1024) + (i 1).val / 1024) + 10 := by
    show 11 * (1 * ((i 0).val / 1024 - 0) + 1 * ((i 1).val / 1024 - 0)) + 10 = _
    omega
  have hN : cfg0.N = 44 := N_0
  have hlt : pt2Of i < cfg0.N := by omega
  unfold G2
  rw [dif_pos hlt, ← outsAt0_sweep m c _ hlt, out_last m c ⟨pt2Of i, hlt⟩ (by show pt2Of i % 11 = 10; omega),
    scratch_last m c _ hlt (by omega)]
  refine Finset.sum_congr rfl fun k _ => ?_
  unfold term
  have l0 : (loc2Of i 0).val = (i 0).val % 1024 := rfl
  have l1 : (loc2Of i 1).val = (i 1).val % 1024 := rfl
  rw [l0, l1, show pt2Of i / 11 * 1024 + (i 0).val % 1024 = (i 0).val by omega,
    show 0 * 1024 + (i 1).val % 1024 = (i 1).val by omega]

end AtIdeal

end Cert.Kernel8Ideal.Value

namespace Cert.Ffn

/-- The gradient of the recurrent mixer's input product with respect to its input is the plain gradient. -/
theorem dn_in_dx : algebraic_Kernel8Ideal_Reference8Ideal := by
  intro m g m' g' _ hagree
  refine ⟨fun c => Kernel8Ideal.Value.G2 m c, Kernel8Ideal.Value.run m g, ?_⟩
  refine (θ_run _ _ _).mono (fun r h c => ⟨(h c).1.trans ?_, (h c).2⟩) (Reference8Ideal.Value.run m' g')
  obtain ⟨-, e1, e2⟩ := hagree c
  rw [e1, e2]
  funext i
  refine Eq.trans ?_ (Kernel8Ideal.Value.result_apply m c i).symm
  pointwise
  refine Finset.sum_congr rfl fun k _ => ?_
  exact congrArg₂ (· * ·) (cell_ix2 (m (c.tc.loc Kernel8Ideal.main_arg2)) (i 0) k).symm
    (cell_ix2 (m (c.tc.loc Kernel8Ideal.main_arg1)) (i 1) k).symm

end Cert.Ffn

end
-- ==== Proof.Mix.DnInDw.lean ====
module

public import proofs.«01_k».proof.Defs
public import proofs.«01_k».proof.Proof.Ffn.Sums
public import proofs.«01_k».proof.Proof.Gen.Kernel9Ideal.Value
public import proofs.«01_k».proof.Proof.Gen.Reference9Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel9Ideal.Value

open Cert.Kernel9Ideal Cert.Kernel9Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-- At a run's first point the scratch is cleared and takes the first block product. -/
theorem scratch_first (c : Dev nD) (t : Fin cfg0.N) (h0 : t.val % 4 = 0) :
    (outsAt0 m c t.val t.isLt).2 = k0_pay2 (k0_pay1 (F := F)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1408) hz, View.readCov_unit_zero (S := S1024x1408) _ hz]
  simp only [View.readAt_eq_ld, (hs0_0 t).read_unread, (hs0_1 t).read_unread, View.ld_unit_zero (S := S1024x1024) hz, View.ld_unit_zero (S := S1024x1408) hz]

/-- At every other point it takes the point's block product on top of what it held. -/
theorem scratch_next (c : Dev nD) (t : Fin cfg0.N) (h0 : ¬ t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz]
    simp only [View.readAt_eq_ld, (hs0_0 t).read_unread, (hs0_1 t).read_unread, (Memref.isWhole_whole _).read_unread,
      View.ld_unit_zero (S := S1024x1024) hz, View.ld_unit_zero (S := S1024x1408) hz]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz]
    simp only [View.readAt_eq_ld, (hs0_0 t).read_unread, (hs0_1 t).read_unread, (Memref.isWhole_whole _).read_unread,
      View.ld_unit_zero (S := S1024x1024) hz, View.ld_unit_zero (S := S1024x1408) hz]

/-- At a run's last point the output block is the scratch. -/
theorem out_last (c : Dev nD) (t : Fin cfg0.N) (h1 : t.val % 4 = 3) :
    (outsAt0 m c t.val t.isLt).1 = (outsAt0 m c t.val t.isLt).2 := by
  rw [scratch_next m c t (by omega), outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero hz, View.readCov_unit_zero (S := S1024x1408) _ hz]
  simp only [View.readAt_eq_ld, (hs0_0 t).read_unread, (hs0_1 t).read_unread, (Memref.isWhole_whole _).read_unread,
    View.ld_unit_zero (S := S1024x1024) hz, View.ld_unit_zero (S := S1024x1408) hz]

/-! ## Over the extended reals -/

section AtIdeal

variable (m : (ℓ : Loc nD τ sig) → Buf (Elt Ideal) ℓ)

/-- The grid's blocks: the rows of both operands go with the point's place in its run, the output's columns with the run. -/
theorem block_index : ∀ t : Fin cfg0.N, win0_0.index t 0 = t.val % 4 ∧ win0_0.index t 1 = 0
    ∧ win0_1.index t 0 = t.val % 4 ∧ win0_1.index t 1 = t.val / 4 :=
  (by decide +kernel : ∀ t : Fin grid0.N, _)

theorem block_left (c : Dev nD) (t : Fin cfg0.N) (j : S1024x1024.Idx) :
    (iblk m c 0 t : Vec Ideal S1024x1024 .bf16) j
      = cell (m ((c : Thread nD τ).loc main_arg0)) (t.val % 4 * 1024 + (j 0).val) (0 * 1024 + (j 1).val) := by
  obtain ⟨e0, e1, -, -⟩ := block_index t
  unfold iblk
  rw [View.read_apply]
  refine cell_idx (m ((c : Thread nD τ).loc main_arg0)) _ _ _ ?_ ?_
  · show win0_0.index t 0 * 1024 + 1 * (j 0).val = _; rw [e0, Nat.one_mul]
  · show win0_0.index t 1 * 1024 + 1 * (j 1).val = _; rw [e1, Nat.one_mul]

theorem block_right (c : Dev nD) (t : Fin cfg0.N) (j : S1024x1408.Idx) :
    (iblk m c 1 t : Vec Ideal S1024x1408 .bf16) j
      = cell (m ((c : Thread nD τ).loc main_arg2)) (t.val % 4 * 1024 + (j 0).val) (t.val / 4 * 1408 + (j 1).val) := by
  obtain ⟨-, -, e0, e1⟩ := block_index t
  unfold iblk
  rw [View.read_apply]
  refine cell_idx (m ((c : Thread nD τ).loc main_arg2)) _ _ _ ?_ ?_
  · show win0_1.index t 0 * 1024 + 1 * (j 0).val = _; rw [e0, Nat.one_mul]
  · show win0_1.index t 1 * 1408 + 1 * (j 1).val = _; rw [e1, Nat.one_mul]

/-- One product of the sum that the points of run `r` make of an output entry. -/
def term (c : Dev nD) (r k : ℕ) (y : S1024x1408.Idx) : EReal :=
  cell (m ((c : Thread nD τ).loc main_arg0)) k (0 * 1024 + (y 0).val)
    * cell (m ((c : Thread nD τ).loc main_arg2)) k (r * 1408 + (y 1).val)

/-- What the body adds at a point. -/
theorem step_apply (c : Dev nD) (t : Fin cfg0.N) (a : Vec Ideal S1024x1408 .f32) (y : S1024x1408.Idx) :
    (k0_pay2 a (iblk m c 0 t) (iblk m c 1 t) y : EReal)
      = a y + ∑ k : Fin 1024, term m c (t.val / 4) (t.val % 4 * 1024 + k.val) y := by
  unfold k0_pay2
  pointwise
  simp only [block_left, block_right]
  rfl

theorem start_apply (y : S1024x1408.Idx) : (k0_pay1 (F := Ideal) y : EReal) = 0 := by
  unfold k0_pay1
  pointwise

/-- After a run's last point the scratch holds the sum over the whole contracted axis. -/
theorem scratch_last (c : Dev nD) (n : ℕ) (h : n < cfg0.N) (hn : n % 4 + 1 = 4) (y : S1024x1408.Idx) :
    ((outsAt0 m c n h).2 y : EReal) = ∑ k : Fin 4096, term m c (n / 4) k.val y :=
  run_total 4 1024 (fun n h y => ((outsAt0 m c n h).2 y : EReal)) (term m c)
    (fun n h y h0 => by
      show ((outsAt0 m c n h).2 y : EReal) = _
      rw [scratch_first m c ⟨n, h⟩ h0, step_apply, start_apply, zero_add])
    (fun n h y h0 => by
      show ((outsAt0 m c (n + 1) h).2 y : EReal) = _
      rw [scratch_next m c ⟨n + 1, h⟩ h0, step_apply]
      rfl)
    n h y hn

/-- The result array's entry: the whole contracted axis. -/
theorem result_apply (c : Dev nD) (i : S1024x4224.Idx) :
    (show EReal from G2 m c i) = ∑ k : Fin 4096, cell (m ((c : Thread nD τ).loc main_arg0)) k.val (i 0).val
      * cell (m ((c : Thread nD τ).loc main_arg2)) k.val (i 1).val := by
  have h0 : (i 0).val < 1024 := (i 0).isLt
  have h1 : (i 1).val < 4224 := (i 1).isLt
  have hp : pt2Of i = 4 * (3 * ((i 0).val / 1024) + (i 1).val / 1408) + 3 := by
    show 4 * (3 * ((i 0).val / 1024 - 0) + 1 * ((i 1).val / 1408 - 0)) + 3 = _
    omega
  have hN : cfg0.N = 12 := N_0
  have hlt : pt2Of i < cfg0.N := by omega
  unfold G2
  rw [dif_pos hlt, ← outsAt0_sweep m c _ hlt, out_last m c ⟨pt2Of i, hlt⟩ (by show pt2Of i % 4 = 3; omega),
    scratch_last m c _ hlt (by omega)]
  refine Finset.sum_congr rfl fun k _ => ?_
  unfold term
  have l0 : (loc2Of i 0).val = (i 0).val % 1024 := rfl
  have l1 : (loc2Of i 1).val = (i 1).val % 1408 := rfl
  rw [l0, l1, show 0 * 1024 + (i 0).val % 1024 = (i 0).val by omega,
    show pt2Of i / 4 * 1408 + (i 1).val % 1408 = (i 1).val by omega]

end AtIdeal

end Cert.Kernel9Ideal.Value

namespace Cert.Ffn

/-- The gradient of the recurrent mixer's input product with respect to its weights is the plain gradient. -/
theorem dn_in_dw : algebraic_Kernel9Ideal_Reference9Ideal := by
  intro m g m' g' _ hagree
  refine ⟨fun c => Kernel9Ideal.Value.G2 m c, Kernel9Ideal.Value.run m g, ?_⟩
  refine (θ_run _ _ _).mono (fun r h c => ⟨(h c).1.trans ?_, (h c).2⟩) (Reference9Ideal.Value.run m' g')
  obtain ⟨e0, -, e2⟩ := hagree c
  rw [e0, e2]
  funext i
  refine Eq.trans ?_ (Kernel9Ideal.Value.result_apply m c i).symm
  pointwise
  refine Finset.sum_congr rfl fun k _ => ?_
  exact (mul_comm _ _).trans (congrArg₂ (· * ·) (cell_ix2 (m (c.tc.loc Kernel9Ideal.main_arg0)) k (i 0)).symm
    (cell_ix2 (m (c.tc.loc Kernel9Ideal.main_arg2)) k (i 1)).symm)

end Cert.Ffn

end
-- ==== Proof.Mix.QkvDx.lean ====
module

public import proofs.«01_k».proof.Defs
public import proofs.«01_k».proof.Proof.Ffn.Sums
public import proofs.«01_k».proof.Proof.Gen.Kernel10Ideal.Value
public import proofs.«01_k».proof.Proof.Gen.Reference10Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel10Ideal.Value

open Cert.Kernel10Ideal Cert.Kernel10Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-- At a run's first point the scratch is cleared and takes the first block product. -/
theorem scratch_first (c : Dev nD) (t : Fin cfg0.N) (h0 : t.val % 3 = 0) :
    (outsAt0 m c t.val t.isLt).2 = k0_pay2 (k0_pay1 (F := F)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz]

/-- At every other point it takes the point's block product on top of what it held. -/
theorem scratch_next (c : Dev nD) (t : Fin cfg0.N) (h0 : ¬ t.val % 3 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 3 = 2
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz]
    simp only [View.readAt_eq_ld, (hs0_0 t).read_unread, (hs0_1 t).read_unread, (Memref.isWhole_whole _).read_unread,
      View.ld_unit_zero (S := S1024x1024) hz]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz]
    simp only [View.readAt_eq_ld, (hs0_0 t).read_unread, (hs0_1 t).read_unread, (Memref.isWhole_whole _).read_unread,
      View.ld_unit_zero (S := S1024x1024) hz]

/-- At a run's last point the output block is the scratch. -/
theorem out_last (c : Dev nD) (t : Fin cfg0.N) (h1 : t.val % 3 = 2) :
    (outsAt0 m c t.val t.isLt).1 = (outsAt0 m c t.val t.isLt).2 := by
  rw [scratch_next m c t (by omega), outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero hz, View.readCov_unit_zero (S := S1024x1024) _ hz]
  simp only [View.readAt_eq_ld, (hs0_0 t).read_unread, (hs0_1 t).read_unread, (Memref.isWhole_whole _).read_unread,
    View.ld_unit_zero (S := S1024x1024) hz]

/-! ## Over the extended reals -/

section AtIdeal

variable (m : (ℓ : Loc nD τ sig) → Buf (Elt Ideal) ℓ)

/-- The grid's blocks: the columns of both operands go with the point's place in its run, the output's rows with the run. -/
theorem block_index : ∀ t : Fin cfg0.N, win0_0.index t 0 = t.val / 3 ∧ win0_0.index t 1 = t.val % 3
    ∧ win0_1.index t 0 = 0 ∧ win0_1.index t 1 = t.val % 3 :=
  (by decide +kernel : ∀ t : Fin grid0.N, _)

theorem block_left (c : Dev nD) (t : Fin cfg0.N) (j : S1024x1024.Idx) :
    (iblk m c 0 t : Vec Ideal S1024x1024 .bf16) j
      = cell (m ((c : Thread nD τ).loc main_arg2)) (t.val / 3 * 1024 + (j 0).val) (t.val % 3 * 1024 + (j 1).val) := by
  obtain ⟨e0, e1, -, -⟩ := block_index t
  unfold iblk
  rw [View.read_apply]
  refine cell_idx (m ((c : Thread nD τ).loc main_arg2)) _ _ _ ?_ ?_
  · show win0_0.index t 0 * 1024 + 1 * (j 0).val = _; rw [e0, Nat.one_mul]
  · show win0_0.index t 1 * 1024 + 1 * (j 1).val = _; rw [e1, Nat.one_mul]

theorem block_right (c : Dev nD) (t : Fin cfg0.N) (j : S1024x1024.Idx) :
    (iblk m c 1 t : Vec Ideal S1024x1024 .bf16) j
      = cell (m ((c : Thread nD τ).loc main_arg1)) (0 * 1024 + (j 0).val) (t.val % 3 * 1024 + (j 1).val) := by
  obtain ⟨-, -, e0, e1⟩ := block_index t
  unfold iblk
  rw [View.read_apply]
  refine cell_idx (m ((c : Thread nD τ).loc main_arg1)) _ _ _ ?_ ?_
  · show win0_1.index t 0 * 1024 + 1 * (j 0).val = _; rw [e0, Nat.one_mul]
  · show win0_1.index t 1 * 1024 + 1 * (j 1).val = _; rw [e1, Nat.one_mul]

/-- One product of the sum that the points of run `r` make of an output entry. -/
def term (c : Dev nD) (r k : ℕ) (y : S1024x1024.Idx) : EReal :=
  cell (m ((c : Thread nD τ).loc main_arg2)) (r * 1024 + (y 0).val) k
    * cell (m ((c : Thread nD τ).loc main_arg1)) (0 * 1024 + (y 1).val) k

/-- What the body adds at a point. -/
theorem step_apply (c : Dev nD) (t : Fin cfg0.N) (a : Vec Ideal S1024x1024 .f32) (y : S1024x1024.Idx) :
    (k0_pay2 a (iblk m c 0 t) (iblk m c 1 t) y : EReal)
      = a y + ∑ k : Fin 1024, term m c (t.val / 3) (t.val % 3 * 1024 + k.val) y := by
  unfold k0_pay2
  pointwise
  simp only [block_left, block_right]
  rfl

theorem start_apply (y : S1024x1024.Idx) : (k0_pay1 (F := Ideal) y : EReal) = 0 := by
  unfold k0_pay1
  pointwise

/-- After a run's last point the scratch holds the sum over the whole contracted axis. -/
theorem scratch_last (c : Dev nD) (n : ℕ) (h : n < cfg0.N) (hn : n % 3 + 1 = 3) (y : S1024x1024.Idx) :
    ((outsAt0 m c n h).2 y : EReal) = ∑ k : Fin 3072, term m c (n / 3) k.val y :=
  run_total 3 1024 (fun n h y => ((outsAt0 m c n h).2 y : EReal)) (term m c)
    (fun n h y h0 => by
      show ((outsAt0 m c n h).2 y : EReal) = _
      rw [scratch_first m c ⟨n, h⟩ h0, step_apply, start_apply, zero_add])
    (fun n h y h0 => by
      show ((outsAt0 m c (n + 1) h).2 y : EReal) = _
      rw [scratch_next m c ⟨n + 1, h⟩ h0, step_apply]
      rfl)
    n h y hn

/-- The result array's entry: the whole contracted axis. -/
theorem result_apply (c : Dev nD) (i : S4096x1024.Idx) :
    (show EReal from G2 m c i) = ∑ k : Fin 3072, cell (m ((c : Thread nD τ).loc main_arg2)) (i 0).val k.val
      * cell (m ((c : Thread nD τ).loc main_arg1)) (i 1).val k.val := by
  have h0 : (i 0).val < 4096 := (i 0).isLt
  have h1 : (i 1).val < 1024 := (i 1).isLt
  have hp : pt2Of i = 3 * (1 * ((i 0).val / 1024) + (i 1).val / 1024) + 2 := by
    show 3 * (1 * ((i 0).val / 1024 - 0) + 1 * ((i 1).val / 1024 - 0)) + 2 = _
    omega
  have hN : cfg0.N = 12 := N_0
  have hlt : pt2Of i < cfg0.N := by omega
  unfold G2
  rw [dif_pos hlt, ← outsAt0_sweep m c _ hlt, out_last m c ⟨pt2Of i, hlt⟩ (by show pt2Of i % 3 = 2; omega),
    scratch_last m c _ hlt (by omega)]
  refine Finset.sum_congr rfl fun k _ => ?_
  unfold term
  have l0 : (loc2Of i 0).val = (i 0).val % 1024 := rfl
  have l1 : (loc2Of i 1).val = (i 1).val % 1024 := rfl
  rw [l0, l1, show pt2Of i / 3 * 1024 + (i 0).val % 1024 = (i 0).val by omega,
    show 0 * 1024 + (i 1).val % 1024 = (i 1).val by omega]

end AtIdeal

end Cert.Kernel10Ideal.Value

namespace Cert.Ffn

/-- The gradient of the attention's query, key and value product with respect to its input is the plain gradient. -/
theorem qkv_dx : algebraic_Kernel10Ideal_Reference10Ideal := by
  intro m g m' g' _ hagree
  refine ⟨fun c => Kernel10Ideal.Value.G2 m c, Kernel10Ideal.Value.run m g, ?_⟩
  refine (θ_run _ _ _).mono (fun r h c => ⟨(h c).1.trans ?_, (h c).2⟩) (Reference10Ideal.Value.run m' g')
  obtain ⟨-, e1, e2⟩ := hagree c
  rw [e1, e2]
  funext i
  refine Eq.trans ?_ (Kernel10Ideal.Value.result_apply m c i).symm
  pointwise
  refine Finset.sum_congr rfl fun k _ => ?_
  exact congrArg₂ (· * ·) (cell_ix2 (m (c.tc.loc Kernel10Ideal.main_arg2)) (i 0) k).symm
    (cell_ix2 (m (c.tc.loc Kernel10Ideal.main_arg1)) (i 1) k).symm

end Cert.Ffn

end
-- ==== Proof.Mix.QkvDw.lean ====
module

public import proofs.«01_k».proof.Defs
public import proofs.«01_k».proof.Proof.Ffn.Sums
public import proofs.«01_k».proof.Proof.Gen.Kernel11Ideal.Value
public import proofs.«01_k».proof.Proof.Gen.Reference11Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel11Ideal.Value

open Cert.Kernel11Ideal Cert.Kernel11Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-- At a run's first point the scratch is cleared and takes the first block product. -/
theorem scratch_first (c : Dev nD) (t : Fin cfg0.N) (h0 : t.val % 4 = 0) :
    (outsAt0 m c t.val t.isLt).2 = k0_pay2 (k0_pay1 (F := F)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz]

/-- At every other point it takes the point's block product on top of what it held. -/
theorem scratch_next (c : Dev nD) (t : Fin cfg0.N) (h0 : ¬ t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz]
    simp only [View.readAt_eq_ld, (hs0_0 t).read_unread, (hs0_1 t).read_unread, (Memref.isWhole_whole _).read_unread,
      View.ld_unit_zero (S := S1024x1024) hz]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz]
    simp only [View.readAt_eq_ld, (hs0_0 t).read_unread, (hs0_1 t).read_unread, (Memref.isWhole_whole _).read_unread,
      View.ld_unit_zero (S := S1024x1024) hz]

/-- At a run's last point the output block is the scratch. -/
theorem out_last (c : Dev nD) (t : Fin cfg0.N) (h1 : t.val % 4 = 3) :
    (outsAt0 m c t.val t.isLt).1 = (outsAt0 m c t.val t.isLt).2 := by
  rw [scratch_next m c t (by omega), outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero hz, View.readCov_unit_zero (S := S1024x1024) _ hz]
  simp only [View.readAt_eq_ld, (hs0_0 t).read_unread, (hs0_1 t).read_unread, (Memref.isWhole_whole _).read_unread,
    View.ld_unit_zero (S := S1024x1024) hz]

/-! ## Over the extended reals -/

section AtIdeal

variable (m : (ℓ : Loc nD τ sig) → Buf (Elt Ideal) ℓ)

/-- The grid's blocks: the rows of both operands go with the point's place in its run, the output's columns with the run. -/
theorem block_index : ∀ t : Fin cfg0.N, win0_0.index t 0 = t.val % 4 ∧ win0_0.index t 1 = 0
    ∧ win0_1.index t 0 = t.val % 4 ∧ win0_1.index t 1 = t.val / 4 :=
  (by decide +kernel : ∀ t : Fin grid0.N, _)

theorem block_left (c : Dev nD) (t : Fin cfg0.N) (j : S1024x1024.Idx) :
    (iblk m c 0 t : Vec Ideal S1024x1024 .bf16) j
      = cell (m ((c : Thread nD τ).loc main_arg0)) (t.val % 4 * 1024 + (j 0).val) (0 * 1024 + (j 1).val) := by
  obtain ⟨e0, e1, -, -⟩ := block_index t
  unfold iblk
  rw [View.read_apply]
  refine cell_idx (m ((c : Thread nD τ).loc main_arg0)) _ _ _ ?_ ?_
  · show win0_0.index t 0 * 1024 + 1 * (j 0).val = _; rw [e0, Nat.one_mul]
  · show win0_0.index t 1 * 1024 + 1 * (j 1).val = _; rw [e1, Nat.one_mul]

theorem block_right (c : Dev nD) (t : Fin cfg0.N) (j : S1024x1024.Idx) :
    (iblk m c 1 t : Vec Ideal S1024x1024 .bf16) j
      = cell (m ((c : Thread nD τ).loc main_arg2)) (t.val % 4 * 1024 + (j 0).val) (t.val / 4 * 1024 + (j 1).val) := by
  obtain ⟨-, -, e0, e1⟩ := block_index t
  unfold iblk
  rw [View.read_apply]
  refine cell_idx (m ((c : Thread nD τ).loc main_arg2)) _ _ _ ?_ ?_
  · show win0_1.index t 0 * 1024 + 1 * (j 0).val = _; rw [e0, Nat.one_mul]
  · show win0_1.index t 1 * 1024 + 1 * (j 1).val = _; rw [e1, Nat.one_mul]

/-- One product of the sum that the points of run `r` make of an output entry. -/
def term (c : Dev nD) (r k : ℕ) (y : S1024x1024.Idx) : EReal :=
  cell (m ((c : Thread nD τ).loc main_arg0)) k (0 * 1024 + (y 0).val)
    * cell (m ((c : Thread nD τ).loc main_arg2)) k (r * 1024 + (y 1).val)

/-- What the body adds at a point. -/
theorem step_apply (c : Dev nD) (t : Fin cfg0.N) (a : Vec Ideal S1024x1024 .f32) (y : S1024x1024.Idx) :
    (k0_pay2 a (iblk m c 0 t) (iblk m c 1 t) y : EReal)
      = a y + ∑ k : Fin 1024, term m c (t.val / 4) (t.val % 4 * 1024 + k.val) y := by
  unfold k0_pay2
  pointwise
  simp only [block_left, block_right]
  rfl

theorem start_apply (y : S1024x1024.Idx) : (k0_pay1 (F := Ideal) y : EReal) = 0 := by
  unfold k0_pay1
  pointwise

/-- After a run's last point the scratch holds the sum over the whole contracted axis. -/
theorem scratch_last (c : Dev nD) (n : ℕ) (h : n < cfg0.N) (hn : n % 4 + 1 = 4) (y : S1024x1024.Idx) :
    ((outsAt0 m c n h).2 y : EReal) = ∑ k : Fin 4096, term m c (n / 4) k.val y :=
  run_total 4 1024 (fun n h y => ((outsAt0 m c n h).2 y : EReal)) (term m c)
    (fun n h y h0 => by
      show ((outsAt0 m c n h).2 y : EReal) = _
      rw [scratch_first m c ⟨n, h⟩ h0, step_apply, start_apply, zero_add])
    (fun n h y h0 => by
      show ((outsAt0 m c (n + 1) h).2 y : EReal) = _
      rw [scratch_next m c ⟨n + 1, h⟩ h0, step_apply]
      rfl)
    n h y hn

/-- The result array's entry: the whole contracted axis. -/
theorem result_apply (c : Dev nD) (i : S1024x3072.Idx) :
    (show EReal from G2 m c i) = ∑ k : Fin 4096, cell (m ((c : Thread nD τ).loc main_arg0)) k.val (i 0).val
      * cell (m ((c : Thread nD τ).loc main_arg2)) k.val (i 1).val := by
  have h0 : (i 0).val < 1024 := (i 0).isLt
  have h1 : (i 1).val < 3072 := (i 1).isLt
  have hp : pt2Of i = 4 * (3 * ((i 0).val / 1024) + (i 1).val / 1024) + 3 := by
    show 4 * (3 * ((i 0).val / 1024 - 0) + 1 * ((i 1).val / 1024 - 0)) + 3 = _
    omega
  have hN : cfg0.N = 12 := N_0
  have hlt : pt2Of i < cfg0.N := by omega
  unfold G2
  rw [dif_pos hlt, ← outsAt0_sweep m c _ hlt, out_last m c ⟨pt2Of i, hlt⟩ (by show pt2Of i % 4 = 3; omega),
    scratch_last m c _ hlt (by omega)]
  refine Finset.sum_congr rfl fun k _ => ?_
  unfold term
  have l0 : (loc2Of i 0).val = (i 0).val % 1024 := rfl
  have l1 : (loc2Of i 1).val = (i 1).val % 1024 := rfl
  rw [l0, l1, show 0 * 1024 + (i 0).val % 1024 = (i 0).val by omega,
    show pt2Of i / 4 * 1024 + (i 1).val % 1024 = (i 1).val by omega]

end AtIdeal

end Cert.Kernel11Ideal.Value

namespace Cert.Ffn

/-- The gradient of the attention's query, key and value product with respect to its weights is the plain gradient. -/
theorem qkv_dw : algebraic_Kernel11Ideal_Reference11Ideal := by
  intro m g m' g' _ hagree
  refine ⟨fun c => Kernel11Ideal.Value.G2 m c, Kernel11Ideal.Value.run m g, ?_⟩
  refine (θ_run _ _ _).mono (fun r h c => ⟨(h c).1.trans ?_, (h c).2⟩) (Reference11Ideal.Value.run m' g')
  obtain ⟨e0, -, e2⟩ := hagree c
  rw [e0, e2]
  funext i
  refine Eq.trans ?_ (Kernel11Ideal.Value.result_apply m c i).symm
  pointwise
  refine Finset.sum_congr rfl fun k _ => ?_
  exact (mul_comm _ _).trans (congrArg₂ (· * ·) (cell_ix2 (m (c.tc.loc Kernel11Ideal.main_arg0)) k (i 0)).symm
    (cell_ix2 (m (c.tc.loc Kernel11Ideal.main_arg2)) k (i 1)).symm)

end Cert.Ffn

end
-- ==== Proof.Mix.OutDx.lean ====
module

public import proofs.«01_k».proof.Defs
public import proofs.«01_k».proof.Proof.Ffn.Sums
public import proofs.«01_k».proof.Proof.Gen.Kernel12Ideal.Value
public import proofs.«01_k».proof.Proof.Gen.Reference12Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel12Ideal.Value

open Cert.Kernel12Ideal Cert.Kernel12Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-- A point's output block: the block product on a cleared scratch. -/
theorem out_eq (c : Dev nD) (t : Fin cfg0.N) :
    outsAt0 m c t = k0_pay2 (k0_pay1 (F := F)) (iblk m c 0 t) (iblk m c 1 t) := by
  unfold outsAt0 out0_A_2
  rw [View.read_writes_eq_canon _ _ _ (fun y => cover0_A_2 (y := y) ..)]
  unfold kernelRun0_A
  dsimp only
  sl_unfold_words
  rw [View.canon_unit_zero hz]
  simp only [View.readCov_unit_zero (S := S1024x1024) _ hz, View.readAt_eq_ld, (hs0_0 t).read_unread, (hs0_1 t).read_unread,
    View.ld_unit_zero (S := S1024x1024) hz]
  exact View.readCov_cons_toLoadRect ..

/-! ## Over the extended reals -/

section AtIdeal

variable (m : (ℓ : Loc nD τ sig) → Buf (Elt Ideal) ℓ)

/-- The grid's blocks: each point has its rows of the left operand and of the output, and the whole right operand. -/
theorem block_index : ∀ t : Fin cfg0.N, win0_0.index t 0 = t.val ∧ win0_0.index t 1 = 0
    ∧ win0_1.index t 0 = 0 ∧ win0_1.index t 1 = 0 ∧ win0_2.index t 0 = t.val ∧ win0_2.index t 1 = 0 :=
  (by decide +kernel : ∀ t : Fin grid0.N, _)

theorem block_left (c : Dev nD) (t : Fin cfg0.N) (j : S1024x1024.Idx) :
    (iblk m c 0 t : Vec Ideal S1024x1024 .f32) j
      = cell (m ((c : Thread nD τ).loc main_arg2)) (t.val * 1024 + (j 0).val) (j 1).val := by
  obtain ⟨e0, e1, -⟩ := block_index t
  unfold iblk
  rw [View.read_apply]
  refine cell_idx (m ((c : Thread nD τ).loc main_arg2)) _ _ _ ?_ ?_
  · show win0_0.index t 0 * 1024 + 1 * (j 0).val = _; rw [e0, Nat.one_mul]
  · show win0_0.index t 1 * 1024 + 1 * (j 1).val = _; rw [e1]; omega

theorem block_right (c : Dev nD) (t : Fin cfg0.N) (j : S1024x1024.Idx) :
    (iblk m c 1 t : Vec Ideal S1024x1024 .bf16) j
      = cell (m ((c : Thread nD τ).loc main_arg1)) (j 0).val (j 1).val := by
  obtain ⟨-, -, e0, e1, -⟩ := block_index t
  unfold iblk
  rw [View.read_apply]
  refine cell_idx (m ((c : Thread nD τ).loc main_arg1)) _ _ _ ?_ ?_
  · show win0_1.index t 0 * 1024 + 1 * (j 0).val = _; rw [e0]; omega
  · show win0_1.index t 1 * 1024 + 1 * (j 1).val = _; rw [e1]; omega

/-- The result array: each entry sums over the whole contracted axis. -/
def result (c : Dev nD) : Buf (Elt Ideal) ((c : Thread nD τ).loc main_v0) := fun i =>
  show EReal from ∑ k : Fin 1024, cell (m ((c : Thread nD τ).loc main_arg2)) (i 0).val k.val
    * cell (m ((c : Thread nD τ).loc main_arg1)) (i 1).val k.val

theorem out_apply (c : Dev nD) (t : Fin cfg0.N) (y : S1024x1024.Idx) :
    (outsAt0 m c t y : EReal) = ∑ k : Fin 1024, cell (m ((c : Thread nD τ).loc main_arg2)) (t.val * 1024 + (y 0).val) k.val
      * cell (m ((c : Thread nD τ).loc main_arg1)) (y 1).val k.val := by
  rw [out_eq]
  unfold k0_pay2 k0_pay1
  pointwise
  simp only [block_left, block_right]
  rfl

/-- A point writes back its block of the result. -/
theorem flushed_eq (c : Dev nD) (t : Fin cfg0.N) :
    (dats m 0 c).flushed 2 t = ((cfg0.win 2).blk t).view.read (Elt Ideal) (result m c) := by
  rw [flushed2]
  obtain ⟨-, -, -, -, e0, e1⟩ := block_index t
  funext y
  refine (out_apply m c t _).trans ?_
  rw [View.read_apply]
  unfold result
  have h0 : (((cfg0.win 2).blk t).view.emb y 0).val = t.val * 1024 + (y 0).val := by
    show win0_2.index t 0 * 1024 + 1 * (y 0).val = _; rw [e0, Nat.one_mul]
  have h1 : (((cfg0.win 2).blk t).view.emb y 1).val = (y 1).val := by
    show win0_2.index t 1 * 1024 + 1 * (y 1).val = _; rw [e1]; omega
  rw [h0, h1]
  rfl

/-- The blocks fill the result array. -/
theorem final_result (c : Dev nD) : (dats m 0 c).arrAt 2 cfg0.N = result m c :=
  (dats m 0 c).arrAt_eq_of_cover 2 (result m c) (fun t _ => flushed_eq m c t) fun i => by
    have h0 : (i 0).val < 4096 := (i 0).isLt
    have h1 : (i 1).val < 1024 := (i 1).isLt
    have hN : cfg0.N = 4 := N_0
    obtain ⟨t, ht⟩ : ∃ t : Fin cfg0.N, t.val = (i 0).val / 1024 := ⟨⟨_, by omega⟩, rfl⟩
    obtain ⟨-, -, -, -, e0, e1⟩ := block_index t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 1024 ≤ (i 1).val ∧ (i 1).val < win0_2.index t 1 * 1024 + 1024; omega

end AtIdeal

end Cert.Kernel12Ideal.Value

namespace Cert.Ffn

/-- The gradient of a mixer's output product with respect to its input is the plain gradient. -/
theorem out_dx : algebraic_Kernel12Ideal_Reference12Ideal := by
  intro m g m' g' _ hagree
  refine ⟨fun c => Kernel12Ideal.Value.result m c, (θ_run _ _ _).mono
    (fun r h c => ⟨(h c).1.trans (Kernel12Ideal.Value.final_result m c), (h c).2⟩) (Kernel12Ideal.Value.run_blocks m g), ?_⟩
  refine (θ_run _ _ _).mono (fun r h c => ⟨(h c).1.trans ?_, (h c).2⟩) (Reference12Ideal.Value.run m' g')
  obtain ⟨-, e1, e2⟩ := hagree c
  rw [e1, e2]
  funext i
  unfold Kernel12Ideal.Value.result
  pointwise
  refine Finset.sum_congr rfl fun k _ => ?_
  exact congrArg₂ (· * ·) (cell_ix2 (m (c.tc.loc Kernel12Ideal.main_arg2)) (i 0) k).symm
    (cell_ix2 (m (c.tc.loc Kernel12Ideal.main_arg1)) (i 1) k).symm

end Cert.Ffn

end
-- ==== Proof.Mix.OutDw.lean ====
module

public import proofs.«01_k».proof.Defs
public import proofs.«01_k».proof.Proof.Ffn.Sums
public import proofs.«01_k».proof.Proof.Gen.Kernel13Ideal.Value
public import proofs.«01_k».proof.Proof.Gen.Reference13Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel13Ideal.Value

open Cert.Kernel13Ideal Cert.Kernel13Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-- At a run's first point the scratch is cleared and takes the first block product. -/
theorem scratch_first (c : Dev nD) (t : Fin cfg0.N) (h0 : t.val % 4 = 0) :
    (outsAt0 m c t.val t.isLt).2 = k0_pay2 (k0_pay1 (F := F)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz]

/-- At every other point it takes the point's block product on top of what it held. -/
theorem scratch_next (c : Dev nD) (t : Fin cfg0.N) (h0 : ¬ t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz]
    simp only [View.readAt_eq_ld, (hs0_0 t).read_unread, (hs0_1 t).read_unread, (Memref.isWhole_whole _).read_unread,
      View.ld_unit_zero (S := S1024x1024) hz]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz]
    simp only [View.readAt_eq_ld, (hs0_0 t).read_unread, (hs0_1 t).read_unread, (Memref.isWhole_whole _).read_unread,
      View.ld_unit_zero (S := S1024x1024) hz]

/-- At a run's last point the output block is the scratch. -/
theorem out_last (c : Dev nD) (t : Fin cfg0.N) (h1 : t.val % 4 = 3) :
    (outsAt0 m c t.val t.isLt).1 = (outsAt0 m c t.val t.isLt).2 := by
  rw [scratch_next m c t (by omega), outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero hz, View.readCov_unit_zero (S := S1024x1024) _ hz]
  simp only [View.readAt_eq_ld, (hs0_0 t).read_unread, (hs0_1 t).read_unread, (Memref.isWhole_whole _).read_unread,
    View.ld_unit_zero (S := S1024x1024) hz]

/-! ## Over the extended reals -/

section AtIdeal

variable (m : (ℓ : Loc nD τ sig) → Buf (Elt Ideal) ℓ)

/-- The grid's blocks: the rows of both operands go with the point. -/
theorem block_index : ∀ t : Fin cfg0.N, win0_0.index t 0 = t.val % 4 ∧ win0_0.index t 1 = 0
    ∧ win0_1.index t 0 = t.val % 4 ∧ win0_1.index t 1 = 0 :=
  (by decide +kernel : ∀ t : Fin grid0.N, _)

theorem block_left (c : Dev nD) (t : Fin cfg0.N) (j : S1024x1024.Idx) :
    (iblk m c 0 t : Vec Ideal S1024x1024 .bf16) j
      = cell (m ((c : Thread nD τ).loc main_arg0)) (t.val % 4 * 1024 + (j 0).val) (0 * 1024 + (j 1).val) := by
  obtain ⟨e0, e1, -, -⟩ := block_index t
  unfold iblk
  rw [View.read_apply]
  refine cell_idx (m ((c : Thread nD τ).loc main_arg0)) _ _ _ ?_ ?_
  · show win0_0.index t 0 * 1024 + 1 * (j 0).val = _; rw [e0, Nat.one_mul]
  · show win0_0.index t 1 * 1024 + 1 * (j 1).val = _; rw [e1, Nat.one_mul]

theorem block_right (c : Dev nD) (t : Fin cfg0.N) (j : S1024x1024.Idx) :
    (iblk m c 1 t : Vec Ideal S1024x1024 .f32) j
      = cell (m ((c : Thread nD τ).loc main_arg2)) (t.val % 4 * 1024 + (j 0).val) (0 * 1024 + (j 1).val) := by
  obtain ⟨-, -, e0, e1⟩ := block_index t
  unfold iblk
  rw [View.read_apply]
  refine cell_idx (m ((c : Thread nD τ).loc main_arg2)) _ _ _ ?_ ?_
  · show win0_1.index t 0 * 1024 + 1 * (j 0).val = _; rw [e0, Nat.one_mul]
  · show win0_1.index t 1 * 1024 + 1 * (j 1).val = _; rw [e1, Nat.one_mul]

/-- One product of the sum that the points of run `r` make of an output entry. -/
def term (c : Dev nD) (r k : ℕ) (y : S1024x1024.Idx) : EReal :=
  cell (m ((c : Thread nD τ).loc main_arg0)) k (0 * 1024 + (y 0).val)
    * cell (m ((c : Thread nD τ).loc main_arg2)) k (0 * 1024 + (y 1).val)

/-- What the body adds at a point. -/
theorem step_apply (c : Dev nD) (t : Fin cfg0.N) (a : Vec Ideal S1024x1024 .f32) (y : S1024x1024.Idx) :
    (k0_pay2 a (iblk m c 0 t) (iblk m c 1 t) y : EReal)
      = a y + ∑ k : Fin 1024, term m c (t.val / 4) (t.val % 4 * 1024 + k.val) y := by
  unfold k0_pay2
  pointwise
  simp only [block_left, block_right]
  rfl

theorem start_apply (y : S1024x1024.Idx) : (k0_pay1 (F := Ideal) y : EReal) = 0 := by
  unfold k0_pay1
  pointwise

/-- After a run's last point the scratch holds the sum over the whole contracted axis. -/
theorem scratch_last (c : Dev nD) (n : ℕ) (h : n < cfg0.N) (hn : n % 4 + 1 = 4) (y : S1024x1024.Idx) :
    ((outsAt0 m c n h).2 y : EReal) = ∑ k : Fin 4096, term m c (n / 4) k.val y :=
  run_total 4 1024 (fun n h y => ((outsAt0 m c n h).2 y : EReal)) (term m c)
    (fun n h y h0 => by
      show ((outsAt0 m c n h).2 y : EReal) = _
      rw [scratch_first m c ⟨n, h⟩ h0, step_apply, start_apply, zero_add])
    (fun n h y h0 => by
      show ((outsAt0 m c (n + 1) h).2 y : EReal) = _
      rw [scratch_next m c ⟨n + 1, h⟩ h0, step_apply]
      rfl)
    n h y hn

/-- The result array's entry: the whole contracted axis. -/
theorem result_apply (c : Dev nD) (i : S1024x1024.Idx) :
    (show EReal from G2 m c i) = ∑ k : Fin 4096, cell (m ((c : Thread nD τ).loc main_arg0)) k.val (i 0).val
      * cell (m ((c : Thread nD τ).loc main_arg2)) k.val (i 1).val := by
  have h0 : (i 0).val < 1024 := (i 0).isLt
  have h1 : (i 1).val < 1024 := (i 1).isLt
  have hp : pt2Of i = 4 * (1 * ((i 0).val / 1024) + (i 1).val / 1024) + 3 := by
    show 4 * (1 * ((i 0).val / 1024 - 0) + 1 * ((i 1).val / 1024 - 0)) + 3 = _
    omega
  have hN : cfg0.N = 4 := N_0
  have hlt : pt2Of i < cfg0.N := by omega
  unfold G2
  rw [dif_pos hlt, ← outsAt0_sweep m c _ hlt, out_last m c ⟨pt2Of i, hlt⟩ (by show pt2Of i % 4 = 3; omega),
    scratch_last m c _ hlt (by omega)]
  refine Finset.sum_congr rfl fun k _ => ?_
  unfold term
  have l0 : (loc2Of i 0).val = (i 0).val % 1024 := rfl
  have l1 : (loc2Of i 1).val = (i 1).val % 1024 := rfl
  rw [l0, l1, show 0 * 1024 + (i 0).val % 1024 = (i 0).val by omega,
    show 0 * 1024 + (i 1).val % 1024 = (i 1).val by omega]

end AtIdeal

end Cert.Kernel13Ideal.Value

namespace Cert.Ffn

/-- The gradient of the recurrent mixer's output product with respect to its weights is the plain gradient. -/
theorem out_dw : algebraic_Kernel13Ideal_Reference13Ideal := by
  intro m g m' g' _ hagree
  refine ⟨fun c => Kernel13Ideal.Value.G2 m c, Kernel13Ideal.Value.run m g, ?_⟩
  refine (θ_run _ _ _).mono (fun r h c => ⟨(h c).1.trans ?_, (h c).2⟩) (Reference13Ideal.Value.run m' g')
  obtain ⟨e0, -, e2⟩ := hagree c
  rw [e0, e2]
  funext i
  refine Eq.trans ?_ (Kernel13Ideal.Value.result_apply m c i).symm
  pointwise
  refine Finset.sum_congr rfl fun k _ => ?_
  exact (mul_comm _ _).trans (congrArg₂ (· * ·) (cell_ix2 (m (c.tc.loc Kernel13Ideal.main_arg0)) k (i 0)).symm
    (cell_ix2 (m (c.tc.loc Kernel13Ideal.main_arg2)) k (i 1)).symm)

end Cert.Ffn

end
-- ==== Proof.Conv.Plain.lean ====
module

public import proofs.«01_k».proof.Defs
public import proofs.«01_k».proof.Proof.Ffn.Sums
public import proofs.«01_k».proof.Proof.Gen.Kernel14Ideal.Value
public import proofs.«01_k».proof.Proof.Gen.Reference14Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Ffn

/-- The column `s` at the row `d` rows earlier, zero before the first row. -/
def lagged {a b : ℕ} (X : (⟨2, ![a, b]⟩ : Shape).Idx → EReal) (d r s : ℕ) : EReal := if d ≤ r then cell X (r - d) s else 0

/-- The convolution's gradient to its input: each later row's gradient through the weight that reaches back to this row. -/
def duAt {a b : ℕ} (W : (⟨2, ![8, b]⟩ : Shape).Idx → EReal) (D : (⟨2, ![a, b]⟩ : Shape).Idx → EReal) (r s : ℕ) : EReal :=
  cell D r s * cell W 3 s + cell D (r + 1) s * cell W 2 s + cell D (r + 2) s * cell W 1 s + cell D (r + 3) s * cell W 0 s

/-- One row's part of the gradient to the weight `j`. -/
def dwPart {a b b' : ℕ} (X : (⟨2, ![a, b']⟩ : Shape).Idx → EReal) (D : (⟨2, ![a, b]⟩ : Shape).Idx → EReal) (j r s : ℕ) : EReal :=
  if j < 4 then cell D r s * lagged X (3 - j) r s else 0

section Plain

open Cert.Reference14Ideal Cert.Reference14Ideal.Gen

variable (X : FVec Ideal S4096x4224 .f32) (W : FVec Ideal S8x3072 .f32) (D : FVec Ideal S4096x3072 .f32)

/-- The convolution's input, with three rows of zeros before it. -/
def withZeros : FVec Ideal S4099x3072 .f32 :=
  concatenate S4099x3072 0 [⟨S3x3072, (broadcastInDim S3x3072 ![] bcast_S_S3x3072 (constant S_ .f32 0x00000000#32))⟩, ⟨S4096x3072, (extractStridedSlice S4096x3072 ![0, 0] X slices_S4096x4224_S4096x3072_0_0)⟩] concatenates_S3x3072_S4096x3072_S4099x3072_d0

theorem withZeros_apply (k : ℕ) (hk : k < 4) (x : Fin 4096) (h : k + x.val < 4099) (s : Fin 3072) :
    (withZeros X (Idealize.ShloMosaic.ix2 ⟨k + x.val, h⟩ s) : EReal) = lagged X (3 - k) x.val s.val := by
  unfold withZeros lagged
  pointwise
  by_cases e : k + x.val < 3
  · rw [dif_pos e]
    exact (if_neg (by omega)).symm
  · rw [dif_neg e]
    refine Eq.trans ?_ (if_pos (by omega)).symm
    exact cell_idx X _ _ _ (by show k + x.val - 3 = _; omega) rfl

/-- The plain gradient to the input. -/
def plainDu : FVec Ideal S4096x3072 .bf16 :=
  truncf .bf16 (extractStridedSlice S4096x3072 ![3, 0] (addf (addf (addf (pad S4099x3072 ![3, 0] ![0, 0] ![0, 0] (mulf (shapeCast _ D shapeCasts_S4096x3072_S4096x3072) (broadcastInDim S4096x3072 ![0, 1] bcast_S1x3072_S4096x3072_0_1 (extractStridedSlice S1x3072 ![3, 0] W slices_S8x3072_S1x3072_3_0))) (constant S_ .f32 0x00000000#32) pads_S4096x3072_S4099x3072_300_000 h_S_) (pad S4099x3072 ![2, 0] ![1, 0] ![0, 0] (mulf (shapeCast _ D shapeCasts_S4096x3072_S4096x3072) (broadcastInDim S4096x3072 ![0, 1] bcast_S1x3072_S4096x3072_0_1 (extractStridedSlice S1x3072 ![2, 0] W slices_S8x3072_S1x3072_2_0))) (constant S_ .f32 0x00000000#32) pads_S4096x3072_S4099x3072_210_000 h_S_)) (pad S4099x3072 ![1, 0] ![2, 0] ![0, 0] (mulf (shapeCast _ D shapeCasts_S4096x3072_S4096x3072) (broadcastInDim S4096x3072 ![0, 1] bcast_S1x3072_S4096x3072_0_1 (extractStridedSlice S1x3072 ![1, 0] W slices_S8x3072_S1x3072_1_0))) (constant S_ .f32 0x00000000#32) pads_S4096x3072_S4099x3072_120_000 h_S_)) (pad S4099x3072 ![0, 0] ![3, 0] ![0, 0] (mulf (shapeCast _ D shapeCasts_S4096x3072_S4096x3072) (broadcastInDim S4096x3072 ![0, 1] bcast_S1x3072_S4096x3072_0_1 (extractStridedSlice S1x3072 ![0, 0] W slices_S8x3072_S1x3072_0_0))) (constant S_ .f32 0x00000000#32) pads_S4096x3072_S4099x3072_030_000 h_S_)) slices_S4099x3072_S4096x3072_3_0) bitsLt_bf16_f32

/-- The plain gradient to the weights. -/
def plainDw : FVec Ideal S8x3072 .f32 :=
  addf (addf (addf (pad S8x3072 ![3, 0] ![4, 0] ![0, 0] (shapeCast _ (Host.reduceAdd (mulf (extractStridedSlice S4096x3072 ![3, 0] (withZeros X) slices_S4099x3072_S4096x3072_3_0) (shapeCast _ D shapeCasts_S4096x3072_S4096x3072)) (constant S_ .f32 0x00000000#32) reducesTo_S4096x3072_S3072_d0 h_S_) shapeCasts_S3072_S1x3072) (constant S_ .f32 0x00000000#32) pads_S1x3072_S8x3072_340_000 h_S_) (pad S8x3072 ![2, 0] ![5, 0] ![0, 0] (shapeCast _ (Host.reduceAdd (mulf (extractStridedSlice S4096x3072 ![2, 0] (withZeros X) slices_S4099x3072_S4096x3072_2_0) (shapeCast _ D shapeCasts_S4096x3072_S4096x3072)) (constant S_ .f32 0x00000000#32) reducesTo_S4096x3072_S3072_d0 h_S_) shapeCasts_S3072_S1x3072) (constant S_ .f32 0x00000000#32) pads_S1x3072_S8x3072_250_000 h_S_)) (pad S8x3072 ![1, 0] ![6, 0] ![0, 0] (shapeCast _ (Host.reduceAdd (mulf (extractStridedSlice S4096x3072 ![1, 0] (withZeros X) slices_S4099x3072_S4096x3072_1_0) (shapeCast _ D shapeCasts_S4096x3072_S4096x3072)) (constant S_ .f32 0x00000000#32) reducesTo_S4096x3072_S3072_d0 h_S_) shapeCasts_S3072_S1x3072) (constant S_ .f32 0x00000000#32) pads_S1x3072_S8x3072_160_000 h_S_)) (pad S8x3072 ![0, 0] ![7, 0] ![0, 0] (shapeCast _ (Host.reduceAdd (mulf (extractStridedSlice S4096x3072 ![0, 0] (withZeros X) slices_S4099x3072_S4096x3072_0_0) (shapeCast _ D shapeCasts_S4096x3072_S4096x3072)) (constant S_ .f32 0x00000000#32) reducesTo_S4096x3072_S3072_d0 h_S_) shapeCasts_S3072_S1x3072) (constant S_ .f32 0x00000000#32) pads_S1x3072_S8x3072_070_000 h_S_)

theorem term_zero (r k s : ℕ) (h : ¬ r < 4096) : (0 : EReal) = cell D r s * cell W k s := by
  rw [cell, dif_neg (fun e => h e.1), zero_mul]

theorem plainDu_apply (i : S4096x3072.Idx) : (plainDu W D i : EReal) = duAt W D (i 0).val (i 1).val := by
  unfold plainDu
  pointwise
  unfold duAt
  refine congrArg₂ (· + ·) (congrArg₂ (· + ·) (congrArg₂ (· + ·) (congrArg₂ (· * ·) (cell_idx D i _ _ rfl rfl)
    (cell_idx W _ _ _ rfl rfl)) ?_) ?_) ?_
  · by_cases h : (i 0).val + 1 < 4096
    · rw [dif_pos (by omega)]
      exact congrArg₂ (· * ·) (cell_idx D _ _ _ (by show 3 + (i 0).val - 2 = _; omega) rfl) (cell_idx W _ _ _ rfl rfl)
    · rw [dif_neg (by omega)]
      exact term_zero W D _ _ _ h
  · by_cases h : (i 0).val + 2 < 4096
    · rw [dif_pos (by omega)]
      exact congrArg₂ (· * ·) (cell_idx D _ _ _ (by show 3 + (i 0).val - 1 = _; omega) rfl) (cell_idx W _ _ _ rfl rfl)
    · rw [dif_neg (by omega)]
      exact term_zero W D _ _ _ h
  · by_cases h : (i 0).val + 3 < 4096
    · rw [dif_pos (by omega)]
      exact congrArg₂ (· * ·) (cell_idx D _ _ _ (by show 3 + (i 0).val = _; omega) rfl) (cell_idx W _ _ _ rfl rfl)
    · rw [dif_neg (by omega)]
      exact term_zero W D _ _ _ h

/-- The sum for the weight `j`, as the rows' parts. -/
theorem sum_part (j : ℕ) (hj : j < 4) (s : Fin 3072) (h : ∀ x : Fin 4096, j + x.val < 4099) :
    ∑ x : Fin 4096, (withZeros X (Idealize.ShloMosaic.ix2 ⟨j + x.val, h x⟩ s) * D (Idealize.ShloMosaic.ix2 x s) : EReal)
      = ∑ r : Fin 4096, dwPart X D j r.val s.val := by
  refine Finset.sum_congr rfl fun x _ => ?_
  unfold dwPart
  rw [if_pos hj, mul_comm]
  exact congrArg₂ (· * ·) (cell_idx D _ _ _ rfl rfl) (withZeros_apply X j hj x (h x) s)

theorem plainDw_apply (i : S8x3072.Idx) :
    (plainDw X D i : EReal) = ∑ r : Fin 4096, dwPart X D (i 0).val r.val (i 1).val := by
  unfold plainDw
  pointwise
  have hi : (i 0).val < 8 := (i 0).isLt
  rcases (by omega : (i 0).val = 0 ∨ (i 0).val = 1 ∨ (i 0).val = 2 ∨ (i 0).val = 3 ∨ 4 ≤ (i 0).val) with e | e | e | e | e
  · simp [e]
    refine Eq.trans (Finset.sum_congr rfl fun x _ => ?_) (sum_part X D 0 (by decide) (i 1) fun x => by omega)
    exact congrArg (fun r => withZeros X (Idealize.ShloMosaic.ix2 r (i 1)) * D (Idealize.ShloMosaic.ix2 x (i 1)))
      (Fin.ext (Nat.zero_add x.val).symm)
  · simp [e]
    exact sum_part X D 1 (by decide) (i 1) fun x => by omega
  · simp [e]
    exact sum_part X D 2 (by decide) (i 1) fun x => by omega
  · simp [e]
    exact sum_part X D 3 (by decide) (i 1) fun x => by omega
  · rw [dif_neg (by omega), dif_neg (by omega), dif_neg (by omega), dif_neg (by omega)]
    unfold dwPart
    simp only [if_neg (by omega : ¬ (i 0).val < 4), Finset.sum_const_zero, add_zero]

end Plain

end Cert.Ffn

end
-- ==== Proof.Conv.Shift.lean ====
module

public import proofs.«01_k».proof.Defs
public import proofs.«01_k».proof.Proof.Ffn.Sums
public import proofs.«01_k».proof.Proof.Gen.Kernel14Ideal.Value
public import proofs.«01_k».proof.Proof.Gen.Reference14Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel14Ideal.Value

open Cert.Kernel14Ideal Cert.Kernel14Ideal.Gen Cert.Ffn

section Shifts

theorem select_sge (a k : ℕ) (ha : a < 8) (hk : k < 8) (P Q : EReal) :
    Scalar.select (IntOp.cmpi .sge (BitVec.ofNat 32 k) (BitVec.ofNat 32 a)) P Q = if a ≤ k then P else Q := by
  have e : ∀ a k : Fin 8, IntOp.cmpi .sge (BitVec.ofNat 32 k.val) (BitVec.ofNat 32 a.val) = if a.val ≤ k.val then 1#1 else 0#1 := by
    decide
  rw [e ⟨a, ha⟩ ⟨k, hk⟩, Scalar.select]
  by_cases h : a ≤ k <;> simp [h]

theorem select_slt (a k : ℕ) (ha : a < 8) (hk : k < 8) (P Q : EReal) :
    Scalar.select (IntOp.cmpi .slt (BitVec.ofNat 32 k) (BitVec.ofNat 32 a)) P Q = if k < a then P else Q := by
  have e : ∀ a k : Fin 8, IntOp.cmpi .slt (BitVec.ofNat 32 k.val) (BitVec.ofNat 32 a.val) = if k.val < a.val then 1#1 else 0#1 := by
    decide
  rw [e ⟨a, ha⟩ ⟨k, hk⟩, Scalar.select]
  by_cases h : k < a <;> simp [h]

variable (X : FVec Ideal S256x1024 .f32) (Z : FVec Ideal S8x1024 .f32)

/-- The rows moved up by a shift, the rows after the block moved in. -/
def up (a b : BitVec 32) : FVec Ideal S256x1024 .f32 :=
  concatenate S256x1024 0 [⟨S248x1024, extractStridedSlice S248x1024 ![0, 0] (dynamicRotate 0 a none X rotates_S256x1024_d0) slices_S256x1024_o0_0_S248x1024⟩,
    ⟨S8x1024, select (cmpi .sge (iota .tc S8x1024 32 [0] iota_S8x1024_d0_w32) (broadcast S8x1024 b))
      (dynamicRotate 0 b none Z rotates_S8x1024_d0)
      (extractStridedSlice S8x1024 ![248, 0] (dynamicRotate 0 a none X rotates_S256x1024_d0) slices_S256x1024_o248_0_S8x1024)⟩]
    concatenates_S248x1024_S8x1024_S256x1024_d0

/-- The rows moved down by a shift, the rows before the block moved in. -/
def down (s : BitVec 32) : FVec Ideal S256x1024 .f32 :=
  concatenate S256x1024 0 [⟨S8x1024, select (cmpi .slt (iota .tc S8x1024 32 [0] iota_S8x1024_d0_w32) (broadcast S8x1024 s))
      (dynamicRotate 0 s none Z rotates_S8x1024_d0)
      (extractStridedSlice S8x1024 ![0, 0] (dynamicRotate 0 s none X rotates_S256x1024_d0) slices_S256x1024_o0_0_S8x1024)⟩,
    ⟨S248x1024, extractStridedSlice S248x1024 ![8, 0] (dynamicRotate 0 s none X rotates_S256x1024_d0) slices_S256x1024_o8_0_S248x1024⟩]
    concatenates_S8x1024_S248x1024_S256x1024_d0

theorem up_apply (s : ℕ) (hs : s = 1 ∨ s = 2 ∨ s = 3) (y : S256x1024.Idx) :
    (up X Z (BitVec.ofNat 32 (256 - s)) (BitVec.ofNat 32 (8 - s)) y : EReal)
      = if (y 0).val + s < 256 then cell X ((y 0).val + s) (y 1).val else cell Z ((y 0).val + s - 256) (y 1).val := by
  have hy : (y 0).val < 256 := (y 0).isLt
  rcases hs with rfl | rfl | rfl <;>
  · simp only [Nat.reduceSub, BitVec.ofNat_eq_ofNat]
    unfold up
    pointwise
    by_cases h : (y 0).val < 248
    · rw [dif_pos h, if_pos (by omega)]
      exact cell_idx X _ _ _ (by show _ % 256 = _; omega) rfl
    · rw [dif_neg h, select_sge _ _ (by omega) (by omega)]
      refine (ite_congr (propext ⟨fun k => ?_, fun k => ?_⟩) (fun _ => ?_) fun _ => ?_).trans
        (ite_not ((y 0).val + _ < 256) _ _)
      · omega
      · omega
      · exact cell_idx Z _ _ _ (by show _ % 8 = _; omega) rfl
      · exact cell_idx X _ _ _ (by show _ % 256 = _; omega) rfl

theorem down_apply (s : ℕ) (hs : s = 1 ∨ s = 2 ∨ s = 3) (y : S256x1024.Idx) :
    (down X Z (BitVec.ofNat 32 s) y : EReal)
      = if s ≤ (y 0).val then cell X ((y 0).val - s) (y 1).val else cell Z ((y 0).val + 8 - s) (y 1).val := by
  have hy : (y 0).val < 256 := (y 0).isLt
  rcases hs with rfl | rfl | rfl <;>
  · simp only [BitVec.ofNat_eq_ofNat]
    unfold down
    pointwise
    by_cases h : (y 0).val < 8
    · rw [dif_pos h, select_slt _ _ (by omega) (by omega)]
      refine (ite_congr (propext ⟨fun k => ?_, fun k => ?_⟩) (fun _ => ?_) fun _ => ?_).trans
        (ite_not (_ ≤ (y 0).val) _ _)
      · omega
      · omega
      · exact cell_idx Z _ _ _ (by show _ % 8 = _; omega) rfl
      · exact cell_idx X _ _ _ (by show _ % 256 = _; omega) rfl
    · rw [dif_neg h]
      refine Eq.trans ?_ (if_pos (by omega)).symm
      exact cell_idx X _ _ _ (by show _ % 256 = _; omega) rfl

end Shifts

end Cert.Kernel14Ideal.Value

end
-- ==== Proof.Conv.Bwd.lean ====
module

public import proofs.«01_k».proof.Defs
public import proofs.«01_k».proof.Proof.Conv.Plain
public import proofs.«01_k».proof.Proof.Conv.Shift
public import proofs.«01_k».proof.Proof.Gen.Kernel14Ideal.Value
public import proofs.«01_k».proof.Proof.Gen.Reference14Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel14Ideal.Value

open Cert.Kernel14Ideal Cert.Kernel14Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

theorem du_eq (c : Dev nD) (t : Fin cfg0.N) :
    (outsAt0 m c t.val t.isLt).1 = k0_pay1 (k0_pay14 (iblk m c 3 t) (k0_pay5 (grid0.coords t) (iblk m c 4 t))
      (k0_pay7 (grid0.coords t) (iblk m c 3 t) (iblk m c 4 t)
        (View.ld (S := S8x1024) (iblk m c 2 t) (Rect.unit (s := S8x1024) ![3, 0] S1x1024.size inb_S8x1024_S1x1024_3_0))
        (View.ld (S := S8x1024) (iblk m c 2 t) (Rect.unit (s := S8x1024) ![2, 0] S1x1024.size inb_S8x1024_S1x1024_2_0)))
      (View.ld (S := S8x1024) (iblk m c 2 t) (Rect.unit (s := S8x1024) ![1, 0] S1x1024.size inb_S8x1024_S1x1024_1_0))
      (View.ld (S := S8x1024) (iblk m c 2 t) (Rect.unit (s := S8x1024) ![0, 0] S1x1024.size inb_S8x1024_S1x1024_0_0))) := by
  by_cases h0 : t.val % 16 = 0
  · rw [outsAt0_A m c t h0]
    dsimp only
    unfold out0_A_5
    rw [View.read_writes_eq_canon _ _ _ (fun y => cover0_A_5 (y := y) ..)]
    unfold kernelRun0_A
    dsimp only
    sl_unfold_words
    rw [View.canon_unit_zero hz]
    simp only [View.readAt_eq_ld, (hs0_2 t).read_unread, (hs0_3 t).read_unread, (hs0_4 t).read_unread,
      View.ld_unit_zero (S := S256x1024) hz, View.ld_unit_zero (S := S8x1024) hz]
  · rw [outsAt0_B m c t h0]
    dsimp only
    unfold out0_B_5
    rw [View.read_writes_eq_canon _ _ _ (fun y => cover0_B_5 (y := y) ..)]
    unfold kernelRun0_B
    dsimp only
    sl_unfold_words
    rw [View.canon_unit_zero hz]
    simp only [View.readAt_eq_ld, (hs0_2 t).read_unread, (hs0_3 t).read_unread, (hs0_4 t).read_unread,
      View.ld_unit_zero (S := S256x1024) hz, View.ld_unit_zero (S := S8x1024) hz]

/-- The point's four row sums, on top of what the block held. -/
def dwStep (c : Dev nD) (t : Fin cfg0.N) (a : Vec F S8x1024 .f32) : Vec F S8x1024 .f32 :=
  k0_pay3 (X0_0 m c t) (iblk m c 3 t) (k0_pay4 (grid0.coords t) (X0_1 m c t)) (k0_pay6 (X0_0 m c t) (iblk m c 3 t))
    (k0_pay12 (iblk m c 3 t) (k0_pay8 (X0_0 m c t)) (k0_pay9 (grid0.coords t) (X0_1 m c t)) k0_pay10 (k0_pay11 (X0_0 m c t)))
    (k0_pay13 (X0_0 m c t) (iblk m c 3 t) (k0_pay4 (grid0.coords t) (X0_1 m c t))) 3#32 a

theorem dw_first (c : Dev nD) (t : Fin cfg0.N) (h0 : t.val % 16 = 0) :
    (outsAt0 m c t.val t.isLt).2 = dwStep m c t k0_pay2 := by
  rw [outsAt0_A m c t h0]
  dsimp only
  unfold out0_A_6
  rw [View.read_writes_eq_canon _ _ _ (fun y => cover0_A_6 (y := y) ..)]
  unfold kernelRun0_A
  dsimp only
  sl_unfold_words
  rw [View.canon_cons_unit_zero (S := S8x1024) hz, View.readCov_unit_zero (S := S8x1024) _ hz]
  simp only [View.readAt_eq_ld, (hs0_0 t).read_unread, (hs0_1 t).read_unread, (hs0_3 t).read_unread,
    View.ld_unit_zero (S := S256x1024) hz, View.ld_unit_zero (S := S8x1024) hz]
  rfl

theorem dw_next (c : Dev nD) (t : Fin cfg0.N) (h0 : ¬ t.val % 16 = 0) :
    (outsAt0 m c t.val t.isLt).2 = dwStep m c t (outsAt0 m c (t.val - 1) (Nat.lt_of_le_of_lt (Nat.sub_le _ _) t.isLt)).2 := by
  rw [outsAt0_B m c t h0]
  dsimp only
  unfold out0_B_6
  rw [View.read_writes_eq_canon _ _ _ (fun y => cover0_B_6 (y := y) ..)]
  unfold kernelRun0_B
  dsimp only
  sl_unfold_words
  rw [View.canon_unit_zero hz]
  simp only [View.readAt_eq_ld, (hs0_0 t).read_unread, (hs0_1 t).read_unread, (hs0_3 t).read_unread, (hs0_6 t).read_unread,
    View.ld_unit_zero (S := S256x1024) hz, View.ld_unit_zero (S := S8x1024) hz]
  rfl

/-! ## Over the extended reals -/

section AtIdeal

variable (m : (ℓ : Loc nD τ sig) → Buf (Elt Ideal) ℓ)

/-- The grid's blocks: a point's column block is its quotient by 16, its row block the remainder. -/
theorem block_rows : ∀ t : Fin cfg0.N, (win0_0.index t 0 = t.val % 16 ∧ win0_0.index t 1 = t.val / 16)
    ∧ (win0_1.index t 0 = t.val % 16 * 32 - 1 ∧ win0_1.index t 1 = t.val / 16)
    ∧ (win0_2.index t 0 = 0 ∧ win0_2.index t 1 = t.val / 16)
    ∧ (win0_3.index t 0 = t.val % 16 ∧ win0_3.index t 1 = t.val / 16)
    ∧ (win0_4.index t 0 = min (t.val % 16 * 32 + 32) 511 ∧ win0_4.index t 1 = t.val / 16)
    ∧ (win0_5.index t 0 = t.val % 16 ∧ win0_5.index t 1 = t.val / 16)
    ∧ (win0_6.index t 0 = 0 ∧ win0_6.index t 1 = t.val / 16) :=
  (by decide +kernel : ∀ t : Fin grid0.N, _)

/-- The guards: the first row block has nothing before it, the last nothing after. -/
theorem guards : ∀ t : Fin cfg0.N,
    Scalar.cmpi .sgt (BitVec.ofNat 32 (grid0.coords t 1).val) 0#32 = (if t.val % 16 = 0 then 0#1 else 1#1)
    ∧ Scalar.cmpi .slt (BitVec.ofNat 32 (grid0.coords t 1).val) 15#32 = (if t.val % 16 = 15 then 0#1 else 1#1) :=
  (by decide +kernel : ∀ t : Fin grid0.N, _)

theorem block_x (c : Dev nD) (t : Fin cfg0.N) (j : S256x1024.Idx) :
    (X0_0 m c t : Vec Ideal S256x1024 .f32) j
      = cell (m ((c : Thread nD τ).loc main_arg0)) (t.val % 16 * 256 + (j 0).val) (t.val / 16 * 1024 + (j 1).val) := by
  obtain ⟨e0, e1⟩ := (block_rows t).1
  unfold X0_0 Pipeline.Window.fill
  rw [dif_pos (moved0_0 t j)]
  unfold iblk
  rw [View.read_apply]
  refine cell_idx (m ((c : Thread nD τ).loc main_arg0)) _ _ _ ?_ ?_
  · show win0_0.index t 0 * 256 + 1 * (j 0).val = _; rw [e0]; omega
  · show win0_0.index t 1 * 1024 + 1 * (j 1).val = _; rw [e1]; omega

theorem block_before (c : Dev nD) (t : Fin cfg0.N) (j : S8x1024.Idx) :
    (X0_1 m c t : Vec Ideal S8x1024 .f32) j
      = cell (m ((c : Thread nD τ).loc main_arg0)) ((t.val % 16 * 32 - 1) * 8 + (j 0).val) (t.val / 16 * 1024 + (j 1).val) := by
  obtain ⟨e0, e1⟩ := (block_rows t).2.1
  unfold X0_1 Pipeline.Window.fill
  rw [dif_pos (moved0_1 t j)]
  unfold iblk
  rw [View.read_apply]
  refine cell_idx (m ((c : Thread nD τ).loc main_arg0)) _ _ _ ?_ ?_
  · show win0_1.index t 0 * 8 + 1 * (j 0).val = _; rw [e0]; omega
  · show win0_1.index t 1 * 1024 + 1 * (j 1).val = _; rw [e1]; omega

theorem block_w (c : Dev nD) (t : Fin cfg0.N) (j : S8x1024.Idx) :
    (iblk m c 2 t : Vec Ideal S8x1024 .f32) j
      = cell (m ((c : Thread nD τ).loc main_arg1)) (j 0).val (t.val / 16 * 1024 + (j 1).val) := by
  obtain ⟨e0, e1⟩ := (block_rows t).2.2.1
  unfold iblk
  rw [View.read_apply]
  refine cell_idx (m ((c : Thread nD τ).loc main_arg1)) _ _ _ ?_ ?_
  · show win0_2.index t 0 * 8 + 1 * (j 0).val = _; rw [e0]; omega
  · show win0_2.index t 1 * 1024 + 1 * (j 1).val = _; rw [e1]; omega

theorem block_dy (c : Dev nD) (t : Fin cfg0.N) (j : S256x1024.Idx) :
    (iblk m c 3 t : Vec Ideal S256x1024 .f32) j
      = cell (m ((c : Thread nD τ).loc main_arg2)) (t.val % 16 * 256 + (j 0).val) (t.val / 16 * 1024 + (j 1).val) := by
  obtain ⟨e0, e1⟩ := (block_rows t).2.2.2.1
  unfold iblk
  rw [View.read_apply]
  refine cell_idx (m ((c : Thread nD τ).loc main_arg2)) _ _ _ ?_ ?_
  · show win0_3.index t 0 * 256 + 1 * (j 0).val = _; rw [e0]; omega
  · show win0_3.index t 1 * 1024 + 1 * (j 1).val = _; rw [e1]; omega

theorem block_after (c : Dev nD) (t : Fin cfg0.N) (j : S8x1024.Idx) :
    (iblk m c 4 t : Vec Ideal S8x1024 .f32) j = cell (m ((c : Thread nD τ).loc main_arg2))
      (min (t.val % 16 * 32 + 32) 511 * 8 + (j 0).val) (t.val / 16 * 1024 + (j 1).val) := by
  obtain ⟨e0, e1⟩ := (block_rows t).2.2.2.2.1
  unfold iblk
  rw [View.read_apply]
  refine cell_idx (m ((c : Thread nD τ).loc main_arg2)) _ _ _ ?_ ?_
  · show win0_4.index t 0 * 8 + 1 * (j 0).val = _; rw [e0]; omega
  · show win0_4.index t 1 * 1024 + 1 * (j 1).val = _; rw [e1]; omega

/-- The gradient's rows moved up are the array's later rows, zero past its end. -/
theorem moved_up (c : Dev nD) (t : Fin cfg0.N) (s : ℕ) (hs : s = 1 ∨ s = 2 ∨ s = 3) (y : S256x1024.Idx) :
    (up (iblk m c 3 t) (k0_pay5 (grid0.coords t) (iblk m c 4 t)) (BitVec.ofNat 32 (256 - s)) (BitVec.ofNat 32 (8 - s)) y : EReal)
      = cell (m ((c : Thread nD τ).loc main_arg2)) (t.val % 16 * 256 + (y 0).val + s) (t.val / 16 * 1024 + (y 1).val) := by
  have hy0 : (y 0).val < 256 := (y 0).isLt
  have hy1 : (y 1).val < 1024 := (y 1).isLt
  rw [up_apply _ _ s hs]
  by_cases h : (y 0).val + s < 256
  · rw [if_pos h]
    unfold cell
    rw [dif_pos ⟨h, hy1⟩]
    refine (block_dy m c t _).trans ?_
    show cell _ (t.val % 16 * 256 + ((y 0).val + s)) (t.val / 16 * 1024 + (y 1).val) = _
    rw [← Nat.add_assoc]
    rfl
  · rw [if_neg h]
    conv_lhs => unfold cell
    rw [dif_pos ⟨by omega, hy1⟩]
    unfold k0_pay5
    dsimp only
    rw [(guards t).2, Scalar.select]
    by_cases e : t.val % 16 = 15
    · rw [if_pos e, if_neg (by decide)]
      unfold cell
      rw [dif_neg (by omega)]
      pointwise
    · rw [if_neg e, if_pos (by decide)]
      refine (block_after m c t _).trans ?_
      show cell _ (min (t.val % 16 * 32 + 32) 511 * 8 + ((y 0).val + s - 256)) (t.val / 16 * 1024 + (y 1).val) = _
      rw [show min (t.val % 16 * 32 + 32) 511 * 8 + ((y 0).val + s - 256) = t.val % 16 * 256 + (y 0).val + s by omega]

/-- The input's rows moved down are the array's earlier rows, zero before its start. -/
theorem moved_down (c : Dev nD) (t : Fin cfg0.N) (s : ℕ) (hs : s = 1 ∨ s = 2 ∨ s = 3) (y : S256x1024.Idx) :
    (down (X0_0 m c t) (k0_pay4 (grid0.coords t) (X0_1 m c t)) (BitVec.ofNat 32 s) y : EReal)
      = lagged (m ((c : Thread nD τ).loc main_arg0)) s (t.val % 16 * 256 + (y 0).val) (t.val / 16 * 1024 + (y 1).val) := by
  have hy0 : (y 0).val < 256 := (y 0).isLt
  have hy1 : (y 1).val < 1024 := (y 1).isLt
  rw [down_apply _ _ s hs]
  unfold lagged
  by_cases h : s ≤ (y 0).val
  · rw [if_pos h, if_pos (by omega)]
    conv_lhs => unfold cell
    rw [dif_pos ⟨by omega, hy1⟩]
    refine (block_x m c t _).trans ?_
    show cell _ (t.val % 16 * 256 + ((y 0).val - s)) (t.val / 16 * 1024 + (y 1).val) = _
    rw [show t.val % 16 * 256 + ((y 0).val - s) = t.val % 16 * 256 + (y 0).val - s by omega]
  · rw [if_neg h]
    conv_lhs => unfold cell
    rw [dif_pos ⟨by omega, hy1⟩]
    unfold k0_pay4
    dsimp only
    rw [(guards t).1, Scalar.select]
    by_cases e : t.val % 16 = 0
    · rw [if_pos e, if_neg (by decide), if_neg (by omega)]
      pointwise
    · rw [if_neg e, if_pos (by decide), if_pos (by omega)]
      refine (block_before m c t _).trans ?_
      show cell _ ((t.val % 16 * 32 - 1) * 8 + ((y 0).val + 8 - s)) (t.val / 16 * 1024 + (y 1).val) = _
      rw [show (t.val % 16 * 32 - 1) * 8 + ((y 0).val + 8 - s) = t.val % 16 * 256 + (y 0).val - s by omega]

theorem du_apply (c : Dev nD) (t : Fin cfg0.N) (y : S256x1024.Idx) :
    ((outsAt0 m c t.val t.isLt).1 y : EReal)
      = duAt (m ((c : Thread nD τ).loc main_arg1)) (m ((c : Thread nD τ).loc main_arg2))
          (t.val % 16 * 256 + (y 0).val) (t.val / 16 * 1024 + (y 1).val) := by
  rw [du_eq]
  show ((truncf .bf16 (addf (addf (addf (mulf (iblk m c 3 t : FVec Ideal S256x1024 .f32) (broadcastTo S256x1024 _ broadcasts_S1x1024_S256x1024))
    (mulf (up (iblk m c 3 t) (k0_pay5 (grid0.coords t) (iblk m c 4 t)) (BitVec.ofNat 32 (256 - 1)) (BitVec.ofNat 32 (8 - 1))) (broadcastTo S256x1024 _ broadcasts_S1x1024_S256x1024)))
    (mulf (up (iblk m c 3 t) (k0_pay5 (grid0.coords t) (iblk m c 4 t)) (BitVec.ofNat 32 (256 - 2)) (BitVec.ofNat 32 (8 - 2))) (broadcastTo S256x1024 _ broadcasts_S1x1024_S256x1024)))
    (mulf (up (iblk m c 3 t) (k0_pay5 (grid0.coords t) (iblk m c 4 t)) (BitVec.ofNat 32 (256 - 3)) (BitVec.ofNat 32 (8 - 3))) (broadcastTo S256x1024 _ broadcasts_S1x1024_S256x1024))) bitsLt_bf16_f32
      : FVec Ideal S256x1024 .bf16) y : EReal) = _
  simp only [View.ld_unit]
  pointwise
  unfold duAt
  exact congrArg₂ (· + ·) (congrArg₂ (· + ·) (congrArg₂ (· + ·)
    (congrArg₂ (· * ·) (block_dy m c t y) (block_w m c t _))
    (congrArg₂ (· * ·) (moved_up m c t 1 (by decide) y) (block_w m c t _)))
    (congrArg₂ (· * ·) (moved_up m c t 2 (by decide) y) (block_w m c t _)))
    (congrArg₂ (· * ·) (moved_up m c t 3 (by decide) y) (block_w m c t _))

theorem dw_term (c : Dev nD) (t : Fin cfg0.N) (a : Vec Ideal S8x1024 .f32) (y : S8x1024.Idx) :
    (dwStep m c t a y : EReal) = a y + ∑ k : Fin 256, dwPart (m ((c : Thread nD τ).loc main_arg0))
      (m ((c : Thread nD τ).loc main_arg2)) (y 0).val (t.val % 16 * 256 + k.val) (t.val / 16 * 1024 + (y 1).val) := by
  unfold dwStep
  show (addf (shapeCast S8x1024 a shapeCasts_S8x1024_S8x1024) (concatenate S8x1024 0
    [⟨S1x1024, shapeCast S1x1024 (multiReduction .add [0] S1024 (mulf (iblk m c 3 t : FVec Ideal S256x1024 .f32) (down (X0_0 m c t) (k0_pay4 (grid0.coords t) (X0_1 m c t)) (BitVec.ofNat 32 3))) 0x00000000#32 reduces_S256x1024_S1024 (.inl rfl) rfl) shapeCasts_S1024_S1x1024⟩,
     ⟨S1x1024, shapeCast S1x1024 (multiReduction .add [0] S1024 (mulf (iblk m c 3 t : FVec Ideal S256x1024 .f32) (down (X0_0 m c t) (k0_pay4 (grid0.coords t) (X0_1 m c t)) (BitVec.ofNat 32 2))) 0x00000000#32 reduces_S256x1024_S1024 (.inl rfl) rfl) shapeCasts_S1024_S1x1024⟩,
     ⟨S1x1024, shapeCast S1x1024 (multiReduction .add [0] S1024 (mulf (iblk m c 3 t : FVec Ideal S256x1024 .f32) (down (X0_0 m c t) (k0_pay4 (grid0.coords t) (X0_1 m c t)) (BitVec.ofNat 32 1))) 0x00000000#32 reduces_S256x1024_S1024 (.inl rfl) rfl) shapeCasts_S1024_S1x1024⟩,
     ⟨S1x1024, shapeCast S1x1024 (multiReduction .add [0] S1024 (mulf (iblk m c 3 t : FVec Ideal S256x1024 .f32) (X0_0 m c t)) 0x00000000#32 reduces_S256x1024_S1024 (.inl rfl) rfl) shapeCasts_S1024_S1x1024⟩,
     ⟨S4x1024, broadcast S4x1024 (Scalar.ofBits (F := Ideal) .f32 0x00000000#32)⟩] concatenates_S1x1024_S1x1024_S1x1024_S1x1024_S4x1024_S8x1024_d0) y : EReal) = _
  pointwise
  refine congrArg (a y + ·) ?_
  have part (j d : ℕ) (hj : j < 4) (hd : d = 3 - j) (hs : d = 1 ∨ d = 2 ∨ d = 3) :
      (∑ x : Fin 256, mulf (iblk m c 3 t : FVec Ideal S256x1024 .f32) (down (X0_0 m c t)
        (k0_pay4 (grid0.coords t) (X0_1 m c t)) (BitVec.ofNat 32 d)) (Idealize.ShloMosaic.ix2 x (y 1)) : EReal)
        = ∑ k : Fin 256, dwPart (m ((c : Thread nD τ).loc main_arg0)) (m ((c : Thread nD τ).loc main_arg2)) j
          (t.val % 16 * 256 + k.val) (t.val / 16 * 1024 + (y 1).val) := by
    subst hd
    refine Finset.sum_congr rfl fun x _ => ?_
    unfold dwPart
    rw [if_pos hj]
    exact congrArg₂ (fun p q : EReal => p * q) (block_dy m c t _) (moved_down m c t _ hs _)
  by_cases h0 : (y 0).val < 1
  · rw [dif_pos h0, show (y 0).val = 0 by omega]
    exact part 0 3 (by decide) rfl (by decide)
  by_cases h1 : (y 0).val - 1 < 1
  · rw [dif_neg h0, dif_pos h1, show (y 0).val = 1 by omega]
    exact part 1 2 (by decide) rfl (by decide)
  by_cases h2 : (y 0).val - 1 - 1 < 1
  · rw [dif_neg h0, dif_neg h1, dif_pos h2, show (y 0).val = 2 by omega]
    exact part 2 1 (by decide) rfl (by decide)
  by_cases h3 : (y 0).val - 1 - 1 - 1 < 1
  · rw [dif_neg h0, dif_neg h1, dif_neg h2, dif_pos h3]
    refine Finset.sum_congr rfl fun x _ => ?_
    unfold dwPart
    rw [if_pos (by omega), show 3 - (y 0).val = 0 by omega]
    exact congrArg₂ (fun p q : EReal => p * q) (block_dy m c t _) (block_x m c t _)
  · rw [dif_neg h0, dif_neg h1, dif_neg h2, dif_neg h3]
    unfold dwPart
    simp only [if_neg (by omega : ¬ (y 0).val < 4), Finset.sum_const_zero]

/-- After a column block's last row block, the block holds every row's part. -/
theorem dw_last (c : Dev nD) (t : Fin cfg0.N) (ht : t.val % 16 = 15) (y : S8x1024.Idx) :
    ((outsAt0 m c t.val t.isLt).2 y : EReal) = ∑ r : Fin 4096, dwPart (m ((c : Thread nD τ).loc main_arg0))
      (m ((c : Thread nD τ).loc main_arg2)) (y 0).val r.val (t.val / 16 * 1024 + (y 1).val) := by
  have e (f : ℕ → EReal) : ∑ r : Fin (16 * 256), f r.val = ∑ r : Fin 4096, f r.val := by
    rw [Fin.sum_univ_eq_sum_range]
  refine Eq.trans ?_ (e fun r => dwPart (m ((c : Thread nD τ).loc main_arg0))
    (m ((c : Thread nD τ).loc main_arg2)) (y 0).val r (t.val / 16 * 1024 + (y 1).val))
  refine run_total 16 256 (fun n h (y : S8x1024.Idx) => ((outsAt0 m c n h).2 y : EReal))
    (fun q r y => dwPart (m ((c : Thread nD τ).loc main_arg0)) (m ((c : Thread nD τ).loc main_arg2)) (y 0).val r
      (q * 1024 + (y 1).val))
    (fun n h y hn => ?_) (fun n h y hn => ?_) t.val t.isLt y (by omega)
  · show ((outsAt0 m c n h).2 y : EReal) = _
    rw [dw_first m c ⟨n, h⟩ hn, dw_term]
    unfold k0_pay2
    pointwise
  · show ((outsAt0 m c (n + 1) h).2 y : EReal) = _
    rw [dw_next m c ⟨n + 1, h⟩ hn, dw_term]
    rfl

/-- The result array of the gradient to the input. -/
def resultDu (c : Dev nD) : Buf (Elt Ideal) ((c : Thread nD τ).loc main_v0_0) := fun i =>
  duAt (m ((c : Thread nD τ).loc main_arg1)) (m ((c : Thread nD τ).loc main_arg2)) (i 0).val (i 1).val

/-- The result array of the gradient to the weights: the rows' parts, summed. -/
def resultDw (c : Dev nD) : Buf (Elt Ideal) ((c : Thread nD τ).loc main_v0_1) := fun i =>
  show EReal from ∑ r : Fin 4096, dwPart (m ((c : Thread nD τ).loc main_arg0)) (m ((c : Thread nD τ).loc main_arg2))
    (i 0).val r.val (i 1).val

/-- A point writes back its block of the gradient to the input. -/
theorem flushed_du (c : Dev nD) (t : Fin cfg0.N) :
    (dats m 0 c).flushed 5 t = ((cfg0.win 5).blk t).view.read (Elt Ideal) (resultDu m c) := by
  rw [flushed5]
  obtain ⟨e0, e1⟩ := (block_rows t).2.2.2.2.2.1
  funext y
  refine (du_apply m c t _).trans ?_
  rw [View.read_apply]
  unfold resultDu
  have h0 : (((cfg0.win 5).blk t).view.emb y 0).val = t.val % 16 * 256 + (y 0).val := by
    show win0_5.index t 0 * 256 + 1 * (y 0).val = _; rw [e0, Nat.one_mul]
  have h1 : (((cfg0.win 5).blk t).view.emb y 1).val = t.val / 16 * 1024 + (y 1).val := by
    show win0_5.index t 1 * 1024 + 1 * (y 1).val = _; rw [e1, Nat.one_mul]
  rw [h0, h1]
  rfl

/-- A column block's last point writes back its block of the gradient to the weights. -/
theorem flushed_dw (c : Dev nD) (t : Fin cfg0.N) (ht : t.val % 16 = 15) :
    (dats m 0 c).flushed 6 t = ((cfg0.win 6).blk t).view.read (Elt Ideal) (resultDw m c) := by
  rw [flushed6]
  obtain ⟨e0, e1⟩ := (block_rows t).2.2.2.2.2.2
  funext y
  refine (dw_last m c t ht _).trans ?_
  rw [View.read_apply]
  unfold resultDw
  have h0 : (((cfg0.win 6).blk t).view.emb y 0).val = (y 0).val := by
    show win0_6.index t 0 * 8 + 1 * (y 0).val = _; rw [e0]; omega
  have h1 : (((cfg0.win 6).blk t).view.emb y 1).val = t.val / 16 * 1024 + (y 1).val := by
    show win0_6.index t 1 * 1024 + 1 * (y 1).val = _; rw [e1, Nat.one_mul]
  rw [h0, h1]
  rfl

theorem final_du (c : Dev nD) : (dats m 0 c).arrAt 5 cfg0.N = resultDu m c :=
  (dats m 0 c).arrAt_eq_of_cover 5 (resultDu m c) (fun t _ => flushed_du m c t) fun i => by
    have h0 : (i 0).val < 4096 := (i 0).isLt
    have h1 : (i 1).val < 3072 := (i 1).isLt
    have hN : cfg0.N = 48 := N_0
    obtain ⟨t, ht⟩ : ∃ t : Fin cfg0.N, t.val = (i 1).val / 1024 * 16 + (i 0).val / 256 := ⟨⟨_, by omega⟩, rfl⟩
    obtain ⟨e0, e1⟩ := (block_rows t).2.2.2.2.2.1
    refine ⟨t, flush0_5 t, ?_⟩
    show i ∈ ((View.whole main_v0_0).slice (win0_5.rect t)).set
    rw [View.set_slice_whole, Rect.mem_set_unit]
    intro a
    match a with
    | ⟨0, _⟩ => show win0_5.index t 0 * 256 ≤ (i 0).val ∧ (i 0).val < win0_5.index t 0 * 256 + 256; omega
    | ⟨1, _⟩ => show win0_5.index t 1 * 1024 ≤ (i 1).val ∧ (i 1).val < win0_5.index t 1 * 1024 + 1024; omega

theorem final_dw (c : Dev nD) : (dats m 0 c).arrAt 6 cfg0.N = resultDw m c :=
  (dats m 0 c).arrAt_eq_of_cover 6 (resultDw m c) (fun t ht => flushed_dw m c t ((flush0_6 t).mp ht)) fun i => by
    have h0 : (i 0).val < 8 := (i 0).isLt
    have h1 : (i 1).val < 3072 := (i 1).isLt
    have hN : cfg0.N = 48 := N_0
    obtain ⟨t, ht⟩ : ∃ t : Fin cfg0.N, t.val = (i 1).val / 1024 * 16 + 15 := ⟨⟨_, by omega⟩, rfl⟩
    obtain ⟨e0, e1⟩ := (block_rows t).2.2.2.2.2.2
    refine ⟨t, (flush0_6 t).mpr (by omega), ?_⟩
    show i ∈ ((View.whole main_v0_1).slice (win0_6.rect t)).set
    rw [View.set_slice_whole, Rect.mem_set_unit]
    intro a
    match a with
    | ⟨0, _⟩ => show win0_6.index t 0 * 8 ≤ (i 0).val ∧ (i 0).val < win0_6.index t 0 * 8 + 8; omega
    | ⟨1, _⟩ => show win0_6.index t 1 * 1024 ≤ (i 1).val ∧ (i 1).val < win0_6.index t 1 * 1024 + 1024; omega

end AtIdeal

end Cert.Kernel14Ideal.Value

namespace Cert.Ffn

/-- The convolution's gradients, to its input and to its weights, are the plain gradients. -/
theorem conv_bwd : algebraic_Kernel14Ideal_Reference14Ideal := by
  intro m g m' g' _ hagree
  refine ⟨fun c => Kernel14Ideal.Value.resultDu m c, fun c => Kernel14Ideal.Value.resultDw m c, (θ_run _ _ _).mono
    (fun r h c => ⟨(h c).1.trans (Kernel14Ideal.Value.final_du m c), (h c).2.1.trans (Kernel14Ideal.Value.final_dw m c), (h c).2.2⟩)
    (Kernel14Ideal.Value.run_blocks m g), ?_⟩
  refine (θ_run _ _ _).mono (fun r h c => ⟨(h c).1.trans ?_, (h c).2.1.trans ?_, (h c).2.2⟩) (Reference14Ideal.Value.run m' g')
  · obtain ⟨-, e1, e2⟩ := hagree c
    rw [e1, e2]
    exact funext fun i => plainDu_apply (m (c.tc.loc Kernel14Ideal.main_arg1)) (m (c.tc.loc Kernel14Ideal.main_arg2)) i
  · obtain ⟨e0, -, e2⟩ := hagree c
    rw [e0, e2]
    exact funext fun i => plainDw_apply (m (c.tc.loc Kernel14Ideal.main_arg0)) (m (c.tc.loc Kernel14Ideal.main_arg2)) i

end Cert.Ffn

end
-- ==== Proof.Fwd.Product.lean ====
module

public import proofs.«01_k».proof.Proof.Ffn.Sums

@[expose] public section

noncomputable section

namespace Cert.Fwd

open Idealize.ShloMosaic Idealize.ShloMosaic.ValueIdx Cert.Ffn

/-! The plain product of two matrices, by its entries. -/

/-- The entry of the product of two matrices at a row and a column given as plain numbers. -/
def entry {a b d : ℕ} (X : (⟨2, ![a, b]⟩ : Shape).Idx → EReal) (Y : (⟨2, ![b, d]⟩ : Shape).Idx → EReal) (r s : ℕ) : EReal :=
  ∑ k : Fin b, cell X r k.val * cell Y k.val s

/-- At a row and a column of the product it sums the products of the two matrices' entries. -/
theorem entry_ix2 {a b d : ℕ} (X : (⟨2, ![a, b]⟩ : Shape).Idx → EReal) (Y : (⟨2, ![b, d]⟩ : Shape).Idx → EReal)
    (r : Fin a) (s : Fin d) : entry X Y r.val s.val = ∑ k : Fin b, X (ix2 r k) * Y (ix2 k s) :=
  Finset.sum_congr rfl fun k _ => congrArg₂ (· * ·) (cell_ix2 X r k) (cell_ix2 Y k s)

end Cert.Fwd

end
-- ==== Proof.Fwd.GateUp.lean ====
module

public import proofs.«01_k».proof.Defs
public import proofs.«01_k».proof.Proof.Fwd.Product
public import proofs.«01_k».proof.Proof.Gen.Kernel15Ideal.Value
public import proofs.«01_k».proof.Proof.Gen.Reference15Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel15Ideal.Value

open Cert.Kernel15Ideal Cert.Kernel15Ideal.Gen Cert.Ffn Cert.Fwd

variable {F : FTy → Type} [FloatOps F]
variable (m : (ℓ : Loc nD τ sig) → Buf (Elt F) ℓ)

theorem hz : (![0, 0] : Fin 2 → Nat) = fun _ => 0 := funext fun a => by fin_cases a <;> rfl

/-- A point's output block: the block product on a cleared scratch. -/
theorem out_eq (c : Dev nD) (t : Fin cfg0.N) :
    outsAt0 m c t = k0_pay2 (k0_pay1 (F := F)) (iblk m c 0 t) (iblk m c 1 t) := by
  unfold outsAt0 out0_A_2
  rw [View.read_writes_eq_canon _ _ _ (fun y => cover0_A_2 (y := y) ..)]
  unfold kernelRun0_A
  dsimp only
  sl_unfold_words
  rw [View.canon_unit_zero hz]
  simp only [View.readCov_unit_zero (S := S1024x1408) _ hz, View.readAt_eq_ld, (hs0_0 t).read_unread, (hs0_1 t).read_unread,
    View.ld_unit_zero (S := S1024x1024) hz, View.ld_unit_zero (S := S1024x1408) hz]
  exact View.readCov_cons_toLoadRect ..

/-! ## Over the extended reals -/

section AtIdeal

variable (m : (ℓ : Loc nD τ sig) → Buf (Elt Ideal) ℓ)

/-- The grid's blocks: the rows of the left operand go with the output's rows, the columns of the right one with its columns. -/
theorem block_index : ∀ t : Fin cfg0.N, win0_0.index t 0 = t.val / 4 ∧ win0_0.index t 1 = 0
    ∧ win0_1.index t 0 = 0 ∧ win0_1.index t 1 = t.val % 4 ∧ win0_2.index t 0 = t.val / 4 ∧ win0_2.index t 1 = t.val % 4 :=
  (by decide +kernel : ∀ t : Fin grid0.N, _)

theorem block_left (c : Dev nD) (t : Fin cfg0.N) (j : S1024x1024.Idx) :
    (iblk m c 0 t : Vec Ideal S1024x1024 .bf16) j
      = cell (m ((c : Thread nD τ).loc main_arg0)) (t.val / 4 * 1024 + (j 0).val) (j 1).val := by
  obtain ⟨e0, e1, -⟩ := block_index t
  unfold iblk
  rw [View.read_apply]
  refine cell_idx (m ((c : Thread nD τ).loc main_arg0)) _ _ _ ?_ ?_
  · show win0_0.index t 0 * 1024 + 1 * (j 0).val = _; rw [e0, Nat.one_mul]
  · show win0_0.index t 1 * 1024 + 1 * (j 1).val = _; rw [e1]; omega

theorem block_right (c : Dev nD) (t : Fin cfg0.N) (j : S1024x1408.Idx) :
    (iblk m c 1 t : Vec Ideal S1024x1408 .bf16) j
      = cell (m ((c : Thread nD τ).loc main_arg1)) (j 0).val (t.val % 4 * 1408 + (j 1).val) := by
  obtain ⟨-, -, e0, e1, -⟩ := block_index t
  unfold iblk
  rw [View.read_apply]
  refine cell_idx (m ((c : Thread nD τ).loc main_arg1)) _ _ _ ?_ ?_
  · show win0_1.index t 0 * 1024 + 1 * (j 0).val = _; rw [e0]; omega
  · show win0_1.index t 1 * 1408 + 1 * (j 1).val = _; rw [e1, Nat.one_mul]

/-- The result array: the product of the two arguments. -/
def result (c : Dev nD) : Buf (Elt Ideal) ((c : Thread nD τ).loc main_v0) := fun i =>
  show EReal from entry (m ((c : Thread nD τ).loc main_arg0)) (m ((c : Thread nD τ).loc main_arg1)) (i 0).val (i 1).val

theorem out_apply (c : Dev nD) (t : Fin cfg0.N) (y : S1024x1408.Idx) :
    (outsAt0 m c t y : EReal) = entry (m ((c : Thread nD τ).loc main_arg0)) (m ((c : Thread nD τ).loc main_arg1))
      (t.val / 4 * 1024 + (y 0).val) (t.val % 4 * 1408 + (y 1).val) := by
  rw [out_eq]
  unfold k0_pay2 k0_pay1
  pointwise
  simp only [block_left, block_right]
  rfl

/-- A point writes back its block of the result. -/
theorem flushed_eq (c : Dev nD) (t : Fin cfg0.N) :
    (dats m 0 c).flushed 2 t = ((cfg0.win 2).blk t).view.read (Elt Ideal) (result m c) := by
  rw [flushed2]
  obtain ⟨-, -, -, -, e0, e1⟩ := block_index t
  funext y
  refine (out_apply m c t _).trans ?_
  rw [View.read_apply]
  unfold result
  have h0 : (((cfg0.win 2).blk t).view.emb y 0).val = t.val / 4 * 1024 + (y 0).val := by
    show win0_2.index t 0 * 1024 + 1 * (y 0).val = _; rw [e0, Nat.one_mul]
  have h1 : (((cfg0.win 2).blk t).view.emb y 1).val = t.val % 4 * 1408 + (y 1).val := by
    show win0_2.index t 1 * 1408 + 1 * (y 1).val = _; rw [e1, Nat.one_mul]
  rw [h0, h1]
  rfl

/-- The blocks fill the result array. -/
theorem final_result (c : Dev nD) : (dats m 0 c).arrAt 2 cfg0.N = result m c :=
  (dats m 0 c).arrAt_eq_of_cover 2 (result m c) (fun t _ => flushed_eq m c t) fun i => by
    have h0 : (i 0).val < 4096 := (i 0).isLt
    have h1 : (i 1).val < 5632 := (i 1).isLt
    have hN : cfg0.N = 16 := N_0
    obtain ⟨t, ht⟩ : ∃ t : Fin cfg0.N, t.val = 4 * ((i 0).val / 1024) + (i 1).val / 1408 := ⟨⟨_, by omega⟩, rfl⟩
    obtain ⟨-, -, -, -, e0, e1⟩ := block_index t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 1408 ≤ (i 1).val ∧ (i 1).val < win0_2.index t 1 * 1408 + 1408; omega

end AtIdeal

end Cert.Kernel15Ideal.Value

namespace Cert.Fwd

/-- The feed-forward layer's first product is the plain product. -/
theorem gate_up : algebraic_Kernel15Ideal_Reference15Ideal := by
  intro m g m' g' _ hagree
  refine ⟨fun c => Kernel15Ideal.Value.result m c, (θ_run _ _ _).mono
    (fun r h c => ⟨(h c).1.trans (Kernel15Ideal.Value.final_result m c), (h c).2⟩) (Kernel15Ideal.Value.run_blocks m g), ?_⟩
  refine (θ_run _ _ _).mono (fun r h c => ⟨(h c).1.trans ?_, (h c).2⟩) (Reference15Ideal.Value.run m' g')
  obtain ⟨e0, e1⟩ := hagree c
  rw [e0, e1]
  funext i
  unfold Kernel15Ideal.Value.result
  pointwise
  exact (entry_ix2 (m (c.tc.loc Kernel15Ideal.main_arg0)) (m (c.tc.loc Kernel15Ideal.main_arg1)) (i 0) (i 1)).symm

end Cert.Fwd

end
-- ==== Proof.Fwd.Down.lean ====
module

public import proofs.«01_k».proof.Defs
public import proofs.«01_k».proof.Proof.Fwd.Product
public import proofs.«01_k».proof.Proof.Gen.Kernel16Ideal.Value
public import proofs.«01_k».proof.Proof.Gen.Reference16Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel16Ideal.Value

open Cert.Kernel16Ideal Cert.Kernel16Ideal.Gen Cert.Ffn Cert.Fwd

variable {F : FTy → Type} [FloatOps F]
variable (m : (ℓ : Loc nD τ sig) → Buf (Elt F) ℓ)

theorem hz : (![0, 0] : Fin 2 → Nat) = fun _ => 0 := funext fun a => by fin_cases a <;> rfl

/-- At a run's first point the scratch is cleared and takes the first block product. -/
theorem scratch_first (c : Dev nD) (t : Fin cfg0.N) (h0 : t.val % 11 = 0) :
    (outsAt0 m c t.val t.isLt).2 = k0_pay2 (k0_pay1 (F := F)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x256) hz, View.ld_unit_zero (S := S256x1024) hz]

/-- At every other point it takes the point's block product on top of what it held. -/
theorem scratch_next (c : Dev nD) (t : Fin cfg0.N) (h0 : ¬ t.val % 11 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 11 = 10
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz]
    simp only [View.readAt_eq_ld, (hs0_0 t).read_unread, (hs0_1 t).read_unread, (Memref.isWhole_whole _).read_unread,
      View.ld_unit_zero (S := S1024x256) hz, View.ld_unit_zero (S := S256x1024) hz, View.ld_unit_zero (S := S1024x1024) hz]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz]
    simp only [View.readAt_eq_ld, (hs0_0 t).read_unread, (hs0_1 t).read_unread, (Memref.isWhole_whole _).read_unread,
      View.ld_unit_zero (S := S1024x256) hz, View.ld_unit_zero (S := S256x1024) hz, View.ld_unit_zero (S := S1024x1024) hz]

/-- At a run's last point the output block is the scratch with the point's block of the added array. -/
theorem out_last (c : Dev nD) (t : Fin cfg0.N) (h1 : t.val % 11 = 10) :
    (outsAt0 m c t.val t.isLt).1 = k0_pay3 (outsAt0 m c t.val t.isLt).2 (iblk m c 2 t) := by
  rw [scratch_next m c t (by omega), outsAt0_C m c t (by omega) h1]
  dsimp only
  unfold out0_C_3
  rw [View.read_writes_eq_canon _ _ _ (fun y => cover0_C_3 (y := y) ..)]
  unfold kernelRun0_C
  dsimp only
  sl_unfold_words
  rw [View.canon_unit_zero hz, View.readCov_unit_zero (S := S1024x1024) _ hz]
  simp only [View.readAt_eq_ld, (hs0_0 t).read_unread, (hs0_1 t).read_unread, (hs0_2 t).read_unread,
    (Memref.isWhole_whole _).read_unread, View.ld_unit_zero (S := S1024x256) hz, View.ld_unit_zero (S := S256x1024) hz,
    View.ld_unit_zero (S := S1024x1024) hz]

/-! ## Over the extended reals -/

section AtIdeal

variable (m : (ℓ : Loc nD τ sig) → Buf (Elt Ideal) ℓ)

/-- The grid's blocks: the left operand's columns and the right one's rows go with the point's place in its run, the
    output's rows with the run. -/
theorem block_index : ∀ t : Fin cfg0.N, win0_0.index t 0 = t.val / 11 ∧ win0_0.index t 1 = t.val % 11
    ∧ win0_1.index t 0 = t.val % 11 ∧ win0_1.index t 1 = 0 ∧ win0_2.index t 0 = t.val / 11 ∧ win0_2.index t 1 = 0 :=
  (by decide +kernel : ∀ t : Fin grid0.N, _)

theorem block_left (c : Dev nD) (t : Fin cfg0.N) (j : S1024x256.Idx) :
    (iblk m c 0 t : Vec Ideal S1024x256 .bf16) j
      = cell (m ((c : Thread nD τ).loc main_arg0)) (t.val / 11 * 1024 + (j 0).val) (t.val % 11 * 256 + (j 1).val) := by
  obtain ⟨e0, e1, -⟩ := block_index t
  unfold iblk
  rw [View.read_apply]
  refine cell_idx (m ((c : Thread nD τ).loc main_arg0)) _ _ _ ?_ ?_
  · show win0_0.index t 0 * 1024 + 1 * (j 0).val = _; rw [e0, Nat.one_mul]
  · show win0_0.index t 1 * 256 + 1 * (j 1).val = _; rw [e1, Nat.one_mul]

theorem block_right (c : Dev nD) (t : Fin cfg0.N) (j : S256x1024.Idx) :
    (iblk m c 1 t : Vec Ideal S256x1024 .bf16) j
      = cell (m ((c : Thread nD τ).loc main_arg1)) (t.val % 11 * 256 + (j 0).val) (j 1).val := by
  obtain ⟨-, -, e0, e1, -⟩ := block_index t
  unfold iblk
  rw [View.read_apply]
  refine cell_idx (m ((c : Thread nD τ).loc main_arg1)) _ _ _ ?_ ?_
  · show win0_1.index t 0 * 256 + 1 * (j 0).val = _; rw [e0, Nat.one_mul]
  · show win0_1.index t 1 * 1024 + 1 * (j 1).val = _; rw [e1]; omega

theorem block_added (c : Dev nD) (t : Fin cfg0.N) (j : S1024x1024.Idx) :
    (iblk m c 2 t : Vec Ideal S1024x1024 .f32) j
      = cell (m ((c : Thread nD τ).loc main_arg2)) (t.val / 11 * 1024 + (j 0).val) (j 1).val := by
  obtain ⟨-, -, -, -, e0, e1⟩ := block_index t
  unfold iblk
  rw [View.read_apply]
  refine cell_idx (m ((c : Thread nD τ).loc main_arg2)) _ _ _ ?_ ?_
  · show win0_2.index t 0 * 1024 + 1 * (j 0).val = _; rw [e0, Nat.one_mul]
  · show win0_2.index t 1 * 1024 + 1 * (j 1).val = _; rw [e1]; omega

/-- One product of the sum that the points of run `r` make of an output entry. -/
def term (c : Dev nD) (r k : ℕ) (y : S1024x1024.Idx) : EReal :=
  cell (m ((c : Thread nD τ).loc main_arg0)) (r * 1024 + (y 0).val) k * cell (m ((c : Thread nD τ).loc main_arg1)) k (y 1).val

/-- What the body adds at a point. -/
theorem step_apply (c : Dev nD) (t : Fin cfg0.N) (a : Vec Ideal S1024x1024 .f32) (y : S1024x1024.Idx) :
    (k0_pay2 a (iblk m c 0 t) (iblk m c 1 t) y : EReal)
      = a y + ∑ k : Fin 256, term m c (t.val / 11) (t.val % 11 * 256 + k.val) y := by
  unfold k0_pay2
  pointwise
  simp only [block_left, block_right]
  rfl

/-- What the body writes at a run's last point. -/
theorem end_apply (c : Dev nD) (t : Fin cfg0.N) (a : Vec Ideal S1024x1024 .f32) (y : S1024x1024.Idx) :
    (k0_pay3 a (iblk m c 2 t) y : EReal)
      = a y + cell (m ((c : Thread nD τ).loc main_arg2)) (t.val / 11 * 1024 + (y 0).val) (y 1).val := by
  unfold k0_pay3
  pointwise
  rw [block_added]

theorem start_apply (y : S1024x1024.Idx) : (k0_pay1 (F := Ideal) y : EReal) = 0 := by
  unfold k0_pay1
  pointwise

/-- After a run's last point the scratch holds the sum over the whole contracted axis. -/
theorem scratch_last (c : Dev nD) (n : ℕ) (h : n < cfg0.N) (hn : n % 11 + 1 = 11) (y : S1024x1024.Idx) :
    ((outsAt0 m c n h).2 y : EReal) = ∑ k : Fin 2816, term m c (n / 11) k.val y :=
  run_total 11 256 (fun n h y => ((outsAt0 m c n h).2 y : EReal)) (term m c)
    (fun n h y h0 => by
      show ((outsAt0 m c n h).2 y : EReal) = _
      rw [scratch_first m c ⟨n, h⟩ h0, step_apply, start_apply, zero_add])
    (fun n h y h0 => by
      show ((outsAt0 m c (n + 1) h).2 y : EReal) = _
      rw [scratch_next m c ⟨n + 1, h⟩ h0, step_apply]
      rfl)
    n h y hn

/-- The result array's entry: the added array's and the product's. -/
theorem result_apply (c : Dev nD) (i : S4096x1024.Idx) :
    (show EReal from G3 m c i) = entry (m ((c : Thread nD τ).loc main_arg0)) (m ((c : Thread nD τ).loc main_arg1)) (i 0).val (i 1).val
      + cell (m ((c : Thread nD τ).loc main_arg2)) (i 0).val (i 1).val := by
  have h0 : (i 0).val < 4096 := (i 0).isLt
  have h1 : (i 1).val < 1024 := (i 1).isLt
  have hp : pt3Of i = 11 * (1 * ((i 0).val / 1024) + (i 1).val / 1024) + 10 := by
    show 11 * (1 * ((i 0).val / 1024 - 0) + 1 * ((i 1).val / 1024 - 0)) + 10 = _
    omega
  have hN : cfg0.N = 44 := N_0
  have hlt : pt3Of i < cfg0.N := by omega
  unfold G3
  rw [dif_pos hlt, ← outsAt0_sweep m c _ hlt, out_last m c ⟨pt3Of i, hlt⟩ (by show pt3Of i % 11 = 10; omega), end_apply,
    scratch_last m c _ hlt (by omega)]
  have l0 : (loc3Of i 0).val = (i 0).val % 1024 := rfl
  have l1 : (loc3Of i 1).val = (i 1).val % 1024 := rfl
  have e0 : pt3Of i / 11 * 1024 + (i 0).val % 1024 = (i 0).val := by omega
  have e1 : (i 1).val % 1024 = (i 1).val := by omega
  show (∑ k : Fin 2816, term m c (pt3Of i / 11) k.val (loc3Of i)) + cell _ (pt3Of i / 11 * 1024 + (loc3Of i 0).val) (loc3Of i 1).val = _
  unfold term entry
  rw [l0, l1, e0, e1]

end AtIdeal

end Cert.Kernel16Ideal.Value

namespace Cert.Fwd

/-- The feed-forward layer's second product, with the residual added, is the plain one. -/
theorem down : algebraic_Kernel16Ideal_Reference16Ideal := by
  intro m g m' g' _ hagree
  refine ⟨fun c => Kernel16Ideal.Value.G3 m c, Kernel16Ideal.Value.run m g, ?_⟩
  refine (θ_run _ _ _).mono (fun r h c => ⟨(h c).1.trans ?_, (h c).2⟩) (Reference16Ideal.Value.run m' g')
  obtain ⟨e0, e1, e2⟩ := hagree c
  rw [e0, e1, e2]
  funext i
  refine Eq.trans ?_ (Kernel16Ideal.Value.result_apply m c i).symm
  pointwise
  rw [add_comm]
  exact congrArg₂ (· + ·)
    (entry_ix2 (m (c.tc.loc Kernel16Ideal.main_arg0)) (m (c.tc.loc Kernel16Ideal.main_arg1)) (i 0) (i 1)).symm
    (Cert.Ffn.cell_idx (m (c.tc.loc Kernel16Ideal.main_arg2)) i _ _ rfl rfl)

end Cert.Fwd

end
-- ==== Proof.Mix.AttnOutDw.lean ====
module

public import proofs.«01_k».proof.Defs
public import proofs.«01_k».proof.Proof.Ffn.Sums
public import proofs.«01_k».proof.Proof.Gen.Kernel17Ideal.Value
public import proofs.«01_k».proof.Proof.Gen.Reference17Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel17Ideal.Value

open Cert.Kernel17Ideal Cert.Kernel17Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-- At a run's first point the scratch is cleared and takes the first block product. -/
theorem scratch_first (c : Dev nD) (t : Fin cfg0.N) (h0 : t.val % 4 = 0) :
    (outsAt0 m c t.val t.isLt).2 = k0_pay2 (k0_pay1 (F := F)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz]

/-- At every other point it takes the point's block product on top of what it held. -/
theorem scratch_next (c : Dev nD) (t : Fin cfg0.N) (h0 : ¬ t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero hz]
    simp only [View.readAt_eq_ld, (hs0_0 t).read_unread, (hs0_1 t).read_unread, (Memref.isWhole_whole _).read_unread,
      View.ld_unit_zero (S := S1024x1024) hz]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero hz]
    simp only [View.readAt_eq_ld, (hs0_0 t).read_unread, (hs0_1 t).read_unread, (Memref.isWhole_whole _).read_unread,
      View.ld_unit_zero (S := S1024x1024) hz]

/-- At a run's last point the output block is the scratch. -/
theorem out_last (c : Dev nD) (t : Fin cfg0.N) (h1 : t.val % 4 = 3) :
    (outsAt0 m c t.val t.isLt).1 = (outsAt0 m c t.val t.isLt).2 := by
  rw [scratch_next m c t (by omega), outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero hz, View.readCov_unit_zero (S := S1024x1024) _ hz]
  simp only [View.readAt_eq_ld, (hs0_0 t).read_unread, (hs0_1 t).read_unread, (Memref.isWhole_whole _).read_unread,
    View.ld_unit_zero (S := S1024x1024) hz]

/-! ## Over the extended reals -/

section AtIdeal

variable (m : (ℓ : Loc nD τ sig) → Buf (Elt Ideal) ℓ)

/-- The grid's blocks: the rows of both operands go with the point. -/
theorem block_index : ∀ t : Fin cfg0.N, win0_0.index t 0 = t.val % 4 ∧ win0_0.index t 1 = 0
    ∧ win0_1.index t 0 = t.val % 4 ∧ win0_1.index t 1 = 0 :=
  (by decide +kernel : ∀ t : Fin grid0.N, _)

theorem block_left (c : Dev nD) (t : Fin cfg0.N) (j : S1024x1024.Idx) :
    (iblk m c 0 t : Vec Ideal S1024x1024 .f32) j
      = cell (m ((c : Thread nD τ).loc main_arg0)) (t.val % 4 * 1024 + (j 0).val) (0 * 1024 + (j 1).val) := by
  obtain ⟨e0, e1, -, -⟩ := block_index t
  unfold iblk
  rw [View.read_apply]
  refine cell_idx (m ((c : Thread nD τ).loc main_arg0)) _ _ _ ?_ ?_
  · show win0_0.index t 0 * 1024 + 1 * (j 0).val = _; rw [e0, Nat.one_mul]
  · show win0_0.index t 1 * 1024 + 1 * (j 1).val = _; rw [e1, Nat.one_mul]

theorem block_right (c : Dev nD) (t : Fin cfg0.N) (j : S1024x1024.Idx) :
    (iblk m c 1 t : Vec Ideal S1024x1024 .f32) j
      = cell (m ((c : Thread nD τ).loc main_arg2)) (t.val % 4 * 1024 + (j 0).val) (0 * 1024 + (j 1).val) := by
  obtain ⟨-, -, e0, e1⟩ := block_index t
  unfold iblk
  rw [View.read_apply]
  refine cell_idx (m ((c : Thread nD τ).loc main_arg2)) _ _ _ ?_ ?_
  · show win0_1.index t 0 * 1024 + 1 * (j 0).val = _; rw [e0, Nat.one_mul]
  · show win0_1.index t 1 * 1024 + 1 * (j 1).val = _; rw [e1, Nat.one_mul]

/-- One product of the sum that the points of run `r` make of an output entry. -/
def term (c : Dev nD) (r k : ℕ) (y : S1024x1024.Idx) : EReal :=
  cell (m ((c : Thread nD τ).loc main_arg0)) k (0 * 1024 + (y 0).val)
    * cell (m ((c : Thread nD τ).loc main_arg2)) k (0 * 1024 + (y 1).val)

/-- What the body adds at a point. -/
theorem step_apply (c : Dev nD) (t : Fin cfg0.N) (a : Vec Ideal S1024x1024 .f32) (y : S1024x1024.Idx) :
    (k0_pay2 a (iblk m c 0 t) (iblk m c 1 t) y : EReal)
      = a y + ∑ k : Fin 1024, term m c (t.val / 4) (t.val % 4 * 1024 + k.val) y := by
  unfold k0_pay2
  pointwise
  simp only [block_left, block_right]
  rfl

theorem start_apply (y : S1024x1024.Idx) : (k0_pay1 (F := Ideal) y : EReal) = 0 := by
  unfold k0_pay1
  pointwise

/-- After a run's last point the scratch holds the sum over the whole contracted axis. -/
theorem scratch_last (c : Dev nD) (n : ℕ) (h : n < cfg0.N) (hn : n % 4 + 1 = 4) (y : S1024x1024.Idx) :
    ((outsAt0 m c n h).2 y : EReal) = ∑ k : Fin 4096, term m c (n / 4) k.val y :=
  run_total 4 1024 (fun n h y => ((outsAt0 m c n h).2 y : EReal)) (term m c)
    (fun n h y h0 => by
      show ((outsAt0 m c n h).2 y : EReal) = _
      rw [scratch_first m c ⟨n, h⟩ h0, step_apply, start_apply, zero_add])
    (fun n h y h0 => by
      show ((outsAt0 m c (n + 1) h).2 y : EReal) = _
      rw [scratch_next m c ⟨n + 1, h⟩ h0, step_apply]
      rfl)
    n h y hn

/-- The result array's entry: the whole contracted axis. -/
theorem result_apply (c : Dev nD) (i : S1024x1024.Idx) :
    (show EReal from G2 m c i) = ∑ k : Fin 4096, cell (m ((c : Thread nD τ).loc main_arg0)) k.val (i 0).val
      * cell (m ((c : Thread nD τ).loc main_arg2)) k.val (i 1).val := by
  have h0 : (i 0).val < 1024 := (i 0).isLt
  have h1 : (i 1).val < 1024 := (i 1).isLt
  have hp : pt2Of i = 4 * (1 * ((i 0).val / 1024) + (i 1).val / 1024) + 3 := by
    show 4 * (1 * ((i 0).val / 1024 - 0) + 1 * ((i 1).val / 1024 - 0)) + 3 = _
    omega
  have hN : cfg0.N = 4 := N_0
  have hlt : pt2Of i < cfg0.N := by omega
  unfold G2
  rw [dif_pos hlt, ← outsAt0_sweep m c _ hlt, out_last m c ⟨pt2Of i, hlt⟩ (by show pt2Of i % 4 = 3; omega),
    scratch_last m c _ hlt (by omega)]
  refine Finset.sum_congr rfl fun k _ => ?_
  unfold term
  have l0 : (loc2Of i 0).val = (i 0).val % 1024 := rfl
  have l1 : (loc2Of i 1).val = (i 1).val % 1024 := rfl
  rw [l0, l1, show 0 * 1024 + (i 0).val % 1024 = (i 0).val by omega,
    show 0 * 1024 + (i 1).val % 1024 = (i 1).val by omega]

end AtIdeal

end Cert.Kernel17Ideal.Value

namespace Cert.Ffn

/-- The gradient of the attention mixers' output product with respect to its weights is the plain gradient. -/
theorem attn_out_dw : algebraic_Kernel17Ideal_Reference17Ideal := by
  intro m g m' g' _ hagree
  refine ⟨fun c => Kernel17Ideal.Value.G2 m c, Kernel17Ideal.Value.run m g, ?_⟩
  refine (θ_run _ _ _).mono (fun r h c => ⟨(h c).1.trans ?_, (h c).2⟩) (Reference17Ideal.Value.run m' g')
  obtain ⟨e0, -, e2⟩ := hagree c
  rw [e0, e2]
  funext i
  refine Eq.trans ?_ (Kernel17Ideal.Value.result_apply m c i).symm
  pointwise
  refine Finset.sum_congr rfl fun k _ => ?_
  exact (mul_comm _ _).trans (congrArg₂ (· * ·) (cell_ix2 (m (c.tc.loc Kernel17Ideal.main_arg0)) k (i 0)).symm
    (cell_ix2 (m (c.tc.loc Kernel17Ideal.main_arg2)) k (i 1)).symm)

end Cert.Ffn

end
-- ==== Proof.Fwd.DnIn.lean ====
module

public import proofs.«01_k».proof.Defs
public import proofs.«01_k».proof.Proof.Fwd.Product
public import proofs.«01_k».proof.Proof.Gen.Kernel18Ideal.Value
public import proofs.«01_k».proof.Proof.Gen.Reference18Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel18Ideal.Value

open Cert.Kernel18Ideal Cert.Kernel18Ideal.Gen Cert.Ffn Cert.Fwd

variable {F : FTy → Type} [FloatOps F]
variable (m : (ℓ : Loc nD τ sig) → Buf (Elt F) ℓ)

theorem hz : (![0, 0] : Fin 2 → Nat) = fun _ => 0 := funext fun a => by fin_cases a <;> rfl

/-- A point's output block: the block product on a cleared scratch. -/
theorem out_eq (c : Dev nD) (t : Fin cfg0.N) :
    outsAt0 m c t = k0_pay2 (k0_pay1 (F := F)) (iblk m c 0 t) (iblk m c 1 t) := by
  unfold outsAt0 out0_A_2
  rw [View.read_writes_eq_canon _ _ _ (fun y => cover0_A_2 (y := y) ..)]
  unfold kernelRun0_A
  dsimp only
  sl_unfold_words
  rw [View.canon_unit_zero hz]
  simp only [View.readCov_unit_zero (S := S1024x1408) _ hz, View.readAt_eq_ld, (hs0_0 t).read_unread, (hs0_1 t).read_unread,
    View.ld_unit_zero (S := S1024x1024) hz, View.ld_unit_zero (S := S1024x1408) hz]
  exact View.readCov_cons_toLoadRect ..

/-! ## Over the extended reals -/

section AtIdeal

variable (m : (ℓ : Loc nD τ sig) → Buf (Elt Ideal) ℓ)

/-- The grid's blocks: the rows of the left operand go with the output's rows, the columns of the right one with its columns. -/
theorem block_index : ∀ t : Fin cfg0.N, win0_0.index t 0 = t.val / 3 ∧ win0_0.index t 1 = 0
    ∧ win0_1.index t 0 = 0 ∧ win0_1.index t 1 = t.val % 3 ∧ win0_2.index t 0 = t.val / 3 ∧ win0_2.index t 1 = t.val % 3 :=
  (by decide +kernel : ∀ t : Fin grid0.N, _)

theorem block_left (c : Dev nD) (t : Fin cfg0.N) (j : S1024x1024.Idx) :
    (iblk m c 0 t : Vec Ideal S1024x1024 .bf16) j
      = cell (m ((c : Thread nD τ).loc main_arg0)) (t.val / 3 * 1024 + (j 0).val) (j 1).val := by
  obtain ⟨e0, e1, -⟩ := block_index t
  unfold iblk
  rw [View.read_apply]
  refine cell_idx (m ((c : Thread nD τ).loc main_arg0)) _ _ _ ?_ ?_
  · show win0_0.index t 0 * 1024 + 1 * (j 0).val = _; rw [e0, Nat.one_mul]
  · show win0_0.index t 1 * 1024 + 1 * (j 1).val = _; rw [e1]; omega

theorem block_right (c : Dev nD) (t : Fin cfg0.N) (j : S1024x1408.Idx) :
    (iblk m c 1 t : Vec Ideal S1024x1408 .bf16) j
      = cell (m ((c : Thread nD τ).loc main_arg1)) (j 0).val (t.val % 3 * 1408 + (j 1).val) := by
  obtain ⟨-, -, e0, e1, -⟩ := block_index t
  unfold iblk
  rw [View.read_apply]
  refine cell_idx (m ((c : Thread nD τ).loc main_arg1)) _ _ _ ?_ ?_
  · show win0_1.index t 0 * 1024 + 1 * (j 0).val = _; rw [e0]; omega
  · show win0_1.index t 1 * 1408 + 1 * (j 1).val = _; rw [e1, Nat.one_mul]

/-- The result array: the product of the two arguments. -/
def result (c : Dev nD) : Buf (Elt Ideal) ((c : Thread nD τ).loc main_v0) := fun i =>
  show EReal from entry (m ((c : Thread nD τ).loc main_arg0)) (m ((c : Thread nD τ).loc main_arg1)) (i 0).val (i 1).val

theorem out_apply (c : Dev nD) (t : Fin cfg0.N) (y : S1024x1408.Idx) :
    (outsAt0 m c t y : EReal) = entry (m ((c : Thread nD τ).loc main_arg0)) (m ((c : Thread nD τ).loc main_arg1))
      (t.val / 3 * 1024 + (y 0).val) (t.val % 3 * 1408 + (y 1).val) := by
  rw [out_eq]
  unfold k0_pay2 k0_pay1
  pointwise
  simp only [block_left, block_right]
  rfl

/-- A point writes back its block of the result. -/
theorem flushed_eq (c : Dev nD) (t : Fin cfg0.N) :
    (dats m 0 c).flushed 2 t = ((cfg0.win 2).blk t).view.read (Elt Ideal) (result m c) := by
  rw [flushed2]
  obtain ⟨-, -, -, -, e0, e1⟩ := block_index t
  funext y
  refine (out_apply m c t _).trans ?_
  rw [View.read_apply]
  unfold result
  have h0 : (((cfg0.win 2).blk t).view.emb y 0).val = t.val / 3 * 1024 + (y 0).val := by
    show win0_2.index t 0 * 1024 + 1 * (y 0).val = _; rw [e0, Nat.one_mul]
  have h1 : (((cfg0.win 2).blk t).view.emb y 1).val = t.val % 3 * 1408 + (y 1).val := by
    show win0_2.index t 1 * 1408 + 1 * (y 1).val = _; rw [e1, Nat.one_mul]
  rw [h0, h1]
  rfl

/-- The blocks fill the result array. -/
theorem final_result (c : Dev nD) : (dats m 0 c).arrAt 2 cfg0.N = result m c :=
  (dats m 0 c).arrAt_eq_of_cover 2 (result m c) (fun t _ => flushed_eq m c t) fun i => by
    have h0 : (i 0).val < 4096 := (i 0).isLt
    have h1 : (i 1).val < 4224 := (i 1).isLt
    have hN : cfg0.N = 12 := N_0
    obtain ⟨t, ht⟩ : ∃ t : Fin cfg0.N, t.val = 3 * ((i 0).val / 1024) + (i 1).val / 1408 := ⟨⟨_, by omega⟩, rfl⟩
    obtain ⟨-, -, -, -, e0, e1⟩ := block_index t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 1408 ≤ (i 1).val ∧ (i 1).val < win0_2.index t 1 * 1408 + 1408; omega

end AtIdeal

end Cert.Kernel18Ideal.Value

namespace Cert.Fwd

/-- The recurrent mixer's input product is the plain product. -/
theorem dn_in : algebraic_Kernel18Ideal_Reference18Ideal := by
  intro m g m' g' _ hagree
  refine ⟨fun c => Kernel18Ideal.Value.result m c, (θ_run _ _ _).mono
    (fun r h c => ⟨(h c).1.trans (Kernel18Ideal.Value.final_result m c), (h c).2⟩) (Kernel18Ideal.Value.run_blocks m g), ?_⟩
  refine (θ_run _ _ _).mono (fun r h c => ⟨(h c).1.trans ?_, (h c).2⟩) (Reference18Ideal.Value.run m' g')
  obtain ⟨e0, e1⟩ := hagree c
  rw [e0, e1]
  funext i
  unfold Kernel18Ideal.Value.result
  pointwise
  exact (entry_ix2 (m (c.tc.loc Kernel18Ideal.main_arg0)) (m (c.tc.loc Kernel18Ideal.main_arg1)) (i 0) (i 1)).symm

end Cert.Fwd

end
-- ==== Proof.Fwd.Qkv.lean ====
module

public import proofs.«01_k».proof.Defs
public import proofs.«01_k».proof.Proof.Fwd.Product
public import proofs.«01_k».proof.Proof.Gen.Kernel19Ideal.Value
public import proofs.«01_k».proof.Proof.Gen.Reference19Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel19Ideal.Value

open Cert.Kernel19Ideal Cert.Kernel19Ideal.Gen Cert.Ffn Cert.Fwd

variable {F : FTy → Type} [FloatOps F]
variable (m : (ℓ : Loc nD τ sig) → Buf (Elt F) ℓ)

theorem hz : (![0, 0] : Fin 2 → Nat) = fun _ => 0 := funext fun a => by fin_cases a <;> rfl

/-- A point's output block: the block product on a cleared scratch. -/
theorem out_eq (c : Dev nD) (t : Fin cfg0.N) :
    outsAt0 m c t = k0_pay2 (k0_pay1 (F := F)) (iblk m c 0 t) (iblk m c 1 t) := by
  unfold outsAt0 out0_A_2
  rw [View.read_writes_eq_canon _ _ _ (fun y => cover0_A_2 (y := y) ..)]
  unfold kernelRun0_A
  dsimp only
  sl_unfold_words
  rw [View.canon_unit_zero hz]
  simp only [View.readCov_unit_zero (S := S1024x1024) _ hz, View.readAt_eq_ld, (hs0_0 t).read_unread, (hs0_1 t).read_unread,
    View.ld_unit_zero (S := S1024x1024) hz]
  exact View.readCov_cons_toLoadRect ..

/-! ## Over the extended reals -/

section AtIdeal

variable (m : (ℓ : Loc nD τ sig) → Buf (Elt Ideal) ℓ)

/-- The grid's blocks: the rows of the left operand go with the output's rows, the columns of the right one with its columns. -/
theorem block_index : ∀ t : Fin cfg0.N, win0_0.index t 0 = t.val / 3 ∧ win0_0.index t 1 = 0
    ∧ win0_1.index t 0 = 0 ∧ win0_1.index t 1 = t.val % 3 ∧ win0_2.index t 0 = t.val / 3 ∧ win0_2.index t 1 = t.val % 3 :=
  (by decide +kernel : ∀ t : Fin grid0.N, _)

theorem block_left (c : Dev nD) (t : Fin cfg0.N) (j : S1024x1024.Idx) :
    (iblk m c 0 t : Vec Ideal S1024x1024 .bf16) j
      = cell (m ((c : Thread nD τ).loc main_arg0)) (t.val / 3 * 1024 + (j 0).val) (j 1).val := by
  obtain ⟨e0, e1, -⟩ := block_index t
  unfold iblk
  rw [View.read_apply]
  refine cell_idx (m ((c : Thread nD τ).loc main_arg0)) _ _ _ ?_ ?_
  · show win0_0.index t 0 * 1024 + 1 * (j 0).val = _; rw [e0, Nat.one_mul]
  · show win0_0.index t 1 * 1024 + 1 * (j 1).val = _; rw [e1]; omega

theorem block_right (c : Dev nD) (t : Fin cfg0.N) (j : S1024x1024.Idx) :
    (iblk m c 1 t : Vec Ideal S1024x1024 .bf16) j
      = cell (m ((c : Thread nD τ).loc main_arg1)) (j 0).val (t.val % 3 * 1024 + (j 1).val) := by
  obtain ⟨-, -, e0, e1, -⟩ := block_index t
  unfold iblk
  rw [View.read_apply]
  refine cell_idx (m ((c : Thread nD τ).loc main_arg1)) _ _ _ ?_ ?_
  · show win0_1.index t 0 * 1024 + 1 * (j 0).val = _; rw [e0]; omega
  · show win0_1.index t 1 * 1024 + 1 * (j 1).val = _; rw [e1, Nat.one_mul]

/-- The result array: the product of the two arguments. -/
def result (c : Dev nD) : Buf (Elt Ideal) ((c : Thread nD τ).loc main_v0) := fun i =>
  show EReal from entry (m ((c : Thread nD τ).loc main_arg0)) (m ((c : Thread nD τ).loc main_arg1)) (i 0).val (i 1).val

theorem out_apply (c : Dev nD) (t : Fin cfg0.N) (y : S1024x1024.Idx) :
    (outsAt0 m c t y : EReal) = entry (m ((c : Thread nD τ).loc main_arg0)) (m ((c : Thread nD τ).loc main_arg1))
      (t.val / 3 * 1024 + (y 0).val) (t.val % 3 * 1024 + (y 1).val) := by
  rw [out_eq]
  unfold k0_pay2 k0_pay1
  pointwise
  simp only [block_left, block_right]
  rfl

/-- A point writes back its block of the result. -/
theorem flushed_eq (c : Dev nD) (t : Fin cfg0.N) :
    (dats m 0 c).flushed 2 t = ((cfg0.win 2).blk t).view.read (Elt Ideal) (result m c) := by
  rw [flushed2]
  obtain ⟨-, -, -, -, e0, e1⟩ := block_index t
  funext y
  refine (out_apply m c t _).trans ?_
  rw [View.read_apply]
  unfold result
  have h0 : (((cfg0.win 2).blk t).view.emb y 0).val = t.val / 3 * 1024 + (y 0).val := by
    show win0_2.index t 0 * 1024 + 1 * (y 0).val = _; rw [e0, Nat.one_mul]
  have h1 : (((cfg0.win 2).blk t).view.emb y 1).val = t.val % 3 * 1024 + (y 1).val := by
    show win0_2.index t 1 * 1024 + 1 * (y 1).val = _; rw [e1, Nat.one_mul]
  rw [h0, h1]
  rfl

/-- The blocks fill the result array. -/
theorem final_result (c : Dev nD) : (dats m 0 c).arrAt 2 cfg0.N = result m c :=
  (dats m 0 c).arrAt_eq_of_cover 2 (result m c) (fun t _ => flushed_eq m c t) fun i => by
    have h0 : (i 0).val < 4096 := (i 0).isLt
    have h1 : (i 1).val < 3072 := (i 1).isLt
    have hN : cfg0.N = 12 := N_0
    obtain ⟨t, ht⟩ : ∃ t : Fin cfg0.N, t.val = 3 * ((i 0).val / 1024) + (i 1).val / 1024 := ⟨⟨_, by omega⟩, rfl⟩
    obtain ⟨-, -, -, -, e0, e1⟩ := block_index t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 1024 ≤ (i 1).val ∧ (i 1).val < win0_2.index t 1 * 1024 + 1024; omega

end AtIdeal

end Cert.Kernel19Ideal.Value

namespace Cert.Fwd

/-- The stick-breaking mixer's query, key and value product is the plain product. -/
theorem qkv : algebraic_Kernel19Ideal_Reference19Ideal := by
  intro m g m' g' _ hagree
  refine ⟨fun c => Kernel19Ideal.Value.result m c, (θ_run _ _ _).mono
    (fun r h c => ⟨(h c).1.trans (Kernel19Ideal.Value.final_result m c), (h c).2⟩) (Kernel19Ideal.Value.run_blocks m g), ?_⟩
  refine (θ_run _ _ _).mono (fun r h c => ⟨(h c).1.trans ?_, (h c).2⟩) (Reference19Ideal.Value.run m' g')
  obtain ⟨e0, e1⟩ := hagree c
  rw [e0, e1]
  funext i
  unfold Kernel19Ideal.Value.result
  pointwise
  exact (entry_ix2 (m (c.tc.loc Kernel19Ideal.main_arg0)) (m (c.tc.loc Kernel19Ideal.main_arg1)) (i 0) (i 1)).symm

end Cert.Fwd

end
-- ==== Proof.Fwd.Norm.lean ====
module

public import proofs.«01_k».proof.Defs
public import proofs.«01_k».proof.Proof.Gate.Norm
public import proofs.«01_k».proof.Proof.Gen.Kernel20Ideal.Value
public import proofs.«01_k».proof.Proof.Gen.Reference20Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel20Ideal.Value

open Cert.Kernel20Ideal Cert.Kernel20Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-! ## Over the extended reals -/

section AtIdeal

variable (m : (ℓ : Loc nD τ sig) → Buf (Elt Ideal) ℓ)

/-- The grid's blocks: each point has its rows of the input and of the result, and the whole gain. -/
theorem block_index : ∀ t : Fin cfg0.N, win0_0.index t 0 = t.val ∧ win0_0.index t 1 = 0
    ∧ win0_1.index t 0 = 0 ∧ win0_1.index t 1 = 0 ∧ win0_2.index t 0 = t.val ∧ win0_2.index t 1 = 0 :=
  (by decide +kernel : ∀ t : Fin grid0.N, _)

theorem block_x (c : Dev nD) (t : Fin cfg0.N) (j : S256x1024.Idx) :
    (iblk m c 0 t : Vec Ideal S256x1024 .f32) j = cell (m ((c : Thread nD τ).loc main_arg0)) (t.val * 256 + (j 0).val) (j 1).val := by
  obtain ⟨e0, e1, -⟩ := block_index t
  unfold iblk
  rw [View.read_apply]
  refine cell_idx (m ((c : Thread nD τ).loc main_arg0)) _ _ _ ?_ ?_
  · show win0_0.index t 0 * 256 + 1 * (j 0).val = _; rw [e0, Nat.one_mul]
  · show win0_0.index t 1 * 1024 + 1 * (j 1).val = _; rw [e1]; omega

theorem block_gain (c : Dev nD) (t : Fin cfg0.N) (j : S1x1024.Idx) :
    (iblk m c 1 t : Vec Ideal S1x1024 .f32) j = cell (m ((c : Thread nD τ).loc main_arg1)) (j 0).val (j 1).val := by
  obtain ⟨-, -, e0, e1, -⟩ := block_index t
  unfold iblk
  rw [View.read_apply]
  refine cell_idx (m ((c : Thread nD τ).loc main_arg1)) _ _ _ ?_ ?_
  · show win0_1.index t 0 * 1 + 1 * (j 0).val = _; rw [e0]; omega
  · show win0_1.index t 1 * 1024 + 1 * (j 1).val = _; rw [e1]; omega

/-- One row of the norm: `x` the row, `g` the gain. -/
def normRow (x g : Fin 1024 → EReal) (j : Fin 1024) : EReal := x j * Ideal.rsqrt (meanSq x) * g j

/-- The result array: the norm of each row. -/
def result (c : Dev nD) : Buf (Elt Ideal) ((c : Thread nD τ).loc main_v0) := fun i =>
  show EReal from normRow (row (m ((c : Thread nD τ).loc main_arg0)) (i 0).val) (row (m ((c : Thread nD τ).loc main_arg1)) 0) (i 1)

theorem out_apply (c : Dev nD) (t : Fin cfg0.N) (y : S256x1024.Idx) :
    (out0_2 (iblk m c 0 t) (iblk m c 1 t) y : EReal)
      = normRow (row (m ((c : Thread nD τ).loc main_arg0)) (t.val * 256 + (y 0).val))
          (row (m ((c : Thread nD τ).loc main_arg1)) 0) (y 1) := by
  unfold out0_2
  rw [View.canon_unit_zero hz]
  simp only [View.ld_unit_zero (S := S256x1024) hz, View.ld_unit_zero (S := S1x1024) hz]
  unfold k0_pay1
  pointwise
  simp only [block_x, block_gain]
  rfl

/-- A point writes back its rows of the result. -/
theorem flushed_eq (c : Dev nD) (t : Fin cfg0.N) :
    (dats m 0 c).flushed 2 t = ((cfg0.win 2).blk t).view.read (Elt Ideal) (result m c) := by
  rw [flushed2]
  obtain ⟨-, -, -, -, e0, e1⟩ := block_index t
  funext y
  refine (out_apply m c t _).trans ?_
  rw [View.read_apply]
  unfold result
  have h0 : (((cfg0.win 2).blk t).view.emb y 0).val = t.val * 256 + (y 0).val := by
    show win0_2.index t 0 * 256 + 1 * (y 0).val = _; rw [e0, Nat.one_mul]
  have h1 : ((cfg0.win 2).blk t).view.emb y 1 = y 1 := Fin.ext (by
    show win0_2.index t 1 * 1024 + 1 * (y 1).val = _; rw [e1]; omega)
  rw [h0, h1]
  rfl

/-- The rows of all points make up the array. -/
theorem final_result (c : Dev nD) : (dats m 0 c).arrAt 2 cfg0.N = result m c :=
  (dats m 0 c).arrAt_eq_of_cover 2 (result m c) (fun t _ => flushed_eq m c t) fun i => by
    have h0 : (i 0).val < 4096 := (i 0).isLt
    have h1 : (i 1).val < 1024 := (i 1).isLt
    have hN : cfg0.N = 16 := N_0
    obtain ⟨t, ht⟩ : ∃ t : Fin cfg0.N, t.val = (i 0).val / 256 := ⟨⟨_, by omega⟩, rfl⟩
    obtain ⟨-, -, -, -, e0, e1⟩ := block_index t
    refine ⟨t, flush0_2 t, ?_⟩
    show i ∈ ((View.whole main_v0).slice (win0_2.rect t)).set
    rw [View.set_slice_whole, Rect.mem_set_unit]
    intro a
    match a with
    | ⟨0, _⟩ => show win0_2.index t 0 * 256 ≤ (i 0).val ∧ (i 0).val < win0_2.index t 0 * 256 + 256; omega
    | ⟨1, _⟩ => show win0_2.index t 1 * 1024 ≤ (i 1).val ∧ (i 1).val < win0_2.index t 1 * 1024 + 1024; omega

end AtIdeal

end Cert.Kernel20Ideal.Value

namespace Cert.Fwd

open Cert.Ffn

section Plain

open Cert.Reference20Ideal Cert.Reference20Ideal.Gen

variable (X : FVec Ideal S4096x1024 .f32) (G : FVec Ideal S1x1024 .f32)

/-- The plain norm's mean square, with the small constant under the root. -/
def plainSq : FVec Ideal S4096x1 .f32 :=
  addf (Host.divf (broadcastInDim S4096x1 ![0] bcast_S4096_S4096x1_0 (Host.reduceAdd (mulf X X) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32))

/-- The plain norm. -/
def plainNorm : FVec Ideal S4096x1024 .bf16 :=
  truncf .bf16 (mulf (mulf X (broadcastInDim S4096x1024 ![0, 1] bcast_S4096x1_S4096x1024_0_1 (Host.rsqrt (plainSq X))))
    (broadcastInDim S4096x1024 ![0, 1] bcast_S1x1024_S4096x1024_0_1 G)) bitsLt_bf16_f32

theorem plainSq_apply (r : Fin 4096) (z : Fin 1) : (plainSq X (Idealize.ShloMosaic.ix2 r z) : EReal) = meanSq (row X r.val) := by
  unfold plainSq
  pointwise
  rw [div_1024]
  exact congrArg (· * _ + _) (Finset.sum_congr rfl fun k _ => congrArg₂ (· * ·) (row_ix X r k) (row_ix X r k))

theorem plainNorm_apply (i : S4096x1024.Idx) :
    (plainNorm X G i : EReal) = Kernel20Ideal.Value.normRow (row X (i 0).val) (row G 0) (i 1) := by
  have hX : X i = row X (i 0).val (i 1) := Cert.Ffn.cell_idx X i _ _ rfl rfl
  have hG : G (Idealize.ShloMosaic.ix2 0 (i 1)) = row G 0 (i 1) := row_ix G 0 (i 1)
  unfold plainNorm
  pointwise
  unfold Kernel20Ideal.Value.normRow
  rw [hX, hG]
  exact congrArg (· * _) (congrArg (_ * ·) (congrArg Ideal.rsqrt (plainSq_apply X (i 0) 0)))

end Plain

/-- The root mean square norm is the plain norm. -/
theorem norm : algebraic_Kernel20Ideal_Reference20Ideal := by
  intro m g m' g' _ hagree
  refine ⟨fun c => Kernel20Ideal.Value.result m c, (θ_run _ _ _).mono
    (fun r h c => ⟨(h c).1.trans (Kernel20Ideal.Value.final_result m c), (h c).2⟩) (Kernel20Ideal.Value.run_blocks m g), ?_⟩
  refine (θ_run _ _ _).mono (fun r h c => ⟨(h c).1.trans ?_, (h c).2⟩) (Reference20Ideal.Value.run m' g')
  obtain ⟨e0, e1⟩ := hagree c
  rw [e0, e1]
  exact funext fun i => plainNorm_apply (m (c.tc.loc Kernel20Ideal.main_arg0)) (m (c.tc.loc Kernel20Ideal.main_arg1)) i

end Cert.Fwd

end
-- ==== Proof.Fwd.Act.lean ====
module

public import proofs.«01_k».proof.Defs
public import proofs.«01_k».proof.Proof.Ffn.Sums
public import proofs.«01_k».proof.Proof.Gen.Kernel21Ideal.Value
public import proofs.«01_k».proof.Proof.Gen.Reference21Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel21Ideal.Value

open Cert.Kernel21Ideal Cert.Kernel21Ideal.Gen Cert.Ffn

variable {F : FTy → Type} [FloatOps F]
variable (m : (ℓ : Loc nD τ sig) → Buf (Elt F) ℓ)

theorem hz : (![0, 0] : Fin 2 → Nat) = fun _ => 0 := funext fun a => by fin_cases a <;> rfl

/-! ## Over the extended reals -/

section AtIdeal

variable (m : (ℓ : Loc nD τ sig) → Buf (Elt Ideal) ℓ)

/-- The grid's blocks: each point has its rows of both arrays. -/
theorem block_index : ∀ t : Fin cfg0.N, win0_0.index t 0 = t.val ∧ win0_0.index t 1 = 0
    ∧ win0_1.index t 0 = t.val ∧ win0_1.index t 1 = 0 :=
  (by decide +kernel : ∀ t : Fin grid0.N, _)

theorem block_gu (c : Dev nD) (t : Fin cfg0.N) (j : S128x5632.Idx) :
    (iblk m c 0 t : Vec Ideal S128x5632 .f32) j = cell (m ((c : Thread nD τ).loc main_arg0)) (t.val * 128 + (j 0).val) (j 1).val := by
  obtain ⟨e0, e1, -⟩ := block_index t
  unfold iblk
  rw [View.read_apply]
  refine cell_idx (m ((c : Thread nD τ).loc main_arg0)) _ _ _ ?_ ?_
  · show win0_0.index t 0 * 128 + 1 * (j 0).val = _; rw [e0, Nat.one_mul]
  · show win0_0.index t 1 * 5632 + 1 * (j 1).val = _; rw [e1]; omega

/-- The gated product's entry at row `r` and column `s`: the gate's half through `x ↦ x * logistic x`, times the up half. -/
def gatedAt (gu : S4096x5632.Idx → EReal) (r : ℕ) (s : Fin 2816) : EReal :=
  cell gu r s.val * FloatOps.logistic (F := Ideal) (φ := .f32) (cell gu r s.val) * cell gu r (2816 + s.val)

/-- The gated product. -/
def result (c : Dev nD) : Buf (Elt Ideal) ((c : Thread nD τ).loc main_v0) := fun i =>
  show EReal from gatedAt (m ((c : Thread nD τ).loc main_arg0)) (i 0).val (i 1)

theorem out_apply (c : Dev nD) (t : Fin cfg0.N) (y : S128x2816.Idx) :
    (out0_1 (iblk m c 0 t) y : EReal) = gatedAt (m ((c : Thread nD τ).loc main_arg0)) (t.val * 128 + (y 0).val) (y 1) := by
  unfold out0_1
  rw [View.canon_unit_zero hz]
  simp only [View.ld_unit_zero (S := S128x5632) hz]
  unfold k0_pay1
  pointwise
  simp only [block_gu]
  rfl

/-- A point writes back its rows of the result. -/
theorem flushed_eq (c : Dev nD) (t : Fin cfg0.N) :
    (dats m 0 c).flushed 1 t = ((cfg0.win 1).blk t).view.read (Elt Ideal) (result m c) := by
  rw [flushed1]
  obtain ⟨-, -, e0, e1⟩ := block_index t
  funext y
  refine (out_apply m c t _).trans ?_
  rw [View.read_apply]
  unfold result
  have h0 : (((cfg0.win 1).blk t).view.emb y 0).val = t.val * 128 + (y 0).val := by
    show win0_1.index t 0 * 128 + 1 * (y 0).val = _; rw [e0, Nat.one_mul]
  have h1 : ((cfg0.win 1).blk t).view.emb y 1 = y 1 := Fin.ext (by
    show win0_1.index t 1 * 2816 + 1 * (y 1).val = _; rw [e1]; omega)
  rw [h0, h1]
  rfl

/-- The rows of all points make up the array. -/
theorem final_result (c : Dev nD) : (dats m 0 c).arrAt 1 cfg0.N = result m c :=
  (dats m 0 c).arrAt_eq_of_cover 1 (result m c) (fun t _ => flushed_eq m c t) fun i => by
    have h0 : (i 0).val < 4096 := (i 0).isLt
    have h1 : (i 1).val < 2816 := (i 1).isLt
    have hN : cfg0.N = 32 := N_0
    obtain ⟨t, ht⟩ : ∃ t : Fin cfg0.N, t.val = (i 0).val / 128 := ⟨⟨_, by omega⟩, rfl⟩
    obtain ⟨-, -, e0, e1⟩ := block_index t
    refine ⟨t, flush0_1 t, ?_⟩
    show i ∈ ((View.whole main_v0).slice (win0_1.rect t)).set
    rw [View.set_slice_whole, Rect.mem_set_unit]
    intro a
    match a with
    | ⟨0, _⟩ => show win0_1.index t 0 * 128 ≤ (i 0).val ∧ (i 0).val < win0_1.index t 0 * 128 + 128; omega
    | ⟨1, _⟩ => show win0_1.index t 1 * 2816 ≤ (i 1).val ∧ (i 1).val < win0_1.index t 1 * 2816 + 2816; omega

end AtIdeal

end Cert.Kernel21Ideal.Value

namespace Cert.Fwd

/-- The gated product is the plain one. -/
theorem act : algebraic_Kernel21Ideal_Reference21Ideal := by
  intro m g m' g' _ hagree
  refine ⟨fun c => Kernel21Ideal.Value.result m c, (θ_run _ _ _).mono
    (fun r h c => ⟨(h c).1.trans (Kernel21Ideal.Value.final_result m c), (h c).2⟩) (Kernel21Ideal.Value.run_blocks m g), ?_⟩
  refine (θ_run _ _ _).mono (fun r h c => ⟨(h c).1.trans ?_, (h c).2⟩) (Reference21Ideal.Value.run m' g')
  obtain e0 := hagree c
  rw [e0]
  funext i
  unfold Kernel21Ideal.Value.result Kernel21Ideal.Value.gatedAt
  pointwise
  rw [Cert.Ffn.cell_ix2 (m (c.tc.loc Kernel21Ideal.main_arg0)) (i 0) ⟨(i 1).val, _⟩,
    Cert.Ffn.cell_ix2 (m (c.tc.loc Kernel21Ideal.main_arg0)) (i 0) ⟨2816 + (i 1).val, _⟩]
  rfl

end Cert.Fwd

end
-- ==== Proof.Fwd.DnOut.lean ====
module

public import proofs.«01_k».proof.Defs
public import proofs.«01_k».proof.Proof.Fwd.Product
public import proofs.«01_k».proof.Proof.Gen.Kernel22Ideal.Value
public import proofs.«01_k».proof.Proof.Gen.Reference22Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel22Ideal.Value

open Cert.Kernel22Ideal Cert.Kernel22Ideal.Gen Cert.Ffn Cert.Fwd

variable {F : FTy → Type} [FloatOps F]
variable (m : (ℓ : Loc nD τ sig) → Buf (Elt F) ℓ)

theorem hz : (![0, 0] : Fin 2 → Nat) = fun _ => 0 := funext fun a => by fin_cases a <;> rfl

/-- A point's output block: the block product on a cleared scratch, with the point's block of the added array. -/
theorem out_eq (c : Dev nD) (t : Fin cfg0.N) :
    outsAt0 m c t = k0_pay3 (k0_pay2 (k0_pay1 (F := F)) (iblk m c 0 t) (iblk m c 1 t)) (iblk m c 2 t) := by
  unfold outsAt0 out0_A_3
  rw [View.read_writes_eq_canon _ _ _ (fun y => cover0_A_3 (y := y) ..)]
  unfold kernelRun0_A
  dsimp only
  sl_unfold_words
  rw [View.canon_unit_zero hz, View.readCov_cons_toLoadRect]
  simp only [View.readCov_unit_zero (S := S1024x1024) _ hz, View.readAt_eq_ld, (hs0_0 t).read_unread, (hs0_1 t).read_unread,
    (hs0_2 t).read_unread, View.ld_unit_zero (S := S1024x1024) hz]

/-! ## Over the extended reals -/

section AtIdeal

variable (m : (ℓ : Loc nD τ sig) → Buf (Elt Ideal) ℓ)

/-- The grid's blocks: each point has its rows of the left operand, of the added array and of the output, and the whole
    right operand. -/
theorem block_index : ∀ t : Fin cfg0.N, win0_0.index t 0 = t.val ∧ win0_0.index t 1 = 0
    ∧ win0_1.index t 0 = 0 ∧ win0_1.index t 1 = 0 ∧ win0_2.index t 0 = t.val ∧ win0_2.index t 1 = 0
    ∧ win0_3.index t 0 = t.val ∧ win0_3.index t 1 = 0 :=
  (by decide +kernel : ∀ t : Fin grid0.N, _)

theorem block_left (c : Dev nD) (t : Fin cfg0.N) (j : S1024x1024.Idx) :
    (iblk m c 0 t : Vec Ideal S1024x1024 .bf16) j = cell (m ((c : Thread nD τ).loc main_arg0)) (t.val * 1024 + (j 0).val) (j 1).val := by
  obtain ⟨e0, e1, -⟩ := block_index t
  unfold iblk
  rw [View.read_apply]
  refine cell_idx (m ((c : Thread nD τ).loc main_arg0)) _ _ _ ?_ ?_
  · show win0_0.index t 0 * 1024 + 1 * (j 0).val = _; rw [e0, Nat.one_mul]
  · show win0_0.index t 1 * 1024 + 1 * (j 1).val = _; rw [e1]; omega

theorem block_right (c : Dev nD) (t : Fin cfg0.N) (j : S1024x1024.Idx) :
    (iblk m c 1 t : Vec Ideal S1024x1024 .bf16) j = cell (m ((c : Thread nD τ).loc main_arg1)) (j 0).val (j 1).val := by
  obtain ⟨-, -, e0, e1, -⟩ := block_index t
  unfold iblk
  rw [View.read_apply]
  refine cell_idx (m ((c : Thread nD τ).loc main_arg1)) _ _ _ ?_ ?_
  · show win0_1.index t 0 * 1024 + 1 * (j 0).val = _; rw [e0]; omega
  · show win0_1.index t 1 * 1024 + 1 * (j 1).val = _; rw [e1]; omega

theorem block_added (c : Dev nD) (t : Fin cfg0.N) (j : S1024x1024.Idx) :
    (iblk m c 2 t : Vec Ideal S1024x1024 .f32) j = cell (m ((c : Thread nD τ).loc main_arg2)) (t.val * 1024 + (j 0).val) (j 1).val := by
  obtain ⟨-, -, -, -, e0, e1, -⟩ := block_index t
  unfold iblk
  rw [View.read_apply]
  refine cell_idx (m ((c : Thread nD τ).loc main_arg2)) _ _ _ ?_ ?_
  · show win0_2.index t 0 * 1024 + 1 * (j 0).val = _; rw [e0, Nat.one_mul]
  · show win0_2.index t 1 * 1024 + 1 * (j 1).val = _; rw [e1]; omega

/-- The result array: the product of the first two arguments, and the third. -/
def result (c : Dev nD) : Buf (Elt Ideal) ((c : Thread nD τ).loc main_v0) := fun i =>
  show EReal from entry (m ((c : Thread nD τ).loc main_arg0)) (m ((c : Thread nD τ).loc main_arg1)) (i 0).val (i 1).val
    + cell (m ((c : Thread nD τ).loc main_arg2)) (i 0).val (i 1).val

theorem out_apply (c : Dev nD) (t : Fin cfg0.N) (y : S1024x1024.Idx) :
    (outsAt0 m c t y : EReal) = entry (m ((c : Thread nD τ).loc main_arg0)) (m ((c : Thread nD τ).loc main_arg1))
      (t.val * 1024 + (y 0).val) (y 1).val + cell (m ((c : Thread nD τ).loc main_arg2)) (t.val * 1024 + (y 0).val) (y 1).val := by
  rw [out_eq]
  unfold k0_pay3 k0_pay2 k0_pay1
  pointwise
  simp only [block_left, block_right, block_added]
  rfl

/-- A point writes back its rows of the result. -/
theorem flushed_eq (c : Dev nD) (t : Fin cfg0.N) :
    (dats m 0 c).flushed 3 t = ((cfg0.win 3).blk t).view.read (Elt Ideal) (result m c) := by
  rw [flushed3]
  obtain ⟨-, -, -, -, -, -, e0, e1⟩ := block_index t
  funext y
  refine (out_apply m c t _).trans ?_
  rw [View.read_apply]
  unfold result
  have h0 : (((cfg0.win 3).blk t).view.emb y 0).val = t.val * 1024 + (y 0).val := by
    show win0_3.index t 0 * 1024 + 1 * (y 0).val = _; rw [e0, Nat.one_mul]
  have h1 : ((cfg0.win 3).blk t).view.emb y 1 = y 1 := Fin.ext (by
    show win0_3.index t 1 * 1024 + 1 * (y 1).val = _; rw [e1]; omega)
  rw [h0, h1]
  rfl

/-- The rows of all points make up the array. -/
theorem final_result (c : Dev nD) : (dats m 0 c).arrAt 3 cfg0.N = result m c :=
  (dats m 0 c).arrAt_eq_of_cover 3 (result m c) (fun t _ => flushed_eq m c t) fun i => by
    have h0 : (i 0).val < 4096 := (i 0).isLt
    have h1 : (i 1).val < 1024 := (i 1).isLt
    have hN : cfg0.N = 4 := N_0
    obtain ⟨t, ht⟩ : ∃ t : Fin cfg0.N, t.val = (i 0).val / 1024 := ⟨⟨_, by omega⟩, rfl⟩
    obtain ⟨-, -, -, -, -, -, e0, e1⟩ := block_index t
    refine ⟨t, flush0_3 t, ?_⟩
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024; omega
    | ⟨1, _⟩ => show win0_3.index t 1 * 1024 ≤ (i 1).val ∧ (i 1).val < win0_3.index t 1 * 1024 + 1024; omega

end AtIdeal

end Cert.Kernel22Ideal.Value

namespace Cert.Fwd

/-- The recurrent mixer's output product, with the residual added, is the plain one. -/
theorem dn_out : algebraic_Kernel22Ideal_Reference22Ideal := by
  intro m g m' g' _ hagree
  refine ⟨fun c => Kernel22Ideal.Value.result m c, (θ_run _ _ _).mono
    (fun r h c => ⟨(h c).1.trans (Kernel22Ideal.Value.final_result m c), (h c).2⟩) (Kernel22Ideal.Value.run_blocks m g), ?_⟩
  refine (θ_run _ _ _).mono (fun r h c => ⟨(h c).1.trans ?_, (h c).2⟩) (Reference22Ideal.Value.run m' g')
  obtain ⟨e0, e1, e2⟩ := hagree c
  rw [e0, e1, e2]
  funext i
  unfold Kernel22Ideal.Value.result
  pointwise
  rw [add_comm]
  exact congrArg₂ (· + ·)
    (entry_ix2 (m (c.tc.loc Kernel22Ideal.main_arg0)) (m (c.tc.loc Kernel22Ideal.main_arg1)) (i 0) (i 1)).symm
    (Cert.Ffn.cell_idx (m (c.tc.loc Kernel22Ideal.main_arg2)) i _ _ rfl rfl)

end Cert.Fwd

end
-- ==== Proof.Fwd.AttnOut.lean ====
module

public import proofs.«01_k».proof.Defs
public import proofs.«01_k».proof.Proof.Fwd.Product
public import proofs.«01_k».proof.Proof.Gen.Kernel23Ideal.Value
public import proofs.«01_k».proof.Proof.Gen.Reference23Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Kernel23Ideal.Value

open Cert.Kernel23Ideal Cert.Kernel23Ideal.Gen Cert.Ffn Cert.Fwd

variable {F : FTy → Type} [FloatOps F]
variable (m : (ℓ : Loc nD τ sig) → Buf (Elt F) ℓ)

theorem hz : (![0, 0] : Fin 2 → Nat) = fun _ => 0 := funext fun a => by fin_cases a <;> rfl

/-- A point's output block: the block product on a cleared scratch, with the point's block of the added array. -/
theorem out_eq (c : Dev nD) (t : Fin cfg0.N) :
    outsAt0 m c t = k0_pay3 (k0_pay2 (k0_pay1 (F := F)) (iblk m c 0 t) (iblk m c 1 t)) (iblk m c 2 t) := by
  unfold outsAt0 out0_A_3
  rw [View.read_writes_eq_canon _ _ _ (fun y => cover0_A_3 (y := y) ..)]
  unfold kernelRun0_A
  dsimp only
  sl_unfold_words
  rw [View.canon_unit_zero hz, View.readCov_cons_toLoadRect]
  simp only [View.readCov_unit_zero (S := S1024x1024) _ hz, View.readAt_eq_ld, (hs0_0 t).read_unread, (hs0_1 t).read_unread,
    (hs0_2 t).read_unread, View.ld_unit_zero (S := S1024x1024) hz]

/-! ## Over the extended reals -/

section AtIdeal

variable (m : (ℓ : Loc nD τ sig) → Buf (Elt Ideal) ℓ)

/-- The grid's blocks: each point has its rows of the left operand, of the added array and of the output, and the whole
    right operand. -/
theorem block_index : ∀ t : Fin cfg0.N, win0_0.index t 0 = t.val ∧ win0_0.index t 1 = 0
    ∧ win0_1.index t 0 = 0 ∧ win0_1.index t 1 = 0 ∧ win0_2.index t 0 = t.val ∧ win0_2.index t 1 = 0
    ∧ win0_3.index t 0 = t.val ∧ win0_3.index t 1 = 0 :=
  (by decide +kernel : ∀ t : Fin grid0.N, _)

theorem block_left (c : Dev nD) (t : Fin cfg0.N) (j : S1024x1024.Idx) :
    (iblk m c 0 t : Vec Ideal S1024x1024 .f32) j = cell (m ((c : Thread nD τ).loc main_arg0)) (t.val * 1024 + (j 0).val) (j 1).val := by
  obtain ⟨e0, e1, -⟩ := block_index t
  unfold iblk
  rw [View.read_apply]
  refine cell_idx (m ((c : Thread nD τ).loc main_arg0)) _ _ _ ?_ ?_
  · show win0_0.index t 0 * 1024 + 1 * (j 0).val = _; rw [e0, Nat.one_mul]
  · show win0_0.index t 1 * 1024 + 1 * (j 1).val = _; rw [e1]; omega

theorem block_right (c : Dev nD) (t : Fin cfg0.N) (j : S1024x1024.Idx) :
    (iblk m c 1 t : Vec Ideal S1024x1024 .bf16) j = cell (m ((c : Thread nD τ).loc main_arg1)) (j 0).val (j 1).val := by
  obtain ⟨-, -, e0, e1, -⟩ := block_index t
  unfold iblk
  rw [View.read_apply]
  refine cell_idx (m ((c : Thread nD τ).loc main_arg1)) _ _ _ ?_ ?_
  · show win0_1.index t 0 * 1024 + 1 * (j 0).val = _; rw [e0]; omega
  · show win0_1.index t 1 * 1024 + 1 * (j 1).val = _; rw [e1]; omega

theorem block_added (c : Dev nD) (t : Fin cfg0.N) (j : S1024x1024.Idx) :
    (iblk m c 2 t : Vec Ideal S1024x1024 .f32) j = cell (m ((c : Thread nD τ).loc main_arg2)) (t.val * 1024 + (j 0).val) (j 1).val := by
  obtain ⟨-, -, -, -, e0, e1, -⟩ := block_index t
  unfold iblk
  rw [View.read_apply]
  refine cell_idx (m ((c : Thread nD τ).loc main_arg2)) _ _ _ ?_ ?_
  · show win0_2.index t 0 * 1024 + 1 * (j 0).val = _; rw [e0, Nat.one_mul]
  · show win0_2.index t 1 * 1024 + 1 * (j 1).val = _; rw [e1]; omega

/-- The result array: the product of the first two arguments, and the third. -/
def result (c : Dev nD) : Buf (Elt Ideal) ((c : Thread nD τ).loc main_v0) := fun i =>
  show EReal from entry (m ((c : Thread nD τ).loc main_arg0)) (m ((c : Thread nD τ).loc main_arg1)) (i 0).val (i 1).val
    + cell (m ((c : Thread nD τ).loc main_arg2)) (i 0).val (i 1).val

theorem out_apply (c : Dev nD) (t : Fin cfg0.N) (y : S1024x1024.Idx) :
    (outsAt0 m c t y : EReal) = entry (m ((c : Thread nD τ).loc main_arg0)) (m ((c : Thread nD τ).loc main_arg1))
      (t.val * 1024 + (y 0).val) (y 1).val + cell (m ((c : Thread nD τ).loc main_arg2)) (t.val * 1024 + (y 0).val) (y 1).val := by
  rw [out_eq]
  unfold k0_pay3 k0_pay2 k0_pay1
  pointwise
  simp only [block_left, block_right, block_added]
  rfl

/-- A point writes back its rows of the result. -/
theorem flushed_eq (c : Dev nD) (t : Fin cfg0.N) :
    (dats m 0 c).flushed 3 t = ((cfg0.win 3).blk t).view.read (Elt Ideal) (result m c) := by
  rw [flushed3]
  obtain ⟨-, -, -, -, -, -, e0, e1⟩ := block_index t
  funext y
  refine (out_apply m c t _).trans ?_
  rw [View.read_apply]
  unfold result
  have h0 : (((cfg0.win 3).blk t).view.emb y 0).val = t.val * 1024 + (y 0).val := by
    show win0_3.index t 0 * 1024 + 1 * (y 0).val = _; rw [e0, Nat.one_mul]
  have h1 : ((cfg0.win 3).blk t).view.emb y 1 = y 1 := Fin.ext (by
    show win0_3.index t 1 * 1024 + 1 * (y 1).val = _; rw [e1]; omega)
  rw [h0, h1]
  rfl

/-- The rows of all points make up the array. -/
theorem final_result (c : Dev nD) : (dats m 0 c).arrAt 3 cfg0.N = result m c :=
  (dats m 0 c).arrAt_eq_of_cover 3 (result m c) (fun t _ => flushed_eq m c t) fun i => by
    have h0 : (i 0).val < 4096 := (i 0).isLt
    have h1 : (i 1).val < 1024 := (i 1).isLt
    have hN : cfg0.N = 4 := N_0
    obtain ⟨t, ht⟩ : ∃ t : Fin cfg0.N, t.val = (i 0).val / 1024 := ⟨⟨_, by omega⟩, rfl⟩
    obtain ⟨-, -, -, -, -, -, e0, e1⟩ := block_index t
    refine ⟨t, flush0_3 t, ?_⟩
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024; omega
    | ⟨1, _⟩ => show win0_3.index t 1 * 1024 ≤ (i 1).val ∧ (i 1).val < win0_3.index t 1 * 1024 + 1024; omega

end AtIdeal

end Cert.Kernel23Ideal.Value

namespace Cert.Fwd

/-- The attention mixers' output product, with the residual added, is the plain one. -/
theorem attn_out : algebraic_Kernel23Ideal_Reference23Ideal := by
  intro m g m' g' _ hagree
  refine ⟨fun c => Kernel23Ideal.Value.result m c, (θ_run _ _ _).mono
    (fun r h c => ⟨(h c).1.trans (Kernel23Ideal.Value.final_result m c), (h c).2⟩) (Kernel23Ideal.Value.run_blocks m g), ?_⟩
  refine (θ_run _ _ _).mono (fun r h c => ⟨(h c).1.trans ?_, (h c).2⟩) (Reference23Ideal.Value.run m' g')
  obtain ⟨e0, e1, e2⟩ := hagree c
  rw [e0, e1, e2]
  funext i
  unfold Kernel23Ideal.Value.result
  pointwise
  rw [add_comm]
  exact congrArg₂ (· + ·)
    (entry_ix2 (m (c.tc.loc Kernel23Ideal.main_arg0)) (m (c.tc.loc Kernel23Ideal.main_arg1)) (i 0) (i 1)).symm
    (Cert.Ffn.cell_idx (m (c.tc.loc Kernel23Ideal.main_arg2)) i _ _ rfl rfl)

end Cert.Fwd

end
-- ==== Proof.Conv.Fwd.lean ====
module

public import proofs.«01_k».proof.Defs
public import proofs.«01_k».proof.Proof.Ffn.Sums
public import proofs.«01_k».proof.Proof.Conv.Shift
public import proofs.«01_k».proof.Proof.Conv.Plain
public import proofs.«01_k».proof.Proof.Gen.Kernel24Ideal.Value
public import proofs.«01_k».proof.Proof.Gen.Reference24Ideal.Run
public import Idealize.ShloMosaic.Lib.StableHlo.Run
public import Idealize.ShloMosaic.Lib.Tactic
public import Idealize.ShloMosaic.Lib.Pointwise

@[expose] public section

noncomputable section

open Idealize.ShloMosaic Idealize.ShloMosaic.TcCoe Idealize.ShloMosaic.ValueIdx Idealize.SL.Sem

namespace Cert.Fwd

open Cert.Ffn

/-- The convolution's entry: the row and the three rows before it, each through its weight. -/
def convAt {a b b' : ℕ} (X : (⟨2, ![a, b']⟩ : Shape).Idx → EReal) (W : (⟨2, ![8, b]⟩ : Shape).Idx → EReal) (r s : ℕ) : EReal :=
  cell X r s * cell W 3 s + lagged X 1 r s * cell W 2 s + lagged X 2 r s * cell W 1 s + lagged X 3 r s * cell W 0 s

section Plain

open Cert.Reference24Ideal Cert.Reference24Ideal.Gen

variable (X : FVec Ideal S4096x4224 .f32) (W : FVec Ideal S8x3072 .f32)

/-- The plain convolution. -/
def plainConv : FVec Ideal S4096x3072 .f32 :=
  addf (addf (addf (mulf (extractStridedSlice S4096x3072 ![0, 0] (withZeros X) slices_S4099x3072_S4096x3072_0_0) (broadcastInDim S4096x3072 ![0, 1] bcast_S1x3072_S4096x3072_0_1 (extractStridedSlice S1x3072 ![0, 0] W slices_S8x3072_S1x3072_0_0))) (mulf (extractStridedSlice S4096x3072 ![1, 0] (withZeros X) slices_S4099x3072_S4096x3072_1_0) (broadcastInDim S4096x3072 ![0, 1] bcast_S1x3072_S4096x3072_0_1 (extractStridedSlice S1x3072 ![1, 0] W slices_S8x3072_S1x3072_1_0)))) (mulf (extractStridedSlice S4096x3072 ![2, 0] (withZeros X) slices_S4099x3072_S4096x3072_2_0) (broadcastInDim S4096x3072 ![0, 1] bcast_S1x3072_S4096x3072_0_1 (extractStridedSlice S1x3072 ![2, 0] W slices_S8x3072_S1x3072_2_0)))) (mulf (extractStridedSlice S4096x3072 ![3, 0] (withZeros X) slices_S4099x3072_S4096x3072_3_0) (broadcastInDim S4096x3072 ![0, 1] bcast_S1x3072_S4096x3072_0_1 (extractStridedSlice S1x3072 ![3, 0] W slices_S8x3072_S1x3072_3_0)))

theorem plainConv_apply (i : S4096x3072.Idx) : (plainConv X W i : EReal) = convAt X W (i 0).val (i 1).val := by
  have hi : (i 0).val < 4096 := (i 0).isLt
  have term (k : ℕ) (hk : k < 4) (j : S4099x3072.Idx) (l : S8x3072.Idx) (hj : (j 0).val = k + (i 0).val)
      (hj' : j 1 = i 1) (hl : (l 0).val = k) (hl' : (l 1).val = (i 1).val) :
      (withZeros X j * W l : EReal) = lagged X (3 - k) (i 0).val (i 1).val * cell W k (i 1).val := by
    refine congrArg₂ (· * ·) (Eq.trans (congrArg (withZeros X) ?_)
      (withZeros_apply X k hk (i 0) (by omega) (i 1))) (cell_idx W l _ _ hl hl')
    funext a
    match a with
    | ⟨0, _⟩ => exact Fin.ext hj
    | ⟨1, _⟩ => exact hj'
  unfold plainConv
  pointwise
  refine Eq.trans (congrArg₂ (· + ·) (congrArg₂ (· + ·) (congrArg₂ (· + ·) (term 0 (by decide) _ _ ?_ ?_ ?_ ?_)
    (term 1 (by decide) _ _ ?_ ?_ ?_ ?_)) (term 2 (by decide) _ _ ?_ ?_ ?_ ?_)) (term 3 (by decide) _ _ ?_ ?_ ?_ ?_)) ?_
  rotate_right
  · unfold convAt
    rw [show lagged X 0 (i 0).val (i 1).val = cell X (i 0).val (i 1).val from if_pos (Nat.zero_le _)]
    ac_rfl
  all_goals first | rfl | simp

end Plain

end Cert.Fwd

namespace Cert.Kernel24Ideal.Value

open Cert.Kernel24Ideal Cert.Kernel24Ideal.Gen Cert.Ffn Cert.Fwd

theorem hz : (![0, 0] : Fin 2 → Nat) = fun _ => 0 := funext fun a => by fin_cases a <;> rfl

section Body

variable {F : FTy → Type} [FloatOps F]
variable (m : (ℓ : Loc nD τ sig) → Buf (Elt F) ℓ)

theorem out_eq (c : Dev nD) (t : Fin cfg0.N) :
    outsAt0 m c t = k0_pay1 (k0_pay3 (grid0.coords t) (X0_0 m c t) (X0_1 m c t)
        (View.ld (S := S8x1024) (iblk m c 2 t) (Rect.unit (s := S8x1024) ![3, 0] S1x1024.size inb_S8x1024_S1x1024_3_0))
        (View.ld (S := S8x1024) (iblk m c 2 t) (Rect.unit (s := S8x1024) ![2, 0] S1x1024.size inb_S8x1024_S1x1024_2_0))
        (View.ld (S := S8x1024) (iblk m c 2 t) (Rect.unit (s := S8x1024) ![1, 0] S1x1024.size inb_S8x1024_S1x1024_1_0)))
      (k0_pay4 (X0_0 m c t)) (k0_pay5 (grid0.coords t) (X0_1 m c t)) (iota .tc S8x1024 32 [0] iota_S8x1024_d0_w32) 3#32
      (View.ld (S := S8x1024) (iblk m c 2 t) (Rect.unit (s := S8x1024) ![0, 0] S1x1024.size inb_S8x1024_S1x1024_0_0)) := by
  unfold outsAt0 out0_A_3
  rw [View.read_writes_eq_canon _ _ _ (fun y => cover0_A_3 (y := y) ..)]
  unfold kernelRun0_A
  dsimp only
  sl_unfold_words
  rw [View.canon_unit_zero hz]
  simp only [View.readAt_eq_ld, (hs0_0 t).read_unread, (hs0_1 t).read_unread, (hs0_2 t).read_unread,
    View.ld_unit_zero (S := S256x1024) hz, View.ld_unit_zero (S := S8x1024) hz]

end Body

/-! ## Over the extended reals -/

section AtIdeal

variable (m : (ℓ : Loc nD τ sig) → Buf (Elt Ideal) ℓ)

/-- The grid's blocks: a point's row block is its quotient by 3, its column block the remainder. -/
theorem block_rows : ∀ t : Fin cfg0.N, (win0_0.index t 0 = t.val / 3 ∧ win0_0.index t 1 = t.val % 3)
    ∧ (win0_1.index t 0 = t.val / 3 * 32 - 1 ∧ win0_1.index t 1 = t.val % 3)
    ∧ (win0_2.index t 0 = 0 ∧ win0_2.index t 1 = t.val % 3)
    ∧ (win0_3.index t 0 = t.val / 3 ∧ win0_3.index t 1 = t.val % 3) :=
  (by decide +kernel : ∀ t : Fin grid0.N, _)

/-- The guard: the first row block has nothing before it. -/
theorem guard : ∀ t : Fin cfg0.N,
    Scalar.cmpi .sgt (BitVec.ofNat 32 (grid0.coords t 0).val) 0#32 = (if t.val / 3 = 0 then 0#1 else 1#1) :=
  (by decide +kernel : ∀ t : Fin grid0.N, _)

theorem block_x (c : Dev nD) (t : Fin cfg0.N) (j : S256x1024.Idx) :
    (X0_0 m c t : Vec Ideal S256x1024 .f32) j
      = cell (m ((c : Thread nD τ).loc main_arg0)) (t.val / 3 * 256 + (j 0).val) (t.val % 3 * 1024 + (j 1).val) := by
  obtain ⟨e0, e1⟩ := (block_rows t).1
  unfold X0_0 Pipeline.Window.fill
  rw [dif_pos (moved0_0 t j)]
  unfold iblk
  rw [View.read_apply]
  refine cell_idx (m ((c : Thread nD τ).loc main_arg0)) _ _ _ ?_ ?_
  · show win0_0.index t 0 * 256 + 1 * (j 0).val = _; rw [e0]; omega
  · show win0_0.index t 1 * 1024 + 1 * (j 1).val = _; rw [e1]; omega

theorem block_before (c : Dev nD) (t : Fin cfg0.N) (j : S8x1024.Idx) :
    (X0_1 m c t : Vec Ideal S8x1024 .f32) j
      = cell (m ((c : Thread nD τ).loc main_arg0)) ((t.val / 3 * 32 - 1) * 8 + (j 0).val) (t.val % 3 * 1024 + (j 1).val) := by
  obtain ⟨e0, e1⟩ := (block_rows t).2.1
  unfold X0_1 Pipeline.Window.fill
  rw [dif_pos (moved0_1 t j)]
  unfold iblk
  rw [View.read_apply]
  refine cell_idx (m ((c : Thread nD τ).loc main_arg0)) _ _ _ ?_ ?_
  · show win0_1.index t 0 * 8 + 1 * (j 0).val = _; rw [e0]; omega
  · show win0_1.index t 1 * 1024 + 1 * (j 1).val = _; rw [e1]; omega

theorem block_w (c : Dev nD) (t : Fin cfg0.N) (j : S8x1024.Idx) :
    (iblk m c 2 t : Vec Ideal S8x1024 .f32) j
      = cell (m ((c : Thread nD τ).loc main_arg1)) (j 0).val (t.val % 3 * 1024 + (j 1).val) := by
  obtain ⟨e0, e1⟩ := (block_rows t).2.2.1
  unfold iblk
  rw [View.read_apply]
  refine cell_idx (m ((c : Thread nD τ).loc main_arg1)) _ _ _ ?_ ?_
  · show win0_2.index t 0 * 8 + 1 * (j 0).val = _; rw [e0]; omega
  · show win0_2.index t 1 * 1024 + 1 * (j 1).val = _; rw [e1]; omega

/-- The block's rows moved down by a shift. -/
def moved (c : Dev nD) (t : Fin cfg0.N) (s : BitVec 32) : FVec Ideal S256x1024 .f32 :=
  Cert.Kernel14Ideal.Value.down (X0_0 m c t) (k0_pay2 (grid0.coords t) (X0_1 m c t)) s

/-- The rows moved down are the array's earlier rows, zero before its start. -/
theorem moved_down (c : Dev nD) (t : Fin cfg0.N) (s : ℕ) (hs : s = 1 ∨ s = 2 ∨ s = 3) (y : S256x1024.Idx) :
    (moved m c t (BitVec.ofNat 32 s) y : EReal)
      = lagged (m ((c : Thread nD τ).loc main_arg0)) s (t.val / 3 * 256 + (y 0).val) (t.val % 3 * 1024 + (y 1).val) := by
  have hy0 : (y 0).val < 256 := (y 0).isLt
  have hy1 : (y 1).val < 1024 := (y 1).isLt
  unfold moved
  rw [Cert.Kernel14Ideal.Value.down_apply _ _ s hs]
  unfold lagged
  by_cases h : s ≤ (y 0).val
  · rw [if_pos h, if_pos (by omega)]
    conv_lhs => unfold cell
    rw [dif_pos ⟨by omega, hy1⟩]
    refine (block_x m c t _).trans ?_
    show cell _ (t.val / 3 * 256 + ((y 0).val - s)) (t.val % 3 * 1024 + (y 1).val) = _
    rw [show t.val / 3 * 256 + ((y 0).val - s) = t.val / 3 * 256 + (y 0).val - s by omega]
  · rw [if_neg h]
    conv_lhs => unfold cell
    rw [dif_pos ⟨by omega, hy1⟩]
    unfold k0_pay2
    dsimp only
    rw [guard t, Scalar.select]
    by_cases e : t.val / 3 = 0
    · rw [if_pos e, if_neg (by decide), if_neg (by omega)]
      pointwise
    · rw [if_neg e, if_pos (by decide), if_pos (by omega)]
      refine (block_before m c t _).trans ?_
      show cell _ ((t.val / 3 * 32 - 1) * 8 + ((y 0).val + 8 - s)) (t.val % 3 * 1024 + (y 1).val) = _
      rw [show (t.val / 3 * 32 - 1) * 8 + ((y 0).val + 8 - s) = t.val / 3 * 256 + (y 0).val - s by omega]

theorem out_apply (c : Dev nD) (t : Fin cfg0.N) (y : S256x1024.Idx) :
    (outsAt0 m c t y : EReal) = convAt (m ((c : Thread nD τ).loc main_arg0)) (m ((c : Thread nD τ).loc main_arg1))
      (t.val / 3 * 256 + (y 0).val) (t.val % 3 * 1024 + (y 1).val) := by
  rw [out_eq]
  show ((addf (addf (addf (mulf (X0_0 m c t : FVec Ideal S256x1024 .f32) (broadcastTo S256x1024 _ broadcasts_S1x1024_S256x1024))
    (mulf (moved m c t (BitVec.ofNat 32 1)) (broadcastTo S256x1024 _ broadcasts_S1x1024_S256x1024)))
    (mulf (moved m c t (BitVec.ofNat 32 2)) (broadcastTo S256x1024 _ broadcasts_S1x1024_S256x1024)))
    (mulf (moved m c t (BitVec.ofNat 32 3)) (broadcastTo S256x1024 _ broadcasts_S1x1024_S256x1024))
      : FVec Ideal S256x1024 .f32) y : EReal) = _
  simp only [View.ld_unit]
  pointwise
  unfold convAt
  exact congrArg₂ (· + ·) (congrArg₂ (· + ·) (congrArg₂ (· + ·)
    (congrArg₂ (· * ·) (block_x m c t y) (block_w m c t _))
    (congrArg₂ (· * ·) (moved_down m c t 1 (by decide) y) (block_w m c t _)))
    (congrArg₂ (· * ·) (moved_down m c t 2 (by decide) y) (block_w m c t _)))
    (congrArg₂ (· * ·) (moved_down m c t 3 (by decide) y) (block_w m c t _))

/-- The convolution's array. -/
def result (c : Dev nD) : Buf (Elt Ideal) ((c : Thread nD τ).loc main_v0) := fun i =>
  show EReal from convAt (m ((c : Thread nD τ).loc main_arg0)) (m ((c : Thread nD τ).loc main_arg1)) (i 0).val (i 1).val

/-- A point writes back its block of the result. -/
theorem flushed_eq (c : Dev nD) (t : Fin cfg0.N) :
    (dats m 0 c).flushed 3 t = ((cfg0.win 3).blk t).view.read (Elt Ideal) (result m c) := by
  rw [flushed3]
  obtain ⟨e0, e1⟩ := (block_rows t).2.2.2
  funext y
  refine (out_apply m c t _).trans ?_
  rw [View.read_apply]
  unfold result
  have h0 : (((cfg0.win 3).blk t).view.emb y 0).val = t.val / 3 * 256 + (y 0).val := by
    show win0_3.index t 0 * 256 + 1 * (y 0).val = _; rw [e0, Nat.one_mul]
  have h1 : (((cfg0.win 3).blk t).view.emb y 1).val = t.val % 3 * 1024 + (y 1).val := by
    show win0_3.index t 1 * 1024 + 1 * (y 1).val = _; rw [e1, Nat.one_mul]
  rw [h0, h1]
  rfl

/-- The blocks of all points make up the array. -/
theorem final_result (c : Dev nD) : (dats m 0 c).arrAt 3 cfg0.N = result m c :=
  (dats m 0 c).arrAt_eq_of_cover 3 (result m c) (fun t _ => flushed_eq m c t) fun i => by
    have h0 : (i 0).val < 4096 := (i 0).isLt
    have h1 : (i 1).val < 3072 := (i 1).isLt
    have hN : cfg0.N = 48 := N_0
    obtain ⟨t, ht⟩ : ∃ t : Fin cfg0.N, t.val = (i 0).val / 256 * 3 + (i 1).val / 1024 := ⟨⟨_, by omega⟩, rfl⟩
    obtain ⟨e0, e1⟩ := (block_rows t).2.2.2
    refine ⟨t, flush0_3 t, ?_⟩
    show i ∈ ((View.whole main_v0).slice (win0_3.rect t)).set
    rw [View.set_slice_whole, Rect.mem_set_unit]
    intro a
    match a with
    | ⟨0, _⟩ => show win0_3.index t 0 * 256 ≤ (i 0).val ∧ (i 0).val < win0_3.index t 0 * 256 + 256; omega
    | ⟨1, _⟩ => show win0_3.index t 1 * 1024 ≤ (i 1).val ∧ (i 1).val < win0_3.index t 1 * 1024 + 1024; omega

end AtIdeal

end Cert.Kernel24Ideal.Value

namespace Cert.Fwd

/-- The convolution is the plain one. -/
theorem conv : algebraic_Kernel24Ideal_Reference24Ideal := by
  intro m g m' g' _ hagree
  refine ⟨fun c => Kernel24Ideal.Value.result m c, (θ_run _ _ _).mono
    (fun r h c => ⟨(h c).1.trans (Kernel24Ideal.Value.final_result m c), (h c).2⟩) (Kernel24Ideal.Value.run_blocks m g), ?_⟩
  refine (θ_run _ _ _).mono (fun r h c => ⟨(h c).1.trans ?_, (h c).2⟩) (Reference24Ideal.Value.run m' g')
  obtain ⟨e0, e1⟩ := hagree c
  rw [e0, e1]
  exact funext fun i => plainConv_apply (m (c.tc.loc Kernel24Ideal.main_arg0)) (m (c.tc.loc Kernel24Ideal.main_arg1)) i

end Cert.Fwd

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Mla.Same
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Ffn.DownDx
public import proofs.«01_k».proof.Proof.Ffn.DownDw
public import proofs.«01_k».proof.Proof.Ffn.GuDx
public import proofs.«01_k».proof.Proof.Ffn.GuDw
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gate.Act
public import proofs.«01_k».proof.Proof.Gate.Norm
public import proofs.«01_k».proof.Proof.Mix.DnInDx
public import proofs.«01_k».proof.Proof.Mix.DnInDw
public import proofs.«01_k».proof.Proof.Mix.QkvDx
public import proofs.«01_k».proof.Proof.Mix.QkvDw
public import proofs.«01_k».proof.Proof.Mix.OutDx
public import proofs.«01_k».proof.Proof.Mix.OutDw
public import proofs.«01_k».proof.Proof.Conv.Bwd
public import proofs.«01_k».proof.Proof.Fwd.GateUp
public import proofs.«01_k».proof.Proof.Fwd.Down
public import proofs.«01_k».proof.Proof.Mix.AttnOutDw
public import proofs.«01_k».proof.Proof.Fwd.DnIn
public import proofs.«01_k».proof.Proof.Fwd.Qkv
public import proofs.«01_k».proof.Proof.Fwd.Norm
public import proofs.«01_k».proof.Proof.Fwd.Act
public import proofs.«01_k».proof.Proof.Fwd.DnOut
public import proofs.«01_k».proof.Proof.Fwd.AttnOut
public import proofs.«01_k».proof.Proof.Conv.Fwd
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem frame_kernelIdeal : Cert.quiescent_KernelIdeal :=
  fun m ρ _ => Cert.KernelIdeal.Mla.run_args (F := Ideal) m ρ

/-- The reference is a line of host operations, none of which writes an argument. -/
theorem frame_referenceIdeal : Cert.quiescent_ReferenceIdeal := by
  intro m ρ hpre
  hlo_run
  · exact fun _ => ⟨trivial, trivial, trivial, trivial, trivial, trivial⟩
  · refine Idealize.ShloMosaic.sem_eq_zero_of_no_sems ?_ _
    decide

theorem frame_reference2 : Cert.quiescent_Reference2Ideal := by
  intro m ρ hpre
  hlo_run
  · exact fun _ => ⟨trivial, trivial, trivial⟩
  · refine Idealize.ShloMosaic.sem_eq_zero_of_no_sems ?_ _
    decide

theorem frame_reference3 : Cert.quiescent_Reference3Ideal := by
  intro m ρ hpre
  hlo_run
  · exact fun _ => ⟨trivial, trivial, trivial⟩
  · refine Idealize.ShloMosaic.sem_eq_zero_of_no_sems ?_ _
    decide

theorem frame_reference4 : Cert.quiescent_Reference4Ideal := by
  intro m ρ hpre
  hlo_run
  · exact fun _ => ⟨trivial, trivial, trivial⟩
  · refine Idealize.ShloMosaic.sem_eq_zero_of_no_sems ?_ _
    decide

theorem frame_reference5 : Cert.quiescent_Reference5Ideal := by
  intro m ρ hpre
  hlo_run
  · exact fun _ => ⟨trivial, trivial, trivial⟩
  · refine Idealize.ShloMosaic.sem_eq_zero_of_no_sems ?_ _
    decide

theorem frame_reference6 : Cert.quiescent_Reference6Ideal := by
  intro m ρ hpre
  hlo_run
  · exact fun _ => ⟨trivial, trivial⟩
  · refine Idealize.ShloMosaic.sem_eq_zero_of_no_sems ?_ _
    decide

theorem frame_reference7 : Cert.quiescent_Reference7Ideal := by
  intro m ρ hpre
  hlo_run
  · exact fun _ => ⟨trivial, trivial, trivial, trivial⟩
  · refine Idealize.ShloMosaic.sem_eq_zero_of_no_sems ?_ _
    decide

theorem frame_reference8 : Cert.quiescent_Reference8Ideal := by
  intro m ρ hpre
  hlo_run
  · exact fun _ => ⟨trivial, trivial, trivial⟩
  · refine Idealize.ShloMosaic.sem_eq_zero_of_no_sems ?_ _
    decide

theorem frame_reference9 : Cert.quiescent_Reference9Ideal := by
  intro m ρ hpre
  hlo_run
  · exact fun _ => ⟨trivial, trivial, trivial⟩
  · refine Idealize.ShloMosaic.sem_eq_zero_of_no_sems ?_ _
    decide

theorem frame_reference10 : Cert.quiescent_Reference10Ideal := by
  intro m ρ hpre
  hlo_run
  · exact fun _ => ⟨trivial, trivial, trivial⟩
  · refine Idealize.ShloMosaic.sem_eq_zero_of_no_sems ?_ _
    decide

theorem frame_reference11 : Cert.quiescent_Reference11Ideal := by
  intro m ρ hpre
  hlo_run
  · exact fun _ => ⟨trivial, trivial, trivial⟩
  · refine Idealize.ShloMosaic.sem_eq_zero_of_no_sems ?_ _
    decide

theorem frame_reference12 : Cert.quiescent_Reference12Ideal := by
  intro m ρ hpre
  hlo_run
  · exact fun _ => ⟨trivial, trivial, trivial⟩
  · refine Idealize.ShloMosaic.sem_eq_zero_of_no_sems ?_ _
    decide

theorem frame_reference13 : Cert.quiescent_Reference13Ideal := by
  intro m ρ hpre
  hlo_run
  · exact fun _ => ⟨trivial, trivial, trivial⟩
  · refine Idealize.ShloMosaic.sem_eq_zero_of_no_sems ?_ _
    decide

theorem frame_reference14 : Cert.quiescent_Reference14Ideal := by
  intro m ρ hpre
  hlo_run
  · exact fun _ => ⟨trivial, trivial, trivial⟩
  · refine Idealize.ShloMosaic.sem_eq_zero_of_no_sems ?_ _
    decide

theorem frame_reference15 : Cert.quiescent_Reference15Ideal := by
  intro m ρ hpre
  hlo_run
  · exact fun _ => ⟨trivial, trivial⟩
  · refine Idealize.ShloMosaic.sem_eq_zero_of_no_sems ?_ _
    decide

theorem frame_reference16 : Cert.quiescent_Reference16Ideal := by
  intro m ρ hpre
  hlo_run
  · exact fun _ => ⟨trivial, trivial, trivial⟩
  · refine Idealize.ShloMosaic.sem_eq_zero_of_no_sems ?_ _
    decide

theorem frame_reference17 : Cert.quiescent_Reference17Ideal := by
  intro m ρ hpre
  hlo_run
  · exact fun _ => ⟨trivial, trivial, trivial⟩
  · refine Idealize.ShloMosaic.sem_eq_zero_of_no_sems ?_ _
    decide

theorem frame_reference18 : Cert.quiescent_Reference18Ideal := by
  intro m ρ hpre
  hlo_run
  · exact fun _ => ⟨trivial, trivial⟩
  · refine Idealize.ShloMosaic.sem_eq_zero_of_no_sems ?_ _
    decide

theorem frame_reference19 : Cert.quiescent_Reference19Ideal := by
  intro m ρ hpre
  hlo_run
  · exact fun _ => ⟨trivial, trivial⟩
  · refine Idealize.ShloMosaic.sem_eq_zero_of_no_sems ?_ _
    decide

theorem frame_reference20 : Cert.quiescent_Reference20Ideal := by
  intro m ρ hpre
  hlo_run
  · exact fun _ => ⟨trivial, trivial⟩
  · refine Idealize.ShloMosaic.sem_eq_zero_of_no_sems ?_ _
    decide

theorem frame_reference21 : Cert.quiescent_Reference21Ideal := by
  intro m ρ hpre
  hlo_run
  · exact fun _ => trivial
  · refine Idealize.ShloMosaic.sem_eq_zero_of_no_sems ?_ _
    decide

theorem frame_reference22 : Cert.quiescent_Reference22Ideal := by
  intro m ρ hpre
  hlo_run
  · exact fun _ => ⟨trivial, trivial, trivial⟩
  · refine Idealize.ShloMosaic.sem_eq_zero_of_no_sems ?_ _
    decide

theorem frame_reference23 : Cert.quiescent_Reference23Ideal := by
  intro m ρ hpre
  hlo_run
  · exact fun _ => ⟨trivial, trivial, trivial⟩
  · refine Idealize.ShloMosaic.sem_eq_zero_of_no_sems ?_ _
    decide

theorem frame_reference24 : Cert.quiescent_Reference24Ideal := by
  intro m ρ hpre
  hlo_run
  · exact fun _ => ⟨trivial, trivial⟩
  · refine Idealize.ShloMosaic.sem_eq_zero_of_no_sems ?_ _
    decide

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.KernelIdeal.Mla.frame_kernel, frame_kernelIdeal, frame_referenceIdeal,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, frame_reference23,
    fun m ρ _ => Cert.Kernel24.Gen.frame m ρ, fun m ρ _ => Cert.Kernel24Ideal.Gen.frame m ρ, frame_reference24,
    trivial, trivial, Cert.Ffn.down_dx, trivial, Cert.Ffn.down_dw, trivial, Cert.Ffn.gate_up_dx, trivial, Cert.Ffn.gate_up_dw,
    trivial, Cert.Ffn.act_bwd, trivial, Cert.Ffn.norm_bwd, trivial, Cert.Ffn.dn_in_dx, trivial, Cert.Ffn.dn_in_dw,
    trivial, Cert.Ffn.qkv_dx, trivial, Cert.Ffn.qkv_dw, trivial, Cert.Ffn.out_dx, trivial, Cert.Ffn.out_dw,
    trivial, Cert.Ffn.conv_bwd,
    trivial, Cert.Fwd.gate_up, trivial, Cert.Fwd.down, trivial, Cert.Ffn.attn_out_dw, trivial, Cert.Fwd.dn_in, trivial, Cert.Fwd.qkv,
    trivial, Cert.Fwd.norm, trivial, Cert.Fwd.act, trivial, Cert.Fwd.dn_out, trivial, Cert.Fwd.attn_out,
    trivial, Cert.Fwd.conv⟩

end Cert.Proof

end
